-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v74)) (v1 : (c : Dev Cert.Kernel2Ideal.nD) → Buf (Elt Ideal) ((c.tc : Thread Cert.Kernel2Ideal.nD Cert.Kernel2Ideal.τ).loc Cert.Kernel2Ideal.main_v80)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v74) = v0 c
          ∧ r.2.mem ((c.tc : Thread Cert.Kernel2Ideal.nD Cert.Kernel2Ideal.τ).loc Cert.Kernel2Ideal.main_v80) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite2.lean ====
abbrev S8x8192x4x2x64 : Shape := ⟨5, ![8, 8192, 4, 2, 64]⟩
abbrev S8x8192x4x128 : Shape := ⟨4, ![8, 8192, 4, 128]⟩
abbrev S8x8192x2x4x64 : Shape := ⟨5, ![8, 8192, 2, 4, 64]⟩
abbrev S8x8192x2x64 : Shape := ⟨4, ![8, 8192, 2, 64]⟩
abbrev S8x256x4x2x64 : Shape := ⟨5, ![8, 256, 4, 2, 64]⟩
abbrev S8x256x4x128 : Shape := ⟨4, ![8, 256, 4, 128]⟩
abbrev S8x256x2x4x64 : Shape := ⟨5, ![8, 256, 2, 4, 64]⟩
abbrev S8x256x2x64 : Shape := ⟨4, ![8, 256, 2, 64]⟩
abbrev S_ : Shape := ⟨0, ![]⟩

class Facts : Prop where
  bcast_S_S8x8192x4x2x64 : S_.BroadcastsInDim S8x8192x4x2x64 (![] : Fin 0 → Fin S8x8192x4x2x64.rank)
  reducesTo_S8x8192x4x2x64_S_d0_1_2_3_4 : S8x8192x4x2x64.ReducesTo [0, 1, 2, 3, 4] S_
  h_S_ : 0 < S_.numel
  bcast_S_S8x8192x2x4x64 : S_.BroadcastsInDim S8x8192x2x4x64 (![] : Fin 0 → Fin S8x8192x2x4x64.rank)
  reducesTo_S8x8192x2x4x64_S_d0_1_2_3_4 : S8x8192x2x4x64.ReducesTo [0, 1, 2, 3, 4] S_
  bcast_S_S8x8192x2x64 : S_.BroadcastsInDim S8x8192x2x64 (![] : Fin 0 → Fin S8x8192x2x64.rank)
  reducesTo_S8x8192x2x64_S_d0_1_2_3 : S8x8192x2x64.ReducesTo [0, 1, 2, 3] S_
  bcast_S_S8x256x4x2x64 : S_.BroadcastsInDim S8x256x4x2x64 (![] : Fin 0 → Fin S8x256x4x2x64.rank)
  reducesTo_S8x256x4x2x64_S_d0_1_2_3_4 : S8x256x4x2x64.ReducesTo [0, 1, 2, 3, 4] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S8x8192x4x128 : S_.BroadcastsInDim S8x8192x4x128 (![] : Fin 0 → Fin S8x8192x4x128.rank)
  reducesTo_S8x8192x4x128_S_d0_1_2_3 : S8x8192x4x128.ReducesTo [0, 1, 2, 3] S_
  bcast_S_S8x256x4x128 : S_.BroadcastsInDim S8x256x4x128 (![] : Fin 0 → Fin S8x256x4x128.rank)
  reducesTo_S8x256x4x128_S_d0_1_2_3 : S8x256x4x128.ReducesTo [0, 1, 2, 3] S_
  reducesTo_S_S_d : S_.ReducesTo [] S_

variable [Facts]

def fn_part3 {F : FTy → Type} [FloatOps F] (main_arg8 : FVec F S8x256x4x128 .f32) (main_arg12 : FVec F S_ .f32) (main_v47 : IVec S_ 1) (main_v49 : IVec S8x256x4x128 1) : IVec S_ 1 :=
  let main_cst_20 : FVec F S_ .f32 := constant S_ .f32 0x7F800000#32
  let main_v50 : FVec F S8x256x4x128 .f32 := broadcastInDim S8x256x4x128 ![] bcast_S_S8x256x4x128 main_cst_20
  let main_v51 : IVec S8x256x4x128 1 := cmpf .olt main_arg8 main_v50
  let main_v52 : IVec S8x256x4x128 1 := andi main_v49 main_v51
  let main_c_21 : IVec S_ 1 := constantI S_ 1 1#1
  let main_v53 : IVec S_ 1 := (fun x v => Host.reduce IntOp.andi x v reducesTo_S8x256x4x128_S_d0_1_2_3 h_S_) main_v52 main_c_21
  let main_v54 : IVec S_ 1 := andi main_v47 main_v53
  let main_cst_22 : FVec F S_ .f32 := constant S_ .f32 0xFF800000#32
  let main_v55 : IVec S_ 1 := cmpf .ogt main_arg12 main_cst_22
  let main_cst_23 : FVec F S_ .f32 := constant S_ .f32 0x7F800000#32
  let main_v56 : IVec S_ 1 := cmpf .olt main_arg12 main_cst_23
  let main_v57 : IVec S_ 1 := andi main_v55 main_v56
  let main_c_24 : IVec S_ 1 := constantI S_ 1 1#1
  let main_v58 : IVec S_ 1 := (fun x v => Host.reduce IntOp.andi x v reducesTo_S_S_d h_S_) main_v57 main_c_24
  let main_v59 : IVec S_ 1 := andi main_v54 main_v58
  main_v59

def fn_part2 {F : FTy → Type} [FloatOps F] (main_arg2 : FVec F S8x8192x4x128 .f32) (main_arg8 : FVec F S8x256x4x128 .f32) (main_arg10 : FVec F S8x256x2x64 .f32) (main_arg12 : FVec F S_ .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8x256x2x64 .f32 := broadcastInDim S8x256x2x64 ![] bcast_S_S8x256x2x64 main_cst_13
  let main_v35 : IVec S8x256x2x64 1 := cmpf .ogt main_arg10 main_v34
  let main_cst_14 : FVec F S_ .f32 := constant S_ .f32 0x7F800000#32
  let main_v36 : FVec F S8x256x2x64 .f32 := broadcastInDim S8x256x2x64 ![] bcast_S_S8x256x2x64 main_cst_14
  let main_v37 : IVec S8x256x2x64 1 := cmpf .olt main_arg10 main_v36
  let main_v38 : IVec S8x256x2x64 1 := andi main_v35 main_v37
  let main_c_15 : IVec S_ 1 := constantI S_ 1 1#1
  let main_v39 : IVec S_ 1 := (fun x v => Host.reduce IntOp.andi x v reducesTo_S8x256x2x64_S_d0_1_2_3 h_S_) main_v38 main_c_15
  let main_v40 : IVec S_ 1 := andi main_v33 main_v39
  let main_cst_16 : FVec F S_ .f32 := constant S_ .f32 0xFF800000#32
  let main_v41 : FVec F S8x8192x4x128 .f32 := broadcastInDim S8x8192x4x128 ![] bcast_S_S8x8192x4x128 main_cst_16
  let main_v42 : IVec S8x8192x4x128 1 := cmpf .ogt main_arg2 main_v41
  let main_cst_17 : FVec F S_ .f32 := constant S_ .f32 0x7F800000#32
  let main_v43 : FVec F S8x8192x4x128 .f32 := broadcastInDim S8x8192x4x128 ![] bcast_S_S8x8192x4x128 main_cst_17
  let main_v44 : IVec S8x8192x4x128 1 := cmpf .olt main_arg2 main_v43
  let main_v45 : IVec S8x8192x4x128 1 := andi main_v42 main_v44
  let main_c_18 : IVec S_ 1 := constantI S_ 1 1#1
  let main_v46 : IVec S_ 1 := (fun x v => Host.reduce IntOp.andi x v reducesTo_S8x8192x4x128_S_d0_1_2_3 h_S_) main_v45 main_c_18
  let main_v47 : IVec S_ 1 := andi main_v40 main_v46
  let main_cst_19 : FVec F S_ .f32 := constant S_ .f32 0xFF800000#32
  let main_v48 : FVec F S8x256x4x128 .f32 := broadcastInDim S8x256x4x128 ![] bcast_S_S8x256x4x128 main_cst_19
  let main_v49 : IVec S8x256x4x128 1 := cmpf .ogt main_arg8 main_v48
  fn_part3 (F := F) main_arg8 main_arg12 main_v47 main_v49

def fn_part1 {F : FTy → Type} [FloatOps F] (main_arg1 : FVec F S8x8192x4x2x64 .f32) (main_arg2 : FVec F S8x8192x4x128 .f32) (main_arg4 : FVec F S8x8192x2x64 .f32) (main_arg7 : FVec F S8x256x4x2x64 .f32) (main_arg8 : FVec F S8x256x4x128 .f32) (main_arg10 : FVec F S8x256x2x64 .f32) (main_arg12 : FVec F S_ .f32) (main_v12 : IVec S_ 1) (main_v14 : IVec S8x8192x4x2x64 1) (main_v15 : FVec F S8x8192x4x2x64 .f32) : IVec S_ 1 :=
  let main_v16 : IVec S8x8192x4x2x64 1 := cmpf .olt main_arg1 main_v15
  let main_v17 : IVec S8x8192x4x2x64 1 := andi main_v14 main_v16
  let main_c_6 : IVec S_ 1 := constantI S_ 1 1#1
  let main_v18 : IVec S_ 1 := (fun x v => Host.reduce IntOp.andi x v reducesTo_S8x8192x4x2x64_S_d0_1_2_3_4 h_S_) main_v17 main_c_6
  let main_v19 : IVec S_ 1 := andi main_v12 main_v18
  let main_cst_7 : FVec F S_ .f32 := constant S_ .f32 0xFF800000#32
  let main_v20 : FVec F S8x8192x2x64 .f32 := broadcastInDim S8x8192x2x64 ![] bcast_S_S8x8192x2x64 main_cst_7
  let main_v21 : IVec S8x8192x2x64 1 := cmpf .ogt main_arg4 main_v20
  let main_cst_8 : FVec F S_ .f32 := constant S_ .f32 0x7F800000#32
  let main_v22 : FVec F S8x8192x2x64 .f32 := broadcastInDim S8x8192x2x64 ![] bcast_S_S8x8192x2x64 main_cst_8
  let main_v23 : IVec S8x8192x2x64 1 := cmpf .olt main_arg4 main_v22
  let main_v24 : IVec S8x8192x2x64 1 := andi main_v21 main_v23
  let main_c_9 : IVec S_ 1 := constantI S_ 1 1#1
  let main_v25 : IVec S_ 1 := (fun x v => Host.reduce IntOp.andi x v reducesTo_S8x8192x2x64_S_d0_1_2_3 h_S_) main_v24 main_c_9
  let main_v26 : IVec S_ 1 := andi main_v19 main_v25
  let main_cst_10 : FVec F S_ .f32 := constant S_ .f32 0xFF800000#32
  let main_v27 : FVec F S8x256x4x2x64 .f32 := broadcastInDim S8x256x4x2x64 ![] bcast_S_S8x256x4x2x64 main_cst_10
  let main_v28 : IVec S8x256x4x2x64 1 := cmpf .ogt main_arg7 main_v27
  let main_cst_11 : FVec F S_ .f32 := constant S_ .f32 0x7F800000#32
  let main_v29 : FVec F S8x256x4x2x64 .f32 := broadcastInDim S8x256x4x2x64 ![] bcast_S_S8x256x4x2x64 main_cst_11
  let main_v30 : IVec S8x256x4x2x64 1 := cmpf .olt main_arg7 main_v29
  let main_v31 : IVec S8x256x4x2x64 1 := andi main_v28 main_v30
  let main_c_12 : IVec S_ 1 := constantI S_ 1 1#1
  let main_v32 : IVec S_ 1 := (fun x v => Host.reduce IntOp.andi x v reducesTo_S8x256x4x2x64_S_d0_1_2_3_4 h_S_) main_v31 main_c_12
  fn_part2 (F := F) main_arg2 main_arg8 main_arg10 main_arg12 main_v26 main_v32

def fn {F : FTy → Type} [FloatOps F] (main_arg0 : FVec F S8x8192x4x2x64 .f32) (main_arg1 : FVec F S8x8192x4x2x64 .f32) (main_arg2 : FVec F S8x8192x4x128 .f32) (main_arg3 : FVec F S8x8192x2x4x64 .f32) (main_arg4 : FVec F S8x8192x2x64 .f32) (main_arg5 : FVec F S8x8192x2x64 .f32) (main_arg6 : FVec F S8x256x4x2x64 .f32) (main_arg7 : FVec F S8x256x4x2x64 .f32) (main_arg8 : FVec F S8x256x4x128 .f32) (main_arg9 : FVec F S8x256x2x4x64 .f32) (main_arg10 : FVec F S8x256x2x64 .f32) (main_arg11 : FVec F S8x256x2x64 .f32) (main_arg12 : FVec F S_ .f32) : IVec S_ 1 :=
  let main_cst : FVec F S_ .f32 := constant S_ .f32 0xFF800000#32
  let main_v0 : FVec F S8x8192x4x2x64 .f32 := broadcastInDim S8x8192x4x2x64 ![] bcast_S_S8x8192x4x2x64 main_cst
  let main_v1 : IVec S8x8192x4x2x64 1 := cmpf .ogt main_arg0 main_v0
  let main_cst_0 : FVec F S_ .f32 := constant S_ .f32 0x7F800000#32
  let main_v2 : FVec F S8x8192x4x2x64 .f32 := broadcastInDim S8x8192x4x2x64 ![] bcast_S_S8x8192x4x2x64 main_cst_0
  let main_v3 : IVec S8x8192x4x2x64 1 := cmpf .olt main_arg0 main_v2
  let main_v4 : IVec S8x8192x4x2x64 1 := andi main_v1 main_v3
  let main_c : IVec S_ 1 := constantI S_ 1 1#1
  let main_v5 : IVec S_ 1 := (fun x v => Host.reduce IntOp.andi x v reducesTo_S8x8192x4x2x64_S_d0_1_2_3_4 h_S_) main_v4 main_c
  let main_cst_1 : FVec F S_ .f32 := constant S_ .f32 0xFF800000#32
  let main_v6 : FVec F S8x8192x2x4x64 .f32 := broadcastInDim S8x8192x2x4x64 ![] bcast_S_S8x8192x2x4x64 main_cst_1
  let main_v7 : IVec S8x8192x2x4x64 1 := cmpf .ogt main_arg3 main_v6
  let main_cst_2 : FVec F S_ .f32 := constant S_ .f32 0x7F800000#32
  let main_v8 : FVec F S8x8192x2x4x64 .f32 := broadcastInDim S8x8192x2x4x64 ![] bcast_S_S8x8192x2x4x64 main_cst_2
  let main_v9 : IVec S8x8192x2x4x64 1 := cmpf .olt main_arg3 main_v8
  let main_v10 : IVec S8x8192x2x4x64 1 := andi main_v7 main_v9
  let main_c_3 : IVec S_ 1 := constantI S_ 1 1#1
  let main_v11 : IVec S_ 1 := (fun x v => Host.reduce IntOp.andi x v reducesTo_S8x8192x2x4x64_S_d0_1_2_3_4 h_S_) main_v10 main_c_3
  let main_v12 : IVec S_ 1 := andi main_v5 main_v11
  let main_cst_4 : FVec F S_ .f32 := constant S_ .f32 0xFF800000#32
  let main_v13 : FVec F S8x8192x4x2x64 .f32 := broadcastInDim S8x8192x4x2x64 ![] bcast_S_S8x8192x4x2x64 main_cst_4
  let main_v14 : IVec S8x8192x4x2x64 1 := cmpf .ogt main_arg1 main_v13
  let main_cst_5 : FVec F S_ .f32 := constant S_ .f32 0x7F800000#32
  let main_v15 : FVec F S8x8192x4x2x64 .f32 := broadcastInDim S8x8192x4x2x64 ![] bcast_S_S8x8192x4x2x64 main_cst_5
  fn_part1 (F := F) main_arg1 main_arg2 main_arg4 main_arg7 main_arg8 main_arg10 main_arg12 main_v12 main_v14 main_v15
-- ==== Pre_finite3.lean ====
abbrev S8x8192x16x64 : Shape := ⟨4, ![8, 8192, 16, 64]⟩
abbrev S8x256x16x64 : Shape := ⟨4, ![8, 256, 16, 64]⟩
abbrev S8x8192x1024 : Shape := ⟨3, ![8, 8192, 1024]⟩
abbrev S8x256x1024 : Shape := ⟨3, ![8, 256, 1024]⟩
abbrev S8x1x6x1024 : Shape := ⟨4, ![8, 1, 6, 1024]⟩
abbrev S6x1024 : Shape := ⟨2, ![6, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S8x1x3x1024 : Shape := ⟨4, ![8, 1, 3, 1024]⟩
abbrev S3x1024 : Shape := ⟨2, ![3, 1024]⟩

class Facts : Prop where
  bcast_S_S8x8192x16x64 : S_.BroadcastsInDim S8x8192x16x64 (![] : Fin 0 → Fin S8x8192x16x64.rank)
  reducesTo_S8x8192x16x64_S_d0_1_2_3 : S8x8192x16x64.ReducesTo [0, 1, 2, 3] S_
  h_S_ : 0 < S_.numel
  bcast_S_S8x256x16x64 : S_.BroadcastsInDim S8x256x16x64 (![] : Fin 0 → Fin S8x256x16x64.rank)
  reducesTo_S8x256x16x64_S_d0_1_2_3 : S8x256x16x64.ReducesTo [0, 1, 2, 3] S_
  bcast_S_S8x8192x1024 : S_.BroadcastsInDim S8x8192x1024 (![] : Fin 0 → Fin S8x8192x1024.rank)
  reducesTo_S8x8192x1024_S_d0_1_2 : S8x8192x1024.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  slices_S8x1x6x1024_S8x1x3x1024_0_0_2_0 : S8x1x6x1024.Slices ![0, 0, 2, 0] S8x1x3x1024
  bcast_S_S8x1x3x1024 : S_.BroadcastsInDim S8x1x3x1024 (![] : Fin 0 → Fin S8x1x3x1024.rank)
  reducesTo_S8x1x3x1024_S_d0_1_2_3 : S8x1x3x1024.ReducesTo [0, 1, 2, 3] S_
  slices_S6x1024_S3x1024_2_0 : S6x1024.Slices ![2, 0] S3x1024
  bcast_S_S3x1024 : S_.BroadcastsInDim S3x1024 (![] : Fin 0 → Fin S3x1024.rank)
  reducesTo_S3x1024_S_d0_1 : S3x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part3 {F : FTy → Type} [FloatOps F] (main_arg7 : FVec F S1024 .f32) (main_arg8 : FVec F S1024x16 .f32) (main_v49 : IVec S_ 1) (main_cst_19 : FVec F S_ .f32) : IVec S_ 1 :=
  let main_v50 : FVec F S1024 .f32 := broadcastInDim S1024 ![] bcast_S_S1024 main_cst_19
  let main_v51 : IVec S1024 1 := cmpf .ogt main_arg7 main_v50
  let main_cst_20 : FVec F S_ .f32 := constant S_ .f32 0x7F800000#32
  let main_v52 : FVec F S1024 .f32 := broadcastInDim S1024 ![] bcast_S_S1024 main_cst_20
  let main_v53 : IVec S1024 1 := cmpf .olt main_arg7 main_v52
  let main_v54 : IVec S1024 1 := andi main_v51 main_v53
  let main_c_21 : IVec S_ 1 := constantI S_ 1 1#1
  let main_v55 : IVec S_ 1 := (fun x v => Host.reduce IntOp.andi x v reducesTo_S1024_S_d0 h_S_) main_v54 main_c_21
  let main_v56 : IVec S_ 1 := andi main_v49 main_v55
  let main_cst_22 : FVec F S_ .f32 := constant S_ .f32 0xFF800000#32
  let main_v57 : FVec F S1024x16 .f32 := broadcastInDim S1024x16 ![] bcast_S_S1024x16 main_cst_22
  let main_v58 : IVec S1024x16 1 := cmpf .ogt main_arg8 main_v57
  let main_cst_23 : FVec F S_ .f32 := constant S_ .f32 0x7F800000#32
  let main_v59 : FVec F S1024x16 .f32 := broadcastInDim S1024x16 ![] bcast_S_S1024x16 main_cst_23
  let main_v60 : IVec S1024x16 1 := cmpf .olt main_arg8 main_v59
  let main_v61 : IVec S1024x16 1 := andi main_v58 main_v60
  let main_c_24 : IVec S_ 1 := constantI S_ 1 1#1
  let main_v62 : IVec S_ 1 := (fun x v => Host.reduce IntOp.andi x v reducesTo_S1024x16_S_d0_1 h_S_) main_v61 main_c_24
  let main_v63 : IVec S_ 1 := andi main_v56 main_v62
  main_v63

def fn_part2 {F : FTy → Type} [FloatOps F] (main_arg5 : FVec F S6x1024 .f32) (main_arg6 : FVec F S1024x1024 .f32) (main_arg7 : FVec F S1024 .f32) (main_arg8 : FVec F S1024x16 .f32) (main_v26 : IVec S_ 1) (main_v32 : IVec S8x1x3x1024 1) (main_c_12 : IVec S_ 1) : IVec S_ 1 :=
  let main_v33 : IVec S_ 1 := (fun x v => Host.reduce IntOp.andi x v reducesTo_S8x1x3x1024_S_d0_1_2_3 h_S_) main_v32 main_c_12
  let main_v34 : IVec S_ 1 := andi main_v26 main_v33
  let main_v35 : FVec F S3x1024 .f32 := (extractStridedSlice S3x1024 ![2, 0] · slices_S6x1024_S3x1024_2_0) main_arg5
  let main_cst_13 : FVec F S_ .f32 := constant S_ .f32 0xFF800000#32
  let main_v36 : FVec F S3x1024 .f32 := broadcastInDim S3x1024 ![] bcast_S_S3x1024 main_cst_13
  let main_v37 : IVec S3x1024 1 := cmpf .ogt main_v35 main_v36
  let main_cst_14 : FVec F S_ .f32 := constant S_ .f32 0x7F800000#32
  let main_v38 : FVec F S3x1024 .f32 := broadcastInDim S3x1024 ![] bcast_S_S3x1024 main_cst_14
  let main_v39 : IVec S3x1024 1 := cmpf .olt main_v35 main_v38
  let main_v40 : IVec S3x1024 1 := andi main_v37 main_v39
  let main_c_15 : IVec S_ 1 := constantI S_ 1 1#1
  let main_v41 : IVec S_ 1 := (fun x v => Host.reduce IntOp.andi x v reducesTo_S3x1024_S_d0_1 h_S_) main_v40 main_c_15
  let main_v42 : IVec S_ 1 := andi main_v34 main_v41
  let main_cst_16 : FVec F S_ .f32 := constant S_ .f32 0xFF800000#32
  let main_v43 : FVec F S1024x1024 .f32 := broadcastInDim S1024x1024 ![] bcast_S_S1024x1024 main_cst_16
  let main_v44 : IVec S1024x1024 1 := cmpf .ogt main_arg6 main_v43
  let main_cst_17 : FVec F S_ .f32 := constant S_ .f32 0x7F800000#32
  let main_v45 : FVec F S1024x1024 .f32 := broadcastInDim S1024x1024 ![] bcast_S_S1024x1024 main_cst_17
  let main_v46 : IVec S1024x1024 1 := cmpf .olt main_arg6 main_v45
  let main_v47 : IVec S1024x1024 1 := andi main_v44 main_v46
  let main_c_18 : IVec S_ 1 := constantI S_ 1 1#1
  let main_v48 : IVec S_ 1 := (fun x v => Host.reduce IntOp.andi x v reducesTo_S1024x1024_S_d0_1 h_S_) main_v47 main_c_18
  let main_v49 : IVec S_ 1 := andi main_v42 main_v48
  let main_cst_19 : FVec F S_ .f32 := constant S_ .f32 0xFF800000#32
  fn_part3 (F := F) main_arg7 main_arg8 main_v49 main_cst_19

def fn_part1 {F : FTy → Type} [FloatOps F] (main_arg2 : FVec F S8x8192x1024 .f32) (main_arg3 : FVec F S8x256x1024 .f32) (main_arg4 : FVec F S8x1x6x1024 .f32) (main_arg5 : FVec F S6x1024 .f32) (main_arg6 : FVec F S1024x1024 .f32) (main_arg7 : FVec F S1024 .f32) (main_arg8 : FVec F S1024x16 .f32) (main_v12 : IVec S_ 1) (main_v14 : IVec S8x8192x1024 1) (main_v15 : FVec F S8x8192x1024 .f32) : IVec S_ 1 :=
  let main_v16 : IVec S8x8192x1024 1 := cmpf .olt main_arg2 main_v15
  let main_v17 : IVec S8x8192x1024 1 := andi main_v14 main_v16
  let main_c_6 : IVec S_ 1 := constantI S_ 1 1#1
  let main_v18 : IVec S_ 1 := (fun x v => Host.reduce IntOp.andi x v reducesTo_S8x8192x1024_S_d0_1_2 h_S_) main_v17 main_c_6
  let main_v19 : IVec S_ 1 := andi main_v12 main_v18
  let main_cst_7 : FVec F S_ .f32 := constant S_ .f32 0xFF800000#32
  let main_v20 : FVec F S8x256x1024 .f32 := broadcastInDim S8x256x1024 ![] bcast_S_S8x256x1024 main_cst_7
  let main_v21 : IVec S8x256x1024 1 := cmpf .ogt main_arg3 main_v20
  let main_cst_8 : FVec F S_ .f32 := constant S_ .f32 0x7F800000#32
  let main_v22 : FVec F S8x256x1024 .f32 := broadcastInDim S8x256x1024 ![] bcast_S_S8x256x1024 main_cst_8
  let main_v23 : IVec S8x256x1024 1 := cmpf .olt main_arg3 main_v22
  let main_v24 : IVec S8x256x1024 1 := andi main_v21 main_v23
  let main_c_9 : IVec S_ 1 := constantI S_ 1 1#1
  let main_v25 : IVec S_ 1 := (fun x v => Host.reduce IntOp.andi x v reducesTo_S8x256x1024_S_d0_1_2 h_S_) main_v24 main_c_9
  let main_v26 : IVec S_ 1 := andi main_v19 main_v25
  let main_v27 : FVec F S8x1x3x1024 .f32 := (extractStridedSlice S8x1x3x1024 ![0, 0, 2, 0] · slices_S8x1x6x1024_S8x1x3x1024_0_0_2_0) main_arg4
  let main_cst_10 : FVec F S_ .f32 := constant S_ .f32 0xFF800000#32
  let main_v28 : FVec F S8x1x3x1024 .f32 := broadcastInDim S8x1x3x1024 ![] bcast_S_S8x1x3x1024 main_cst_10
  let main_v29 : IVec S8x1x3x1024 1 := cmpf .ogt main_v27 main_v28
  let main_cst_11 : FVec F S_ .f32 := constant S_ .f32 0x7F800000#32
  let main_v30 : FVec F S8x1x3x1024 .f32 := broadcastInDim S8x1x3x1024 ![] bcast_S_S8x1x3x1024 main_cst_11
  let main_v31 : IVec S8x1x3x1024 1 := cmpf .olt main_v27 main_v30
  let main_v32 : IVec S8x1x3x1024 1 := andi main_v29 main_v31
  let main_c_12 : IVec S_ 1 := constantI S_ 1 1#1
  fn_part2 (F := F) main_arg5 main_arg6 main_arg7 main_arg8 main_v26 main_v32 main_c_12

def fn {F : FTy → Type} [FloatOps F] (main_arg0 : FVec F S8x8192x16x64 .f32) (main_arg1 : FVec F S8x256x16x64 .f32) (main_arg2 : FVec F S8x8192x1024 .f32) (main_arg3 : FVec F S8x256x1024 .f32) (main_arg4 : FVec F S8x1x6x1024 .f32) (main_arg5 : FVec F S6x1024 .f32) (main_arg6 : FVec F S1024x1024 .f32) (main_arg7 : FVec F S1024 .f32) (main_arg8 : FVec F S1024x16 .f32) : IVec S_ 1 :=
  let main_cst : FVec F S_ .f32 := constant S_ .f32 0xFF800000#32
  let main_v0 : FVec F S8x8192x16x64 .f32 := broadcastInDim S8x8192x16x64 ![] bcast_S_S8x8192x16x64 main_cst
  let main_v1 : IVec S8x8192x16x64 1 := cmpf .ogt main_arg0 main_v0
  let main_cst_0 : FVec F S_ .f32 := constant S_ .f32 0x7F800000#32
  let main_v2 : FVec F S8x8192x16x64 .f32 := broadcastInDim S8x8192x16x64 ![] bcast_S_S8x8192x16x64 main_cst_0
  let main_v3 : IVec S8x8192x16x64 1 := cmpf .olt main_arg0 main_v2
  let main_v4 : IVec S8x8192x16x64 1 := andi main_v1 main_v3
  let main_c : IVec S_ 1 := constantI S_ 1 1#1
  let main_v5 : IVec S_ 1 := (fun x v => Host.reduce IntOp.andi x v reducesTo_S8x8192x16x64_S_d0_1_2_3 h_S_) main_v4 main_c
  let main_cst_1 : FVec F S_ .f32 := constant S_ .f32 0xFF800000#32
  let main_v6 : FVec F S8x256x16x64 .f32 := broadcastInDim S8x256x16x64 ![] bcast_S_S8x256x16x64 main_cst_1
  let main_v7 : IVec S8x256x16x64 1 := cmpf .ogt main_arg1 main_v6
  let main_cst_2 : FVec F S_ .f32 := constant S_ .f32 0x7F800000#32
  let main_v8 : FVec F S8x256x16x64 .f32 := broadcastInDim S8x256x16x64 ![] bcast_S_S8x256x16x64 main_cst_2
  let main_v9 : IVec S8x256x16x64 1 := cmpf .olt main_arg1 main_v8
  let main_v10 : IVec S8x256x16x64 1 := andi main_v7 main_v9
  let main_c_3 : IVec S_ 1 := constantI S_ 1 1#1
  let main_v11 : IVec S_ 1 := (fun x v => Host.reduce IntOp.andi x v reducesTo_S8x256x16x64_S_d0_1_2_3 h_S_) main_v10 main_c_3
  let main_v12 : IVec S_ 1 := andi main_v5 main_v11
  let main_cst_4 : FVec F S_ .f32 := constant S_ .f32 0xFF800000#32
  let main_v13 : FVec F S8x8192x1024 .f32 := broadcastInDim S8x8192x1024 ![] bcast_S_S8x8192x1024 main_cst_4
  let main_v14 : IVec S8x8192x1024 1 := cmpf .ogt main_arg2 main_v13
  let main_cst_5 : FVec F S_ .f32 := constant S_ .f32 0x7F800000#32
  let main_v15 : FVec F S8x8192x1024 .f32 := broadcastInDim S8x8192x1024 ![] bcast_S_S8x8192x1024 main_cst_5
  fn_part1 (F := F) main_arg2 main_arg3 main_arg4 main_arg5 main_arg6 main_arg7 main_arg8 main_v12 main_v14 main_v15
-- ==== Pre_finite_qk.lean ====
abbrev S8x8192x16x64 : Shape := ⟨4, ![8, 8192, 16, 64]⟩
abbrev S8x8192x16x32 : Shape := ⟨4, ![8, 8192, 16, 32]⟩
abbrev S8x8192x32 : Shape := ⟨3, ![8, 8192, 32]⟩
abbrev S8x256x16x64 : Shape := ⟨4, ![8, 256, 16, 64]⟩
abbrev S8x256x16x32 : Shape := ⟨4, ![8, 256, 16, 32]⟩
abbrev S8x256x32 : Shape := ⟨3, ![8, 256, 32]⟩
abbrev S_ : Shape := ⟨0, ![]⟩

class Facts : Prop where
  bcast_S_S8x8192x16x64 : S_.BroadcastsInDim S8x8192x16x64 (![] : Fin 0 → Fin S8x8192x16x64.rank)
  reducesTo_S8x8192x16x64_S_d0_1_2_3 : S8x8192x16x64.ReducesTo [0, 1, 2, 3] S_
  h_S_ : 0 < S_.numel
  bcast_S_S8x8192x16x32 : S_.BroadcastsInDim S8x8192x16x32 (![] : Fin 0 → Fin S8x8192x16x32.rank)
  reducesTo_S8x8192x16x32_S_d0_1_2_3 : S8x8192x16x32.ReducesTo [0, 1, 2, 3] S_
  bcast_S_S8x8192x32 : S_.BroadcastsInDim S8x8192x32 (![] : Fin 0 → Fin S8x8192x32.rank)
  reducesTo_S8x8192x32_S_d0_1_2 : S8x8192x32.ReducesTo [0, 1, 2] S_
  bcast_S_S8x256x16x64 : S_.BroadcastsInDim S8x256x16x64 (![] : Fin 0 → Fin S8x256x16x64.rank)
  reducesTo_S8x256x16x64_S_d0_1_2_3 : S8x256x16x64.ReducesTo [0, 1, 2, 3] S_
  bcast_S_S8x256x32 : S_.BroadcastsInDim S8x256x32 (![] : Fin 0 → Fin S8x256x32.rank)
  reducesTo_S8x256x32_S_d0_1_2 : S8x256x32.ReducesTo [0, 1, 2] S_

variable [Facts]

def fn_part2 {F : FTy → Type} [FloatOps F] (main_arg8 : FVec F S8x256x32 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8x256x32 .f32 := broadcastInDim S8x256x32 ![] bcast_S_S8x256x32 main_cst_13
  let main_v35 : IVec S8x256x32 1 := cmpf .ogt main_arg8 main_v34
  let main_cst_14 : FVec F S_ .f32 := constant S_ .f32 0x7F800000#32
  let main_v36 : FVec F S8x256x32 .f32 := broadcastInDim S8x256x32 ![] bcast_S_S8x256x32 main_cst_14
  let main_v37 : IVec S8x256x32 1 := cmpf .olt main_arg8 main_v36
  let main_v38 : IVec S8x256x32 1 := andi main_v35 main_v37
  let main_c_15 : IVec S_ 1 := constantI S_ 1 1#1
  let main_v39 : IVec S_ 1 := (fun x v => Host.reduce IntOp.andi x v reducesTo_S8x256x32_S_d0_1_2 h_S_) main_v38 main_c_15
  let main_v40 : IVec S_ 1 := andi main_v33 main_v39
  main_v40

def fn_part1 {F : FTy → Type} [FloatOps F] (main_arg2 : FVec F S8x8192x16x64 .f32) (main_arg3 : FVec F S8x8192x32 .f32) (main_arg7 : FVec F S8x256x16x64 .f32) (main_arg8 : FVec F S8x256x32 .f32) (main_v12 : IVec S_ 1) (main_v14 : IVec S8x8192x16x64 1) (main_v15 : FVec F S8x8192x16x64 .f32) : IVec S_ 1 :=
  let main_v16 : IVec S8x8192x16x64 1 := cmpf .olt main_arg2 main_v15
  let main_v17 : IVec S8x8192x16x64 1 := andi main_v14 main_v16
  let main_c_6 : IVec S_ 1 := constantI S_ 1 1#1
  let main_v18 : IVec S_ 1 := (fun x v => Host.reduce IntOp.andi x v reducesTo_S8x8192x16x64_S_d0_1_2_3 h_S_) main_v17 main_c_6
  let main_v19 : IVec S_ 1 := andi main_v12 main_v18
  let main_cst_7 : FVec F S_ .f32 := constant S_ .f32 0xFF800000#32
  let main_v20 : FVec F S8x8192x32 .f32 := broadcastInDim S8x8192x32 ![] bcast_S_S8x8192x32 main_cst_7
  let main_v21 : IVec S8x8192x32 1 := cmpf .ogt main_arg3 main_v20
  let main_cst_8 : FVec F S_ .f32 := constant S_ .f32 0x7F800000#32
  let main_v22 : FVec F S8x8192x32 .f32 := broadcastInDim S8x8192x32 ![] bcast_S_S8x8192x32 main_cst_8
  let main_v23 : IVec S8x8192x32 1 := cmpf .olt main_arg3 main_v22
  let main_v24 : IVec S8x8192x32 1 := andi main_v21 main_v23
  let main_c_9 : IVec S_ 1 := constantI S_ 1 1#1
  let main_v25 : IVec S_ 1 := (fun x v => Host.reduce IntOp.andi x v reducesTo_S8x8192x32_S_d0_1_2 h_S_) main_v24 main_c_9
  let main_v26 : IVec S_ 1 := andi main_v19 main_v25
  let main_cst_10 : FVec F S_ .f32 := constant S_ .f32 0xFF800000#32
  let main_v27 : FVec F S8x256x16x64 .f32 := broadcastInDim S8x256x16x64 ![] bcast_S_S8x256x16x64 main_cst_10
  let main_v28 : IVec S8x256x16x64 1 := cmpf .ogt main_arg7 main_v27
  let main_cst_11 : FVec F S_ .f32 := constant S_ .f32 0x7F800000#32
  let main_v29 : FVec F S8x256x16x64 .f32 := broadcastInDim S8x256x16x64 ![] bcast_S_S8x256x16x64 main_cst_11
  let main_v30 : IVec S8x256x16x64 1 := cmpf .olt main_arg7 main_v29
  let main_v31 : IVec S8x256x16x64 1 := andi main_v28 main_v30
  let main_c_12 : IVec S_ 1 := constantI S_ 1 1#1
  let main_v32 : IVec S_ 1 := (fun x v => Host.reduce IntOp.andi x v reducesTo_S8x256x16x64_S_d0_1_2_3 h_S_) main_v31 main_c_12
  fn_part2 (F := F) main_arg8 main_v26 main_v32

def fn {F : FTy → Type} [FloatOps F] (main_arg0 : FVec F S8x8192x16x64 .f32) (main_arg1 : FVec F S8x8192x16x32 .f32) (main_arg2 : FVec F S8x8192x16x64 .f32) (main_arg3 : FVec F S8x8192x32 .f32) (main_arg4 : FVec F S8x8192x16x64 .f32) (main_arg5 : FVec F S8x256x16x64 .f32) (main_arg6 : FVec F S8x256x16x32 .f32) (main_arg7 : FVec F S8x256x16x64 .f32) (main_arg8 : FVec F S8x256x32 .f32) (main_arg9 : FVec F S8x256x16x64 .f32) : IVec S_ 1 :=
  let main_cst : FVec F S_ .f32 := constant S_ .f32 0xFF800000#32
  let main_v0 : FVec F S8x8192x16x64 .f32 := broadcastInDim S8x8192x16x64 ![] bcast_S_S8x8192x16x64 main_cst
  let main_v1 : IVec S8x8192x16x64 1 := cmpf .ogt main_arg0 main_v0
  let main_cst_0 : FVec F S_ .f32 := constant S_ .f32 0x7F800000#32
  let main_v2 : FVec F S8x8192x16x64 .f32 := broadcastInDim S8x8192x16x64 ![] bcast_S_S8x8192x16x64 main_cst_0
  let main_v3 : IVec S8x8192x16x64 1 := cmpf .olt main_arg0 main_v2
  let main_v4 : IVec S8x8192x16x64 1 := andi main_v1 main_v3
  let main_c : IVec S_ 1 := constantI S_ 1 1#1
  let main_v5 : IVec S_ 1 := (fun x v => Host.reduce IntOp.andi x v reducesTo_S8x8192x16x64_S_d0_1_2_3 h_S_) main_v4 main_c
  let main_cst_1 : FVec F S_ .f32 := constant S_ .f32 0xFF800000#32
  let main_v6 : FVec F S8x8192x16x32 .f32 := broadcastInDim S8x8192x16x32 ![] bcast_S_S8x8192x16x32 main_cst_1
  let main_v7 : IVec S8x8192x16x32 1 := cmpf .ogt main_arg1 main_v6
  let main_cst_2 : FVec F S_ .f32 := constant S_ .f32 0x7F800000#32
  let main_v8 : FVec F S8x8192x16x32 .f32 := broadcastInDim S8x8192x16x32 ![] bcast_S_S8x8192x16x32 main_cst_2
  let main_v9 : IVec S8x8192x16x32 1 := cmpf .olt main_arg1 main_v8
  let main_v10 : IVec S8x8192x16x32 1 := andi main_v7 main_v9
  let main_c_3 : IVec S_ 1 := constantI S_ 1 1#1
  let main_v11 : IVec S_ 1 := (fun x v => Host.reduce IntOp.andi x v reducesTo_S8x8192x16x32_S_d0_1_2_3 h_S_) main_v10 main_c_3
  let main_v12 : IVec S_ 1 := andi main_v5 main_v11
  let main_cst_4 : FVec F S_ .f32 := constant S_ .f32 0xFF800000#32
  let main_v13 : FVec F S8x8192x16x64 .f32 := broadcastInDim S8x8192x16x64 ![] bcast_S_S8x8192x16x64 main_cst_4
  let main_v14 : IVec S8x8192x16x64 1 := cmpf .ogt main_arg2 main_v13
  let main_cst_5 : FVec F S_ .f32 := constant S_ .f32 0x7F800000#32
  let main_v15 : FVec F S8x8192x16x64 .f32 := broadcastInDim S8x8192x16x64 ![] bcast_S_S8x8192x16x64 main_cst_5
  fn_part1 (F := F) main_arg2 main_arg3 main_arg7 main_arg8 main_v12 main_v14 main_v15
-- ==== Kernel.lean ====
abbrev S8x8192x16x64 : Shape := ⟨4, ![8, 8192, 16, 64]⟩
abbrev S8x8192x16x32 : Shape := ⟨4, ![8, 8192, 16, 32]⟩
abbrev S8x8192x32 : Shape := ⟨3, ![8, 8192, 32]⟩
abbrev S8x256x16x64 : Shape := ⟨4, ![8, 256, 16, 64]⟩
abbrev S8x256x16x32 : Shape := ⟨4, ![8, 256, 16, 32]⟩
abbrev S8x256x32 : Shape := ⟨3, ![8, 256, 32]⟩
abbrev S8x8448x16x64 : Shape := ⟨4, ![8, 8448, 16, 64]⟩
abbrev S8x8448x16x32 : Shape := ⟨4, ![8, 8448, 16, 32]⟩
abbrev S8x8448x32 : Shape := ⟨3, ![8, 8448, 32]⟩
abbrev S_ : Shape := ⟨0, ![]⟩
abbrev S8x8448x16x128 : Shape := ⟨4, ![8, 8448, 16, 128]⟩
abbrev S8x8448x1x32 : Shape := ⟨4, ![8, 8448, 1, 32]⟩
abbrev S8x8448x8x128 : Shape := ⟨4, ![8, 8448, 8, 128]⟩
abbrev S8x8x128x8448 : Shape := ⟨4, ![8, 8, 128, 8448]⟩
abbrev S8x16x8448x128 : Shape := ⟨4, ![8, 16, 8448, 128]⟩
abbrev S8x16x8192x128 : Shape := ⟨4, ![8, 16, 8192, 128]⟩
abbrev S1x1x1024x128 : Shape := ⟨4, ![1, 1, 1024, 128]⟩
abbrev S1x1x8448x128 : Shape := ⟨4, ![1, 1, 8448, 128]⟩
abbrev S1x1x128x8448 : Shape := ⟨4, ![1, 1, 128, 8448]⟩
abbrev S8x128 : Shape := ⟨2, ![8, 128]⟩
abbrev S1024x128 : Shape := ⟨2, ![1024, 128]⟩
abbrev S1x1 : Shape := ⟨2, ![1, 1]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S1x1024x1 : Shape := ⟨3, ![1, 1024, 1]⟩
abbrev S1x1x1 : Shape := ⟨3, ![1, 1, 1]⟩
abbrev S8x1024 : Shape := ⟨2, ![8, 1024]⟩
abbrev S1x1024 : Shape := ⟨2, ![1, 1024]⟩
abbrev S144x1024 : Shape := ⟨2, ![144, 1024]⟩
abbrev S1x1x128x512 : Shape := ⟨4, ![1, 1, 128, 512]⟩
abbrev S128x512 : Shape := ⟨2, ![128, 512]⟩
abbrev S16x512 : Shape := ⟨2, ![16, 512]⟩
abbrev S144x512 : Shape := ⟨2, ![144, 512]⟩
abbrev S512x1024 : Shape := ⟨2, ![512, 1024]⟩
abbrev S1x1x128x256 : Shape := ⟨4, ![1, 1, 128, 256]⟩
abbrev S128x256 : Shape := ⟨2, ![128, 256]⟩
abbrev S16x256 : Shape := ⟨2, ![16, 256]⟩
abbrev S144x256 : Shape := ⟨2, ![144, 256]⟩
abbrev S256x1024 : Shape := ⟨2, ![256, 1024]⟩
abbrev S128x1024 : Shape := ⟨2, ![128, 1024]⟩
abbrev S1024x512 : Shape := ⟨2, ![1024, 512]⟩
abbrev S1024x256 : Shape := ⟨2, ![1024, 256]⟩
abbrev S8x8x2x8192x128 : Shape := ⟨5, ![8, 8, 2, 8192, 128]⟩
abbrev S8x8x1x8192x64 : Shape := ⟨5, ![8, 8, 1, 8192, 64]⟩
abbrev S8x8x8192x64 : Shape := ⟨4, ![8, 8, 8192, 64]⟩
abbrev S8x8x2x8192x64 : Shape := ⟨5, ![8, 8, 2, 8192, 64]⟩
abbrev S8x16x8192x64 : Shape := ⟨4, ![8, 16, 8192, 64]⟩

abbrev nBuf : Space → Nat
  | .hbm => 48
  | .vmem => 9
  | .smem => 0
  | _ => 0

abbrev bufTy : (tb : Table) → Fin (tcTables nBuf tb) → BufTy
  | .hbm, ⟨0, _⟩ => ⟨S8x8192x16x64, .f32⟩
  | .hbm, ⟨1, _⟩ => ⟨S8x8192x16x32, .f32⟩
  | .hbm, ⟨2, _⟩ => ⟨S8x8192x16x64, .f32⟩
  | .hbm, ⟨3, _⟩ => ⟨S8x8192x32, .f32⟩
  | .hbm, ⟨4, _⟩ => ⟨S8x8192x16x64, .f32⟩
  | .hbm, ⟨5, _⟩ => ⟨S8x256x16x64, .f32⟩
  | .hbm, ⟨6, _⟩ => ⟨S8x256x16x32, .f32⟩
  | .hbm, ⟨7, _⟩ => ⟨S8x256x16x64, .f32⟩
  | .hbm, ⟨8, _⟩ => ⟨S8x256x32, .f32⟩
  | .hbm, ⟨9, _⟩ => ⟨S8x256x16x64, .f32⟩
  | .hbm, ⟨10, _⟩ => ⟨S8x8448x16x64, .f32⟩
  | .hbm, ⟨11, _⟩ => ⟨S8x8448x16x32, .f32⟩
  | .hbm, ⟨12, _⟩ => ⟨S8x8448x16x64, .f32⟩
  | .hbm, ⟨13, _⟩ => ⟨S8x8448x32, .f32⟩
  | .hbm, ⟨14, _⟩ => ⟨S8x8448x16x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x8448x16x32, .f32⟩
  | .hbm, ⟨24, _⟩ => ⟨S8x8448x16x128, .f32⟩
  | .hbm, ⟨25, _⟩ => ⟨S8x8448x16x128, .f32⟩
  | .hbm, ⟨26, _⟩ => ⟨S8x8448x16x128, .f32⟩
  | .hbm, ⟨27, _⟩ => ⟨S8x8448x16x128, .bf16⟩
  | .hbm, ⟨28, _⟩ => ⟨S8x8448x1x32, .f32⟩
  | .hbm, ⟨29, _⟩ => ⟨S8x8448x16x32, .f32⟩
  | .hbm, ⟨30, _⟩ => ⟨S8x8448x16x128, .f32⟩
  | .hbm, ⟨31, _⟩ => ⟨S8x8448x16x128, .bf16⟩
  | .hbm, ⟨32, _⟩ => ⟨S8x8448x8x128, .f32⟩
  | .hbm, ⟨33, _⟩ => ⟨S8x8x128x8448, .f32⟩
  | .hbm, ⟨34, _⟩ => ⟨S8x8x128x8448, .bf16⟩
  | .hbm, ⟨35, _⟩ => ⟨S8x16x8448x128, .bf16⟩
  | .hbm, ⟨36, _⟩ => ⟨S8x16x8448x128, .bf16⟩
  | .hbm, ⟨37, _⟩ => ⟨S8x16x8192x128, .f32⟩
  | .hbm, ⟨38, _⟩ => ⟨S8x8x2x8192x128, .f32⟩
  | .hbm, ⟨39, _⟩ => ⟨S8x8x1x8192x64, .f32⟩
  | .hbm, ⟨40, _⟩ => ⟨S8x8x8192x64, .f32⟩
  | .hbm, ⟨41, _⟩ => ⟨S8x8x1x8192x64, .f32⟩
  | .hbm, ⟨42, _⟩ => ⟨S8x8x8192x64, .f32⟩
  | .hbm, ⟨43, _⟩ => ⟨S8x8x1x8192x64, .f32⟩
  | .hbm, ⟨44, _⟩ => ⟨S8x8x1x8192x64, .f32⟩
  | .hbm, ⟨45, _⟩ => ⟨S8x8x2x8192x64, .f32⟩
  | .hbm, ⟨46, _⟩ => ⟨S8x16x8192x64, .f32⟩
  | .hbm, ⟨47, _⟩ => ⟨S8x8192x16x64, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x128x8448, .bf16⟩
  | .local _ .vmem, ⟨5, _⟩ => ⟨S1x1x128x8448, .bf16⟩
  | .local _ .vmem, ⟨6, _⟩ => ⟨S1x1x1024x128, .f32⟩
  | .local _ .vmem, ⟨7, _⟩ => ⟨S1x1x1024x128, .f32⟩
  | .local _ .vmem, ⟨8, _⟩ => ⟨S8x128, .f32⟩
  | _, _ => ⟨S8x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x16x64 : Shape := ⟨4, ![8, 8192, 16, 64]⟩
abbrev S8x8192x16x32 : Shape := ⟨4, ![8, 8192, 16, 32]⟩
abbrev S8x8192x32 : Shape := ⟨3, ![8, 8192, 32]⟩
abbrev S8x256x16x64 : Shape := ⟨4, ![8, 256, 16, 64]⟩
abbrev S8x256x16x32 : Shape := ⟨4, ![8, 256, 16, 32]⟩
abbrev S8x256x32 : Shape := ⟨3, ![8, 256, 32]⟩
abbrev S_ : Shape := ⟨0, ![]⟩
abbrev S8x8448x16x64 : Shape := ⟨4, ![8, 8448, 16, 64]⟩
abbrev S8x8448x32 : Shape := ⟨3, ![8, 8448, 32]⟩
abbrev S8x16x8192x8448 : Shape := ⟨4, ![8, 16, 8192, 8448]⟩
abbrev S8x8448x8192x16 : Shape := ⟨4, ![8, 8448, 8192, 16]⟩
abbrev S8x16x8192 : Shape := ⟨3, ![8, 16, 8192]⟩
abbrev S8x16x8192x1 : Shape := ⟨4, ![8, 16, 8192, 1]⟩
abbrev S8x16x64x8192 : Shape := ⟨4, ![8, 16, 64, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x16x64, .f32⟩
  | .hbm, ⟨1, _⟩ => ⟨S8x8192x16x32, .f32⟩
  | .hbm, ⟨2, _⟩ => ⟨S8x8192x16x64, .f32⟩
  | .hbm, ⟨3, _⟩ => ⟨S8x8192x32, .f32⟩
  | .hbm, ⟨4, _⟩ => ⟨S8x8192x16x64, .f32⟩
  | .hbm, ⟨5, _⟩ => ⟨S8x256x16x64, .f32⟩
  | .hbm, ⟨6, _⟩ => ⟨S8x256x16x32, .f32⟩
  | .hbm, ⟨7, _⟩ => ⟨S8x256x16x64, .f32⟩
  | .hbm, ⟨8, _⟩ => ⟨S8x256x32, .f32⟩
  | .hbm, ⟨9, _⟩ => ⟨S8x256x16x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x8448x16x64, .f32⟩
  | .hbm, ⟨15, _⟩ => ⟨S8x8448x32, .f32⟩
  | .hbm, ⟨16, _⟩ => ⟨S8x8448x16x64, .f32⟩
  | .hbm, ⟨17, _⟩ => ⟨S8x16x8192x8448, .f32⟩
  | .hbm, ⟨18, _⟩ => ⟨S8x8448x8192x16, .f32⟩
  | .hbm, ⟨19, _⟩ => ⟨S8x16x8192x8448, .f32⟩
  | .hbm, ⟨20, _⟩ => ⟨S8x16x8192x8448, .f32⟩
  | .hbm, ⟨21, _⟩ => ⟨S8x16x8192x8448, .f32⟩
  | .hbm, ⟨22, _⟩ => ⟨S8x16x8192x8448, .f32⟩
  | .hbm, ⟨23, _⟩ => ⟨S_, .f32⟩
  | .hbm, ⟨24, _⟩ => ⟨S8x16x8192, .f32⟩
  | .hbm, ⟨25, _⟩ => ⟨S_, .f32⟩
  | .hbm, ⟨26, _⟩ => ⟨S8x16x8192, .f32⟩
  | .hbm, ⟨27, _⟩ => ⟨S8x16x8192, .f32⟩
  | .hbm, ⟨28, _⟩ => ⟨S8x16x8192x1, .f32⟩
  | .hbm, ⟨29, _⟩ => ⟨S8x16x8192x8448, .f32⟩
  | .hbm, ⟨30, _⟩ => ⟨S8x16x8192x8448, .f32⟩
  | .hbm, ⟨31, _⟩ => ⟨S8x16x8192x8448, .f32⟩
  | .hbm, ⟨32, _⟩ => ⟨S_, .f32⟩
  | .hbm, ⟨33, _⟩ => ⟨S8x16x8192, .f32⟩
  | .hbm, ⟨34, _⟩ => ⟨S8x16x8192x1, .f32⟩
  | .hbm, ⟨35, _⟩ => ⟨S8x16x8192x8448, .f32⟩
  | .hbm, ⟨36, _⟩ => ⟨S8x16x8192x8448, .f32⟩
  | .hbm, ⟨37, _⟩ => ⟨S8x16x64x8192, .f32⟩
  | .hbm, ⟨38, _⟩ => ⟨S8x8192x16x64, .f32⟩
  | _, _ => ⟨S8x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel2.lean ====
abbrev S8x8192x4x2x64 : Shape := ⟨5, ![8, 8192, 4, 2, 64]⟩
abbrev S8x8192x4x128 : Shape := ⟨4, ![8, 8192, 4, 128]⟩
abbrev S8x8192x2x4x64 : Shape := ⟨5, ![8, 8192, 2, 4, 64]⟩
abbrev S8x8192x2x64 : Shape := ⟨4, ![8, 8192, 2, 64]⟩
abbrev S8x256x4x2x64 : Shape := ⟨5, ![8, 256, 4, 2, 64]⟩
abbrev S8x256x4x128 : Shape := ⟨4, ![8, 256, 4, 128]⟩
abbrev S8x256x2x4x64 : Shape := ⟨5, ![8, 256, 2, 4, 64]⟩
abbrev S8x256x2x64 : Shape := ⟨4, ![8, 256, 2, 64]⟩
abbrev S_ : Shape := ⟨0, ![]⟩
abbrev S8x8448x4x2x64 : Shape := ⟨5, ![8, 8448, 4, 2, 64]⟩
abbrev S8x8448x4x128 : Shape := ⟨4, ![8, 8448, 4, 128]⟩
abbrev S8x8448x2x4x64 : Shape := ⟨5, ![8, 8448, 2, 4, 64]⟩
abbrev S8x8448x2x64 : Shape := ⟨4, ![8, 8448, 2, 64]⟩
abbrev S8x8448x4x64 : Shape := ⟨4, ![8, 8448, 4, 64]⟩
abbrev S8x8448x4x1x64 : Shape := ⟨5, ![8, 8448, 4, 1, 64]⟩
abbrev S8x8448x4x1x128 : Shape := ⟨5, ![8, 8448, 4, 1, 128]⟩
abbrev S8x8448x4x2x128 : Shape := ⟨5, ![8, 8448, 4, 2, 128]⟩
abbrev S8x8448x8x128 : Shape := ⟨4, ![8, 8448, 8, 128]⟩
abbrev S8x8448x1x4x64 : Shape := ⟨5, ![8, 8448, 1, 4, 64]⟩
abbrev S8x8448x16x128 : Shape := ⟨4, ![8, 8448, 16, 128]⟩
abbrev S8x8448x1x128 : Shape := ⟨4, ![8, 8448, 1, 128]⟩
abbrev S8x8448x5x128 : Shape := ⟨4, ![8, 8448, 5, 128]⟩
abbrev S8x16x8448x128 : Shape := ⟨4, ![8, 16, 8448, 128]⟩
abbrev S8x5x8448x128 : Shape := ⟨4, ![8, 5, 8448, 128]⟩
abbrev S8x5x128x8448 : Shape := ⟨4, ![8, 5, 128, 8448]⟩
abbrev S8x16x8192x128 : Shape := ⟨4, ![8, 16, 8192, 128]⟩
abbrev S1x1x1024x128 : Shape := ⟨4, ![1, 1, 1024, 128]⟩
abbrev S1x1x8448x128 : Shape := ⟨4, ![1, 1, 8448, 128]⟩
abbrev S1x1x128x8448 : Shape := ⟨4, ![1, 1, 128, 8448]⟩
abbrev S8x128 : Shape := ⟨2, ![8, 128]⟩
abbrev S1024x128 : Shape := ⟨2, ![1024, 128]⟩
abbrev S1x1 : Shape := ⟨2, ![1, 1]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S1x1024x1 : Shape := ⟨3, ![1, 1024, 1]⟩
abbrev S1x1x1 : Shape := ⟨3, ![1, 1, 1]⟩
abbrev S8x1024 : Shape := ⟨2, ![8, 1024]⟩
abbrev S1x1024 : Shape := ⟨2, ![1, 1024]⟩
abbrev S144x1024 : Shape := ⟨2, ![144, 1024]⟩
abbrev S1x1x128x512 : Shape := ⟨4, ![1, 1, 128, 512]⟩
abbrev S128x512 : Shape := ⟨2, ![128, 512]⟩
abbrev S16x512 : Shape := ⟨2, ![16, 512]⟩
abbrev S144x512 : Shape := ⟨2, ![144, 512]⟩
abbrev S512x1024 : Shape := ⟨2, ![512, 1024]⟩
abbrev S1x1x128x256 : Shape := ⟨4, ![1, 1, 128, 256]⟩
abbrev S128x256 : Shape := ⟨2, ![128, 256]⟩
abbrev S16x256 : Shape := ⟨2, ![16, 256]⟩
abbrev S144x256 : Shape := ⟨2, ![144, 256]⟩
abbrev S256x1024 : Shape := ⟨2, ![256, 1024]⟩
abbrev S128x1024 : Shape := ⟨2, ![128, 1024]⟩
abbrev S1024x512 : Shape := ⟨2, ![1024, 512]⟩
abbrev S1024x256 : Shape := ⟨2, ![1024, 256]⟩
abbrev S8x1x8192x128 : Shape := ⟨4, ![8, 1, 8192, 128]⟩
abbrev S8x8192x128 : Shape := ⟨3, ![8, 8192, 128]⟩
abbrev S8x8192x1x128 : Shape := ⟨4, ![8, 8192, 1, 128]⟩
abbrev S8x4x8192x64 : Shape := ⟨4, ![8, 4, 8192, 64]⟩
abbrev S8x1x4x8192x64 : Shape := ⟨5, ![8, 1, 4, 8192, 64]⟩
abbrev S8x2x4x8192x64 : Shape := ⟨5, ![8, 2, 4, 8192, 64]⟩

abbrev nBuf : Space → Nat
  | .hbm => 99
  | .vmem => 9
  | .smem => 0
  | _ => 0

abbrev bufTy : (tb : Table) → Fin (tcTables nBuf tb) → BufTy
  | .hbm, ⟨0, _⟩ => ⟨S8x8192x4x2x64, .f32⟩
  | .hbm, ⟨1, _⟩ => ⟨S8x8192x4x2x64, .f32⟩
  | .hbm, ⟨2, _⟩ => ⟨S8x8192x4x128, .f32⟩
  | .hbm, ⟨3, _⟩ => ⟨S8x8192x2x4x64, .f32⟩
  | .hbm, ⟨4, _⟩ => ⟨S8x8192x2x64, .f32⟩
  | .hbm, ⟨5, _⟩ => ⟨S8x8192x2x64, .f32⟩
  | .hbm, ⟨6, _⟩ => ⟨S8x256x4x2x64, .f32⟩
  | .hbm, ⟨7, _⟩ => ⟨S8x256x4x2x64, .f32⟩
  | .hbm, ⟨8, _⟩ => ⟨S8x256x4x128, .f32⟩
  | .hbm, ⟨9, _⟩ => ⟨S8x256x2x4x64, .f32⟩
  | .hbm, ⟨10, _⟩ => ⟨S8x256x2x64, .f32⟩
  | .hbm, ⟨11, _⟩ => ⟨S8x256x2x64, .f32⟩
  | .hbm, ⟨12, _⟩ => ⟨S_, .f32⟩
  | .hbm, ⟨13, _⟩ => ⟨S8x8448x4x2x64, .f32⟩
  | .hbm, ⟨14, _⟩ => ⟨S8x8448x4x2x64, .f32⟩
  | .hbm, ⟨15, _⟩ => ⟨S8x8448x4x128, .f32⟩
  | .hbm, ⟨16, _⟩ => ⟨S8x8448x2x4x64, .f32⟩
  | .hbm, ⟨17, _⟩ => ⟨S8x8448x2x64, .f32⟩
  | .hbm, ⟨18, _⟩ => ⟨S8x8448x2x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x8448x4x64, .f32⟩
  | .hbm, ⟨27, _⟩ => ⟨S_, .f32⟩
  | .hbm, ⟨28, _⟩ => ⟨S8x8448x4x64, .f32⟩
  | .hbm, ⟨29, _⟩ => ⟨S8x8448x4x1x64, .f32⟩
  | .hbm, ⟨30, _⟩ => ⟨S8x8448x4x64, .f32⟩
  | .hbm, ⟨31, _⟩ => ⟨S8x8448x4x128, .f32⟩
  | .hbm, ⟨32, _⟩ => ⟨S8x8448x4x1x64, .f32⟩
  | .hbm, ⟨33, _⟩ => ⟨S8x8448x4x64, .f32⟩
  | .hbm, ⟨34, _⟩ => ⟨S8x8448x4x128, .f32⟩
  | .hbm, ⟨35, _⟩ => ⟨S8x8448x4x1x128, .f32⟩
  | .hbm, ⟨36, _⟩ => ⟨S8x8448x4x1x128, .f32⟩
  | .hbm, ⟨37, _⟩ => ⟨S8x8448x4x2x128, .f32⟩
  | .hbm, ⟨38, _⟩ => ⟨S8x8448x8x128, .f32⟩
  | .hbm, ⟨39, _⟩ => ⟨S8x8448x1x4x64, .f32⟩
  | .hbm, ⟨40, _⟩ => ⟨S8x8448x4x64, .f32⟩
  | .hbm, ⟨41, _⟩ => ⟨S8x8448x4x128, .f32⟩
  | .hbm, ⟨42, _⟩ => ⟨S8x8448x1x4x64, .f32⟩
  | .hbm, ⟨43, _⟩ => ⟨S8x8448x4x64, .f32⟩
  | .hbm, ⟨44, _⟩ => ⟨S8x8448x4x128, .f32⟩
  | .hbm, ⟨45, _⟩ => ⟨S8x8448x16x128, .f32⟩
  | .hbm, ⟨46, _⟩ => ⟨S8x8448x16x128, .f32⟩
  | .hbm, ⟨47, _⟩ => ⟨S8x8448x16x128, .f32⟩
  | .hbm, ⟨48, _⟩ => ⟨S8x8448x16x128, .bf16⟩
  | .hbm, ⟨49, _⟩ => ⟨S8x8448x4x128, .f32⟩
  | .hbm, ⟨50, _⟩ => ⟨S8x8448x1x128, .f32⟩
  | .hbm, ⟨51, _⟩ => ⟨S8x8448x5x128, .f32⟩
  | .hbm, ⟨52, _⟩ => ⟨S8x8448x5x128, .bf16⟩
  | .hbm, ⟨53, _⟩ => ⟨S8x8448x1x128, .f32⟩
  | .hbm, ⟨54, _⟩ => ⟨S8x8448x5x128, .f32⟩
  | .hbm, ⟨55, _⟩ => ⟨S8x8448x5x128, .bf16⟩
  | .hbm, ⟨56, _⟩ => ⟨S8x16x8448x128, .bf16⟩
  | .hbm, ⟨57, _⟩ => ⟨S8x5x8448x128, .bf16⟩
  | .hbm, ⟨58, _⟩ => ⟨S8x5x128x8448, .bf16⟩
  | .hbm, ⟨59, _⟩ => ⟨S8x16x8192x128, .f32⟩
  | .hbm, ⟨60, _⟩ => ⟨S8x1x8192x128, .f32⟩
  | .hbm, ⟨61, _⟩ => ⟨S8x8192x128, .f32⟩
  | .hbm, ⟨62, _⟩ => ⟨S8x1x8192x128, .f32⟩
  | .hbm, ⟨63, _⟩ => ⟨S8x8192x128, .f32⟩
  | .hbm, ⟨64, _⟩ => ⟨S8x8192x128, .f32⟩
  | .hbm, ⟨65, _⟩ => ⟨S8x8192x128, .f32⟩
  | .hbm, ⟨66, _⟩ => ⟨S8x8192x128, .f32⟩
  | .hbm, ⟨67, _⟩ => ⟨S8x1x8192x128, .f32⟩
  | .hbm, ⟨68, _⟩ => ⟨S8x8192x128, .f32⟩
  | .hbm, ⟨69, _⟩ => ⟨S8x1x8192x128, .f32⟩
  | .hbm, ⟨70, _⟩ => ⟨S8x8192x128, .f32⟩
  | .hbm, ⟨71, _⟩ => ⟨S8x8192x128, .f32⟩
  | .hbm, ⟨72, _⟩ => ⟨S8x8192x128, .f32⟩
  | .hbm, ⟨73, _⟩ => ⟨S8x8192x128, .f32⟩
  | .hbm, ⟨74, _⟩ => ⟨S8x1x8192x128, .f32⟩
  | .hbm, ⟨75, _⟩ => ⟨S8x8192x128, .f32⟩
  | .hbm, ⟨76, _⟩ => ⟨S8x1x8192x128, .f32⟩
  | .hbm, ⟨77, _⟩ => ⟨S8x8192x128, .f32⟩
  | .hbm, ⟨78, _⟩ => ⟨S8x8192x128, .f32⟩
  | .hbm, ⟨79, _⟩ => ⟨S8x8192x128, .f32⟩
  | .hbm, ⟨80, _⟩ => ⟨S8x8192x128, .f32⟩
  | .hbm, ⟨81, _⟩ => ⟨S8x1x8192x128, .f32⟩
  | .hbm, ⟨82, _⟩ => ⟨S8x8192x128, .f32⟩
  | .hbm, ⟨83, _⟩ => ⟨S8x1x8192x128, .f32⟩
  | .hbm, ⟨84, _⟩ => ⟨S8x8192x128, .f32⟩
  | .hbm, ⟨85, _⟩ => ⟨S8x8192x128, .f32⟩
  | .hbm, ⟨86, _⟩ => ⟨S8x8192x128, .f32⟩
  | .hbm, ⟨87, _⟩ => ⟨S8x8192x128, .f32⟩
  | .hbm, ⟨88, _⟩ => ⟨S8x8192x1x128, .f32⟩
  | .hbm, ⟨89, _⟩ => ⟨S8x8192x1x128, .f32⟩
  | .hbm, ⟨90, _⟩ => ⟨S8x8192x1x128, .f32⟩
  | .hbm, ⟨91, _⟩ => ⟨S8x8192x1x128, .f32⟩
  | .hbm, ⟨92, _⟩ => ⟨S8x8192x4x128, .f32⟩
  | .hbm, ⟨93, _⟩ => ⟨S8x4x8192x64, .f32⟩
  | .hbm, ⟨94, _⟩ => ⟨S8x4x8192x64, .f32⟩
  | .hbm, ⟨95, _⟩ => ⟨S8x1x4x8192x64, .f32⟩
  | .hbm, ⟨96, _⟩ => ⟨S8x1x4x8192x64, .f32⟩
  | .hbm, ⟨97, _⟩ => ⟨S8x2x4x8192x64, .f32⟩
  | .hbm, ⟨98, _⟩ => ⟨S8x8192x2x4x64, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x128x8448, .bf16⟩
  | .local _ .vmem, ⟨5, _⟩ => ⟨S1x1x128x8448, .bf16⟩
  | .local _ .vmem, ⟨6, _⟩ => ⟨S1x1x1024x128, .f32⟩
  | .local _ .vmem, ⟨7, _⟩ => ⟨S1x1x1024x128, .f32⟩
  | .local _ .vmem, ⟨8, _⟩ => ⟨S8x128, .f32⟩
  | _, _ => ⟨S8x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg1 c8_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![arg0.toNat, v18.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg1 c8_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![arg0.toNat, v18.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S8x8192x4x2x64 : Shape := ⟨5, ![8, 8192, 4, 2, 64]⟩
abbrev S8x8192x4x128 : Shape := ⟨4, ![8, 8192, 4, 128]⟩
abbrev S8x8192x2x4x64 : Shape := ⟨5, ![8, 8192, 2, 4, 64]⟩
abbrev S8x8192x2x64 : Shape := ⟨4, ![8, 8192, 2, 64]⟩
abbrev S8x256x4x2x64 : Shape := ⟨5, ![8, 256, 4, 2, 64]⟩
abbrev S8x256x4x128 : Shape := ⟨4, ![8, 256, 4, 128]⟩
abbrev S8x256x2x4x64 : Shape := ⟨5, ![8, 256, 2, 4, 64]⟩
abbrev S8x256x2x64 : Shape := ⟨4, ![8, 256, 2, 64]⟩
abbrev S_ : Shape := ⟨0, ![]⟩
abbrev S8x8448x4x2x64 : Shape := ⟨5, ![8, 8448, 4, 2, 64]⟩
abbrev S8x8448x4x128 : Shape := ⟨4, ![8, 8448, 4, 128]⟩
abbrev S8x8448x2x64 : Shape := ⟨4, ![8, 8448, 2, 64]⟩
abbrev S8x4x2x8192x8448 : Shape := ⟨5, ![8, 4, 2, 8192, 8448]⟩
abbrev S8x4x2x8192 : Shape := ⟨4, ![8, 4, 2, 8192]⟩
abbrev S8x4x2x8192x1 : Shape := ⟨5, ![8, 4, 2, 8192, 1]⟩
abbrev S8x4x1x8192x8448 : Shape := ⟨5, ![8, 4, 1, 8192, 8448]⟩
abbrev S8x4x8192x8448 : Shape := ⟨4, ![8, 4, 8192, 8448]⟩
abbrev S8x4x128x8192 : Shape := ⟨4, ![8, 4, 128, 8192]⟩
abbrev S8x2x8448x8192x4 : Shape := ⟨5, ![8, 2, 8448, 8192, 4]⟩
abbrev S8x2x4x8192x8448 : Shape := ⟨5, ![8, 2, 4, 8192, 8448]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8x8192x4x2x64, .f32⟩
  | .hbm, ⟨1, _⟩ => ⟨S8x8192x4x2x64, .f32⟩
  | .hbm, ⟨2, _⟩ => ⟨S8x8192x4x128, .f32⟩
  | .hbm, ⟨3, _⟩ => ⟨S8x8192x2x4x64, .f32⟩
  | .hbm, ⟨4, _⟩ => ⟨S8x8192x2x64, .f32⟩
  | .hbm, ⟨5, _⟩ => ⟨S8x8192x2x64, .f32⟩
  | .hbm, ⟨6, _⟩ => ⟨S8x256x4x2x64, .f32⟩
  | .hbm, ⟨7, _⟩ => ⟨S8x256x4x2x64, .f32⟩
  | .hbm, ⟨8, _⟩ => ⟨S8x256x4x128, .f32⟩
  | .hbm, ⟨9, _⟩ => ⟨S8x256x2x4x64, .f32⟩
  | .hbm, ⟨10, _⟩ => ⟨S8x256x2x64, .f32⟩
  | .hbm, ⟨11, _⟩ => ⟨S8x256x2x64, .f32⟩
  | .hbm, ⟨12, _⟩ => ⟨S_, .f32⟩
  | .hbm, ⟨13, _⟩ => ⟨S8x8448x4x2x64, .f32⟩
  | .hbm, ⟨14, _⟩ => ⟨S8x8448x4x128, .f32⟩
  | .hbm, ⟨15, _⟩ => ⟨S8x8448x2x64, .f32⟩
  | .hbm, ⟨16, _⟩ => ⟨S8x8448x2x64, .f32⟩
  | .hbm, ⟨17, _⟩ => ⟨S8x4x2x8192x8448, .f32⟩
  | .hbm, ⟨18, _⟩ => ⟨S_, .f32⟩
  | .hbm, ⟨19, _⟩ => ⟨S8x4x2x8192x8448, .f32⟩
  | .hbm, ⟨20, _⟩ => ⟨S8x4x2x8192x8448, .f32⟩
  | .hbm, ⟨21, _⟩ => ⟨S_, .f32⟩
  | .hbm, ⟨22, _⟩ => ⟨S8x4x2x8192, .f32⟩
  | .hbm, ⟨23, _⟩ => ⟨S_, .f32⟩
  | .hbm, ⟨24, _⟩ => ⟨S8x4x2x8192, .f32⟩
  | .hbm, ⟨25, _⟩ => ⟨S8x4x2x8192, .f32⟩
  | .hbm, ⟨26, _⟩ => ⟨S8x4x2x8192x1, .f32⟩
  | .hbm, ⟨27, _⟩ => ⟨S8x4x2x8192x8448, .f32⟩
  | .hbm, ⟨28, _⟩ => ⟨S8x4x2x8192x8448, .f32⟩
  | .hbm, ⟨29, _⟩ => ⟨S8x4x2x8192x8448, .f32⟩
  | .hbm, ⟨30, _⟩ => ⟨S_, .f32⟩
  | .hbm, ⟨31, _⟩ => ⟨S8x4x2x8192, .f32⟩
  | .hbm, ⟨32, _⟩ => ⟨S8x4x2x8192x1, .f32⟩
  | .hbm, ⟨33, _⟩ => ⟨S8x4x2x8192x8448, .f32⟩
  | .hbm, ⟨34, _⟩ => ⟨S8x4x2x8192x8448, .f32⟩
  | .hbm, ⟨35, _⟩ => ⟨S8x4x1x8192x8448, .f32⟩
  | .hbm, ⟨36, _⟩ => ⟨S8x4x8192x8448, .f32⟩
  | .hbm, ⟨37, _⟩ => ⟨S8x4x1x8192x8448, .f32⟩
  | .hbm, ⟨38, _⟩ => ⟨S8x4x8192x8448, .f32⟩
  | .hbm, ⟨39, _⟩ => ⟨S8x4x8192x8448, .f32⟩
  | .hbm, ⟨40, _⟩ => ⟨S8x4x8192x8448, .f32⟩
  | .hbm, ⟨41, _⟩ => ⟨S8x4x8192x8448, .f32⟩
  | .hbm, ⟨42, _⟩ => ⟨S8x4x128x8192, .f32⟩
  | .hbm, ⟨43, _⟩ => ⟨S8x8192x4x128, .f32⟩
  | .hbm, ⟨44, _⟩ => ⟨S8x2x8448x8192x4, .f32⟩
  | .hbm, ⟨45, _⟩ => ⟨S8x2x4x8192x8448, .f32⟩
  | .hbm, ⟨46, _⟩ => ⟨S_, .f32⟩
  | .hbm, ⟨47, _⟩ => ⟨S8x2x4x8192x8448, .f32⟩
  | .hbm, ⟨48, _⟩ => ⟨S8x2x4x8192x8448, .f32⟩
  | .hbm, ⟨49, _⟩ => ⟨S_, .f32⟩
  | .hbm, ⟨50, _⟩ => ⟨S8x2x4x8192, .f32⟩
  | .hbm, ⟨51, _⟩ => ⟨S_, .f32⟩
  | .hbm, ⟨52, _⟩ => ⟨S8x2x4x8192, .f32⟩
  | .hbm, ⟨53, _⟩ => ⟨S8x2x4x8192, .f32⟩
  | .hbm, ⟨54, _⟩ => ⟨S8x2x4x8192x1, .f32⟩
  | .hbm, ⟨55, _⟩ => ⟨S8x2x4x8192x8448, .f32⟩
  | .hbm, ⟨56, _⟩ => ⟨S8x2x4x8192x8448, .f32⟩
  | .hbm, ⟨57, _⟩ => ⟨S8x2x4x8192x8448, .f32⟩
  | .hbm, ⟨58, _⟩ => ⟨S_, .f32⟩
  | .hbm, ⟨59, _⟩ => ⟨S8x2x4x8192, .f32⟩
  | .hbm, ⟨60, _⟩ => ⟨S8x2x4x8192x1, .f32⟩
  | .hbm, ⟨61, _⟩ => ⟨S8x2x4x8192x8448, .f32⟩
  | .hbm, ⟨62, _⟩ => ⟨S8x2x4x8192x8448, .f32⟩
  | .hbm, ⟨63, _⟩ => ⟨S8x2x64x4x8192, .f32⟩
  | .hbm, ⟨64, _⟩ => ⟨S8x8192x2x4x64, .f32⟩
  | _, _ => ⟨S8x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S8x8192x16x64 : Shape := ⟨4, ![8, 8192, 16, 64]⟩
abbrev S8x256x16x64 : Shape := ⟨4, ![8, 256, 16, 64]⟩
abbrev S8x8192x1024 : Shape := ⟨3, ![8, 8192, 1024]⟩
abbrev S8x256x1024 : Shape := ⟨3, ![8, 256, 1024]⟩
abbrev S8x1x6x1024 : Shape := ⟨4, ![8, 1, 6, 1024]⟩
abbrev S6x1024 : Shape := ⟨2, ![6, 1024]⟩
abbrev S1024x1024 : Shape := ⟨2, ![1024, 1024]⟩
abbrev S1024 : Shape := ⟨1, ![1024]⟩
abbrev S1024x16 : Shape := ⟨2, ![1024, 16]⟩
abbrev S8x8448x1024 : Shape := ⟨3, ![8, 8448, 1024]⟩
abbrev S8x6x1024 : Shape := ⟨3, ![8, 6, 1024]⟩
abbrev S1x6x1024 : Shape := ⟨3, ![1, 6, 1024]⟩
abbrev S_ : Shape := ⟨0, ![]⟩
abbrev S7x6x1024 : Shape := ⟨3, ![7, 6, 1024]⟩
abbrev S16x6x1024 : Shape := ⟨3, ![16, 6, 1024]⟩
abbrev S16x64x1024 : Shape := ⟨3, ![16, 64, 1024]⟩
abbrev S16 : Shape := ⟨1, ![16]⟩
abbrev S16x1x1 : Shape := ⟨3, ![16, 1, 1]⟩
abbrev S16x128x1024 : Shape := ⟨3, ![16, 128, 1024]⟩
abbrev S2048x1024 : Shape := ⟨2, ![2048, 1024]⟩
abbrev S1x1024 : Shape := ⟨2, ![1, 1024]⟩
abbrev S16x1024 : Shape := ⟨2, ![16, 1024]⟩
abbrev S8x16x8192x64 : Shape := ⟨4, ![8, 16, 8192, 64]⟩
abbrev S8x8x2x8192x64 : Shape := ⟨5, ![8, 8, 2, 8192, 64]⟩
abbrev S8x8x8192x64 : Shape := ⟨4, ![8, 8, 8192, 64]⟩
abbrev S8x8x1x8192x64 : Shape := ⟨5, ![8, 8, 1, 8192, 64]⟩
abbrev S8x8x8192x128 : Shape := ⟨4, ![8, 8, 8192, 128]⟩
abbrev S8x8x1x8192x128 : Shape := ⟨5, ![8, 8, 1, 8192, 128]⟩
abbrev S8x8x2x8192x128 : Shape := ⟨5, ![8, 8, 2, 8192, 128]⟩
abbrev S8x16x8192x128 : Shape := ⟨4, ![8, 16, 8192, 128]⟩
abbrev S8x16x256x64 : Shape := ⟨4, ![8, 16, 256, 64]⟩
abbrev S8x8x2x256x64 : Shape := ⟨5, ![8, 8, 2, 256, 64]⟩
abbrev S8x8x256x64 : Shape := ⟨4, ![8, 8, 256, 64]⟩
abbrev S8x8x1x256x64 : Shape := ⟨5, ![8, 8, 1, 256, 64]⟩
abbrev S8x8x256x128 : Shape := ⟨4, ![8, 8, 256, 128]⟩
abbrev S8x8x1x256x128 : Shape := ⟨5, ![8, 8, 1, 256, 128]⟩
abbrev S8x8x2x256x128 : Shape := ⟨5, ![8, 8, 2, 256, 128]⟩
abbrev S8x16x256x128 : Shape := ⟨4, ![8, 16, 256, 128]⟩
abbrev S8x16x8448 : Shape := ⟨3, ![8, 16, 8448]⟩
abbrev S1x16x256x128 : Shape := ⟨4, ![1, 16, 256, 128]⟩
abbrev S1x256x1024 : Shape := ⟨3, ![1, 256, 1024]⟩
abbrev S1x16x256 : Shape := ⟨3, ![1, 16, 256]⟩
abbrev S1x1x256x128 : Shape := ⟨4, ![1, 1, 256, 128]⟩
abbrev S256x128 : Shape := ⟨2, ![256, 128]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 88
  | .vmem => 17
  | .smem => 0
  | _ => 0

abbrev bufTy : (tb : Table) → Fin (tcTables nBuf tb) → BufTy
  | .hbm, ⟨0, _⟩ => ⟨S8x8192x16x64, .f32⟩
  | .hbm, ⟨1, _⟩ => ⟨S8x256x16x64, .f32⟩
  | .hbm, ⟨2, _⟩ => ⟨S8x8192x1024, .f32⟩
  | .hbm, ⟨3, _⟩ => ⟨S8x256x1024, .f32⟩
  | .hbm, ⟨4, _⟩ => ⟨S8x1x6x1024, .f32⟩
  | .hbm, ⟨5, _⟩ => ⟨S6x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S8x8448x1024, .f32⟩
  | .hbm, ⟨10, _⟩ => ⟨S8x6x1024, .f32⟩
  | .hbm, ⟨11, _⟩ => ⟨S1x6x1024, .f32⟩
  | .hbm, ⟨12, _⟩ => ⟨S_, .f32⟩
  | .hbm, ⟨13, _⟩ => ⟨S7x6x1024, .f32⟩
  | .hbm, ⟨14, _⟩ => ⟨S16x6x1024, .f32⟩
  | .hbm, ⟨15, _⟩ => ⟨S16x64x1024, .f32⟩
  | .hbm, ⟨16, _⟩ => ⟨S_, .f32⟩
  | .hbm, ⟨17, _⟩ => ⟨S16x64x1024, .f32⟩
  | .hbm, ⟨18, _⟩ => ⟨S16, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i1⟩
  | .hbm, ⟨33, _⟩ => ⟨S_, .i32⟩
  | .hbm, ⟨34, _⟩ => ⟨S_, .i1⟩
  | .hbm, ⟨35, _⟩ => ⟨S16, .i1⟩
  | .hbm, ⟨36, _⟩ => ⟨S16, .i1⟩
  | .hbm, ⟨37, _⟩ => ⟨S16, .i1⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16x1x1, .i32⟩
  | .hbm, ⟨42, _⟩ => ⟨S_, .i32⟩
  | .hbm, ⟨43, _⟩ => ⟨S16x1x1, .i32⟩
  | .hbm, ⟨44, _⟩ => ⟨S16x1x1, .i1⟩
  | .hbm, ⟨45, _⟩ => ⟨S16x64x1024, .i1⟩
  | .hbm, ⟨46, _⟩ => ⟨S16x64x1024, .f32⟩
  | .hbm, ⟨47, _⟩ => ⟨S_, .i32⟩
  | .hbm, ⟨48, _⟩ => ⟨S16x1x1, .i32⟩
  | .hbm, ⟨49, _⟩ => ⟨S16x1x1, .i1⟩
  | .hbm, ⟨50, _⟩ => ⟨S16x64x1024, .i1⟩
  | .hbm, ⟨51, _⟩ => ⟨S16x64x1024, .f32⟩
  | .hbm, ⟨52, _⟩ => ⟨S16x128x1024, .f32⟩
  | .hbm, ⟨53, _⟩ => ⟨S2048x1024, .f32⟩
  | .hbm, ⟨54, _⟩ => ⟨S2048x1024, .bf16⟩
  | .hbm, ⟨55, _⟩ => ⟨S1x1024, .f32⟩
  | .hbm, ⟨56, _⟩ => ⟨S16x1024, .f32⟩
  | .hbm, ⟨57, _⟩ => ⟨S8x16x8192x64, .f32⟩
  | .hbm, ⟨58, _⟩ => ⟨S8x8x2x8192x64, .f32⟩
  | .hbm, ⟨59, _⟩ => ⟨S_, .f32⟩
  | .hbm, ⟨60, _⟩ => ⟨S8x8x8192x64, .f32⟩
  | .hbm, ⟨61, _⟩ => ⟨S8x8x1x8192x64, .f32⟩
  | .hbm, ⟨62, _⟩ => ⟨S8x8x8192x64, .f32⟩
  | .hbm, ⟨63, _⟩ => ⟨S8x8x8192x128, .f32⟩
  | .hbm, ⟨64, _⟩ => ⟨S8x8x1x8192x64, .f32⟩
  | .hbm, ⟨65, _⟩ => ⟨S8x8x8192x64, .f32⟩
  | .hbm, ⟨66, _⟩ => ⟨S8x8x8192x128, .f32⟩
  | .hbm, ⟨67, _⟩ => ⟨S8x8x1x8192x128, .f32⟩
  | .hbm, ⟨68, _⟩ => ⟨S8x8x1x8192x128, .f32⟩
  | .hbm, ⟨69, _⟩ => ⟨S8x8x2x8192x128, .f32⟩
  | .hbm, ⟨70, _⟩ => ⟨S8x16x8192x128, .f32⟩
  | .hbm, ⟨71, _⟩ => ⟨S8x16x256x64, .f32⟩
  | .hbm, ⟨72, _⟩ => ⟨S8x8x2x256x64, .f32⟩
  | .hbm, ⟨73, _⟩ => ⟨S_, .f32⟩
  | .hbm, ⟨74, _⟩ => ⟨S8x8x256x64, .f32⟩
  | .hbm, ⟨75, _⟩ => ⟨S8x8x1x256x64, .f32⟩
  | .hbm, ⟨76, _⟩ => ⟨S8x8x256x64, .f32⟩
  | .hbm, ⟨77, _⟩ => ⟨S8x8x256x128, .f32⟩
  | .hbm, ⟨78, _⟩ => ⟨S8x8x1x256x64, .f32⟩
  | .hbm, ⟨79, _⟩ => ⟨S8x8x256x64, .f32⟩
  | .hbm, ⟨80, _⟩ => ⟨S8x8x256x128, .f32⟩
  | .hbm, ⟨81, _⟩ => ⟨S8x8x1x256x128, .f32⟩
  | .hbm, ⟨82, _⟩ => ⟨S8x8x1x256x128, .f32⟩
  | .hbm, ⟨83, _⟩ => ⟨S8x8x2x256x128, .f32⟩
  | .hbm, ⟨84, _⟩ => ⟨S8x16x256x128, .f32⟩
  | .hbm, ⟨85, _⟩ => ⟨S8x8448x1024, .f32⟩
  | .hbm, ⟨86, _⟩ => ⟨S8x8448x1024, .f32⟩
  | .hbm, ⟨87, _⟩ => ⟨S8x16x8448, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x256x128, .f32⟩
  | .local _ .vmem, ⟨3, _⟩ => ⟨S1x16x256x128, .f32⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S2048x1024, .bf16⟩
  | .local _ .vmem, ⟨9, _⟩ => ⟨S1x1024, .f32⟩
  | .local _ .vmem, ⟨10, _⟩ => ⟨S16x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x16x256, .f32⟩
  | .local _ .vmem, ⟨16, _⟩ => ⟨S1x16x256, .f32⟩
  | _, _ => ⟨S8x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_v10 : Ref sig .tc := ⟨.hbm, 43, rfl⟩
abbrev main_v11 : Ref sig .tc := ⟨.hbm, 44, rfl⟩
abbrev main_call1_v0 : Ref sig .tc := ⟨.hbm, 45, rfl⟩
abbrev main_v12 : Ref sig .tc := ⟨.hbm, 46, rfl⟩
abbrev main_c_2 : Ref sig .tc := ⟨.hbm, 47, rfl⟩
abbrev main_v13 : Ref sig .tc := ⟨.hbm, 48, rfl⟩
abbrev main_v14 : Ref sig .tc := ⟨.hbm, 49, rfl⟩
abbrev main_call2_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_3 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_4 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47_0 : Ref sig .tc := ⟨.hbm, 85, rfl⟩
abbrev main_v47_1 : Ref sig .tc := ⟨.hbm, 86, rfl⟩
abbrev main_v47_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 33], ![false, false]⟩

def cc0_transform_0 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c8_i32 : BitVec 32 := 8#32
  let v1 : BitVec 32 := Scalar.select v0 arg0 c8_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x8192x16x64 : Shape := ⟨4, ![8, 8192, 16, 64]⟩
abbrev S8x256x16x64 : Shape := ⟨4, ![8, 256, 16, 64]⟩
abbrev S8x8192x1024 : Shape := ⟨3, ![8, 8192, 1024]⟩
abbrev S8x256x1024 : Shape := ⟨3, ![8, 256, 1024]⟩
abbrev S8x1x6x1024 : Shape := ⟨4, ![8, 1, 6, 1024]⟩
abbrev S6x1024 : Shape := ⟨2, ![6, 1024]⟩
abbrev S1024x1024 : Shape := ⟨2, ![1024, 1024]⟩
abbrev S1024 : Shape := ⟨1, ![1024]⟩
abbrev S1024x16 : Shape := ⟨2, ![1024, 16]⟩
abbrev S8x1x1x1024 : Shape := ⟨4, ![8, 1, 1, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024 : Shape := ⟨2, ![1, 1024]⟩
abbrev S8x256 : Shape := ⟨2, ![8, 256]⟩
abbrev S8x256x1 : Shape := ⟨3, ![8, 256, 1]⟩
abbrev S8x8448x1024 : Shape := ⟨3, ![8, 8448, 1024]⟩
abbrev S8x8192x16 : Shape := ⟨3, ![8, 8192, 16]⟩
abbrev S8x16x8192 : Shape := ⟨3, ![8, 16, 8192]⟩
abbrev S8x256x16 : Shape := ⟨3, ![8, 256, 16]⟩
abbrev S8x16x256 : Shape := ⟨3, ![8, 16, 256]⟩
abbrev S8x16x8448 : Shape := ⟨3, ![8, 16, 8448]⟩

abbrev nBuf : Space → Nat
  | .hbm => 115
  | .vmem => 0
  | .smem => 0
  | _ => 0

abbrev bufTy : (tb : Table) → Fin (tcTables nBuf tb) → BufTy
  | .hbm, ⟨0, _⟩ => ⟨S8x8192x16x64, .f32⟩
  | .hbm, ⟨1, _⟩ => ⟨S8x256x16x64, .f32⟩
  | .hbm, ⟨2, _⟩ => ⟨S8x8192x1024, .f32⟩
  | .hbm, ⟨3, _⟩ => ⟨S8x256x1024, .f32⟩
  | .hbm, ⟨4, _⟩ => ⟨S8x1x6x1024, .f32⟩
  | .hbm, ⟨5, _⟩ => ⟨S6x1024, .f32⟩
  | .hbm, ⟨6, _⟩ => ⟨S1024x1024, .f32⟩
  | .hbm, ⟨7, _⟩ => ⟨S1024, .f32⟩
  | .hbm, ⟨8, _⟩ => ⟨S1024x16, .f32⟩
  | .hbm, ⟨9, _⟩ => ⟨S8x8192x1024, .f32⟩
  | .hbm, ⟨10, _⟩ => ⟨S8x8192x1024, .f32⟩
  | .hbm, ⟨11, _⟩ => ⟨S8x256x1024, .f32⟩
  | .hbm, ⟨12, _⟩ => ⟨S8x256x1024, .f32⟩
  | .hbm, ⟨13, _⟩ => ⟨S8x1x1x1024, .f32⟩
  | .hbm, ⟨14, _⟩ => ⟨S8x1x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S8x1x1x1024, .f32⟩
  | .hbm, ⟨35, _⟩ => ⟨S8x1x1024, .f32⟩
  | .hbm, ⟨36, _⟩ => ⟨S8x1x1x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S8x256x1024, .f32⟩
  | .hbm, ⟨49, _⟩ => ⟨S8x256x1024, .f32⟩
  | .hbm, ⟨50, _⟩ => ⟨S8x256x1024, .f32⟩
  | .hbm, ⟨51, _⟩ => ⟨S8x256x1024, .f32⟩
  | .hbm, ⟨52, _⟩ => ⟨S_, .f32⟩
  | .hbm, ⟨53, _⟩ => ⟨S8x256, .f32⟩
  | .hbm, ⟨54, _⟩ => ⟨S8x256x1, .f32⟩
  | .hbm, ⟨55, _⟩ => ⟨S_, .f32⟩
  | .hbm, ⟨56, _⟩ => ⟨S8x256x1, .f32⟩
  | .hbm, ⟨57, _⟩ => ⟨S8x256x1, .f32⟩
  | .hbm, ⟨58, _⟩ => ⟨S_, .f32⟩
  | .hbm, ⟨59, _⟩ => ⟨S8x256x1, .f32⟩
  | .hbm, ⟨60, _⟩ => ⟨S8x256x1, .f32⟩
  | .hbm, ⟨61, _⟩ => ⟨S8x256x1, .f32⟩
  | .hbm, ⟨62, _⟩ => ⟨S8x256x1024, .f32⟩
  | .hbm, ⟨63, _⟩ => ⟨S8x256x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1x1x1024, .f32⟩
  | .hbm, ⟨75, _⟩ => ⟨S8x256x1024, .f32⟩
  | .hbm, ⟨76, _⟩ => ⟨S8x256x1024, .f32⟩
  | .hbm, ⟨77, _⟩ => ⟨S1x1x1024, .f32⟩
  | .hbm, ⟨78, _⟩ => ⟨S8x256x1024, .f32⟩
  | .hbm, ⟨79, _⟩ => ⟨S8x256x1024, .f32⟩
  | .hbm, ⟨80, _⟩ => ⟨S8x8448x1024, .f32⟩
  | .hbm, ⟨81, _⟩ => ⟨S8x8448x1024, .f32⟩
  | .hbm, ⟨82, _⟩ => ⟨S8x8192x16, .f32⟩
  | .hbm, ⟨83, _⟩ => ⟨S_, .f32⟩
  | .hbm, ⟨84, _⟩ => ⟨S8x8192, .f32⟩
  | .hbm, ⟨85, _⟩ => ⟨S_, .f32⟩
  | .hbm, ⟨86, _⟩ => ⟨S8x8192, .f32⟩
  | .hbm, ⟨87, _⟩ => ⟨S8x8192, .f32⟩
  | .hbm, ⟨88, _⟩ => ⟨S8x8192x1, .f32⟩
  | .hbm, ⟨89, _⟩ => ⟨S8x8192x16, .f32⟩
  | .hbm, ⟨90, _⟩ => ⟨S8x8192x16, .f32⟩
  | .hbm, ⟨91, _⟩ => ⟨S8x8192x16, .f32⟩
  | .hbm, ⟨92, _⟩ => ⟨S_, .f32⟩
  | .hbm, ⟨93, _⟩ => ⟨S8x8192, .f32⟩
  | .hbm, ⟨94, _⟩ => ⟨S8x8192x1, .f32⟩
  | .hbm, ⟨95, _⟩ => ⟨S8x8192x16, .f32⟩
  | .hbm, ⟨96, _⟩ => ⟨S8x8192x16, .f32⟩
  | .hbm, ⟨97, _⟩ => ⟨S8x16x8192, .f32⟩
  | .hbm, ⟨98, _⟩ => ⟨S8x256x16, .f32⟩
  | .hbm, ⟨99, _⟩ => ⟨S_, .f32⟩
  | .hbm, ⟨100, _⟩ => ⟨S8x256, .f32⟩
  | .hbm, ⟨101, _⟩ => ⟨S_, .f32⟩
  | .hbm, ⟨102, _⟩ => ⟨S8x256, .f32⟩
  | .hbm, ⟨103, _⟩ => ⟨S8x256, .f32⟩
  | .hbm, ⟨104, _⟩ => ⟨S8x256x1, .f32⟩
  | .hbm, ⟨105, _⟩ => ⟨S8x256x16, .f32⟩
  | .hbm, ⟨106, _⟩ => ⟨S8x256x16, .f32⟩
  | .hbm, ⟨107, _⟩ => ⟨S8x256x16, .f32⟩
  | .hbm, ⟨108, _⟩ => ⟨S_, .f32⟩
  | .hbm, ⟨109, _⟩ => ⟨S8x256, .f32⟩
  | .hbm, ⟨110, _⟩ => ⟨S8x256x1, .f32⟩
  | .hbm, ⟨111, _⟩ => ⟨S8x256x16, .f32⟩
  | .hbm, ⟨112, _⟩ => ⟨S8x256x16, .f32⟩
  | .hbm, ⟨113, _⟩ => ⟨S8x16x256, .f32⟩
  | .hbm, ⟨114, _⟩ => ⟨S8x16x8448, .f32⟩
  | _, _ => ⟨S8x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]
-- ==== Proof.Vals.lean ====
/-
  What the attention body computes from its blocks, chunk by chunk, at any values: the largest key norm, the pass at a
  fixed reference and the pass with a running maximum, each as a recursion over the sixteen chunks of 512 latent keys
  closed by the chunk of 256 context keys.
-/
module

public import proofs.«01_k».proof.Proof.Gen.KernelIdeal.Frame
public import proofs.«01_k».proof.Proof.Gen.KernelIdeal.Skeleton
public import Idealize.ShloMosaic.Lib.Claim

@[expose] public section

noncomputable section

namespace Cert.Proof.Mla

open Cert.KernelIdeal Cert.KernelIdeal.Gen
open Idealize.ShloMosaic Idealize.ShloMosaic.TcCoe

variable {F : FTy → Type} [FloatOps F]

/-! ## The chunks read -/

theorem inbK {n : ℕ} (h : n < 16) (a : Fin S1x1x8448x128.rank) :
    (![0, 0, 512 * n, 0] : Fin 4 → ℕ) a + S1x1x512x128.size a ≤ S1x1x8448x128.size a := by
  fin_cases a <;> simp [S1x1x512x128, S1x1x8448x128] ; omega

theorem inbV {n : ℕ} (h : n < 16) (a : Fin S1x1x128x8448.rank) :
    (![0, 0, 0, 512 * n] : Fin 4 → ℕ) a + S1x1x128x512.size a ≤ S1x1x128x8448.size a := by
  fin_cases a <;> simp [S1x1x128x512, S1x1x128x8448] ; omega

/-- Chunk `n` of the latent keys, -/
def chK (x1 : Vec F S1x1x8448x128 .bf16) (n : ℕ) (h : n < 16) : Vec F S1x1x512x128 .bf16 :=
  View.ld x1 (Rect.unit (s := S1x1x8448x128) ![0, 0, 512 * n, 0] S1x1x512x128.size (inbK h))
/-- and of their values; -/
def chV (x2 : Vec F S1x1x128x8448 .bf16) (n : ℕ) (h : n < 16) : Vec F S1x1x128x512 .bf16 :=
  View.ld x2 (Rect.unit (s := S1x1x128x8448) ![0, 0, 0, 512 * n] S1x1x128x512.size (inbV h))
/-- the context keys -/
def ctK (x1 : Vec F S1x1x8448x128 .bf16) : Vec F S1x1x256x128 .bf16 :=
  View.ld x1 (Rect.unit (s := S1x1x8448x128) ![0, 0, 8192, 0] S1x1x256x128.size inb_S1x1x8448x128_S1x1x256x128_0_0_8192_0)
/-- and their values. -/
def ctV (x2 : Vec F S1x1x128x8448 .bf16) : Vec F S1x1x128x256 .bf16 :=
  View.ld x2 (Rect.unit (s := S1x1x128x8448) ![0, 0, 0, 8192] S1x1x128x256.size inb_S1x1x128x8448_S1x1x128x256_0_0_0_8192)
/-- The query tile, read whole. -/
def ldQ (x0 : Vec F S1x1x1024x128 .bf16) : Vec F S1x1x1024x128 .bf16 :=
  View.ld x0 (Rect.unit (s := S1x1x1024x128) ![0, 0, 0, 0] S1x1x1024x128.size inb_S1x1x1024x128_S1x1x1024x128_0_0_0_0)
/-- The word of the scratch that holds the largest key norm. -/
def s00 (s : Vec F S8x128 .f32) : Vec F S1x1 .f32 :=
  View.ld s (Rect.unit (s := S8x128) ![0, 0] S1x1.size inb_S8x128_S1x1_0_0)

/-! ## The largest key norm -/

def knStep (m : FVec F S1x1 .f32) (k : Vec F S1x1x512x128 .bf16) : FVec F S1x1 .f32 :=
  have kf := extf .f32 (shapeCast S512x128 k shapeCasts_S1x1x512x128_S512x128) bitsLt_bf16_f32
  have r : FVec F S512 .f32 := multiReduction .add [1] S512 (mulf kf kf) 0x00000000#32 reduces_S512x128_S512 (.inl rfl) rfl
  have r1 := shapeCast S512x1 r shapeCasts_S512_S512x1
  have t : FVec F S1 .f32 := multiReduction .maximumf [0] S1 r1 0xFF800000#32 reduces_S512x1_S1 (.inl rfl) rfl
  maximumf m (shapeCast S1x1 t shapeCasts_S1_S1x1)

def knLast (m : FVec F S1x1 .f32) (k : Vec F S1x1x256x128 .bf16) : FVec F S1x1 .f32 :=
  have kf := extf .f32 (shapeCast S256x128 k shapeCasts_S1x1x256x128_S256x128) bitsLt_bf16_f32
  have r : FVec F S256 .f32 := multiReduction .add [1] S256 (mulf kf kf) 0x00000000#32 reduces_S256x128_S256 (.inl rfl) rfl
  have r1 := shapeCast S256x1 r shapeCasts_S256_S256x1
  have t : FVec F S1 .f32 := multiReduction .maximumf [0] S1 r1 0xFF800000#32 reduces_S256x1_S1 (.inl rfl) rfl
  maximumf m (shapeCast S1x1 t shapeCasts_S1_S1x1)

def knN (x1 : Vec F S1x1x8448x128 .bf16) : (n : ℕ) → n ≤ 16 → FVec F S1x1 .f32
  | 0, _ => broadcast S1x1 (Scalar.ofBits .f32 0x00000000#32)
  | n + 1, h => knStep (knN x1 n (Nat.le_of_succ_le h)) (chK x1 n h)

/-- The scratch after a first tile's pass over the keys. -/
def knF (x1 : Vec F S1x1x8448x128 .bf16) : FVec F S8x128 .f32 :=
  shapeCast S8x128 (broadcastTo S8x128 (shapeCast S1x1 (sqrt (knLast (knN x1 16 (Nat.le_refl 16)) (ctK x1))) shapeCasts_S1x1_S1x1)
    broadcasts_S1x1_S8x128) shapeCasts_S8x128_S8x128

/-! ## The pass at a fixed reference -/

def fxStep (q : FVec F S1024x128 .bf16) (r : FVec F S1x1024 .f32) (acc : FVec F S144x1024 .f32)
    (k : Vec F S1x1x512x128 .bf16) (v : Vec F S1x1x128x512 .bf16) : FVec F S144x1024 .f32 :=
  have one : F .bf16 := Scalar.ofBits .bf16 0x3F80#16
  have lhs : FVec F S144x512 .bf16 := concatenate S144x512 0
    [⟨S128x512, shapeCast S128x512 v shapeCasts_S1x1x128x512_S128x512⟩, ⟨S16x512, broadcast S16x512 one⟩]
    concatenates_S128x512_S16x512_S144x512_d0
  have s : FVec F S512x1024 .f32 := matmul dot_S512x128_S1024x128_S512x1024_1_1_0_0_n_n none
    (shapeCast S512x128 k shapeCasts_S1x1x512x128_S512x128) q (constant S512x1024 .f32 0x00000000#32)
  have p := truncf .bf16 (exp2 (subf s (broadcastTo S512x1024 r broadcasts_S1x1024_S512x1024))) bitsLt_bf16_f32
  addf acc (matmul dot_S144x512_S512x1024_S144x1024_1_0_0_1_n_n none lhs p (constant S144x1024 .f32 0x00000000#32))

def fxLast (q : FVec F S1024x128 .bf16) (r : FVec F S1x1024 .f32) (acc : FVec F S144x1024 .f32)
    (k : Vec F S1x1x256x128 .bf16) (v : Vec F S1x1x128x256 .bf16) : FVec F S144x1024 .f32 :=
  have one : F .bf16 := Scalar.ofBits .bf16 0x3F80#16
  have lhs : FVec F S144x256 .bf16 := concatenate S144x256 0
    [⟨S128x256, shapeCast S128x256 v shapeCasts_S1x1x128x256_S128x256⟩, ⟨S16x256, broadcast S16x256 one⟩]
    concatenates_S128x256_S16x256_S144x256_d0
  have s : FVec F S256x1024 .f32 := matmul dot_S256x128_S1024x128_S256x1024_1_1_0_0_n_n none
    (shapeCast S256x128 k shapeCasts_S1x1x256x128_S256x128) q (constant S256x1024 .f32 0x00000000#32)
  have p := truncf .bf16 (exp2 (subf s (broadcastTo S256x1024 r broadcasts_S1x1024_S256x1024))) bitsLt_bf16_f32
  addf acc (matmul dot_S144x256_S256x1024_S144x1024_1_0_0_1_n_n none lhs p (constant S144x1024 .f32 0x00000000#32))

def fxN (x0 : Vec F S1x1x1024x128 .bf16) (x1 : Vec F S1x1x8448x128 .bf16) (x2 : Vec F S1x1x128x8448 .bf16)
    (r : FVec F S1x1024 .f32) : (n : ℕ) → n ≤ 16 → FVec F S144x1024 .f32
  | 0, _ => broadcast S144x1024 (Scalar.ofBits .f32 0x00000000#32)
  | n + 1, h => fxStep (k0_pay1 x0) r (fxN x0 x1 x2 r n (Nat.le_of_succ_le h)) (chK x1 n h) (chV x2 n h)

def fxF (x0 : Vec F S1x1x1024x128 .bf16) (x1 : Vec F S1x1x8448x128 .bf16) (x2 : Vec F S1x1x128x8448 .bf16)
    (s : Vec F S1x1 .f32) : FVec F S1024x128 .f32 :=
  have r := k0_pay16 (k0_pay3 x0) s
  have acc := fxLast (k0_pay1 x0) r (fxN x0 x1 x2 r 16 (Nat.le_refl 16)) (ctK x1) (ctV x2)
  transpose S1024x128 [1, 0] (divf (extractStridedSlice S128x1024 ![0, 0] acc slices_S144x1024_o0_0_S128x1024)
    (broadcastTo S128x1024 (extractStridedSlice S1x1024 ![128, 0] acc slices_S144x1024_o128_0_S1x1024)
      broadcasts_S1x1024_S128x1024)) transposes_S128x1024_p1_0_S1024x128

/-! ## The pass with a running maximum -/

/-- The maximum, the sum of the weights and the weighted sum so far. -/
structure Carry (F : FTy → Type) where
  m : FVec F S1024x1 .f32
  l : FVec F S1024x1 .f32
  acc : FVec F S1024x128 .f32

def sc (q : FVec F S1024x128 .bf16) (k : Vec F S1x1x512x128 .bf16) : FVec F S1024x512 .f32 :=
  matmul dot_S1024x128_S512x128_S1024x512_1_1_0_0_n_n none q
    (shapeCast S512x128 k shapeCasts_S1x1x512x128_S512x128) (constant S1024x512 .f32 0x00000000#32)
def mx (m : FVec F S1024x1 .f32) (s : FVec F S1024x512 .f32) : FVec F S1024x1 .f32 :=
  have t : FVec F S1024 .f32 := multiReduction .maximumf [1] S1024 s 0xFF800000#32 reduces_S1024x512_S1024 (.inl rfl) rfl
  maximumf m (shapeCast S1024x1 t shapeCasts_S1024_S1024x1)
def al (m m' : FVec F S1024x1 .f32) : FVec F S1024x1 .f32 := exp2 (subf m m')
def wt (s : FVec F S1024x512 .f32) (m : FVec F S1024x1 .f32) : FVec F S1024x512 .f32 :=
  exp2 (subf s (broadcastTo S1024x512 m broadcasts_S1024x1_S1024x512))
def ls (α l : FVec F S1024x1 .f32) (p : FVec F S1024x512 .f32) : FVec F S1024x1 .f32 :=
  have u : FVec F S1024 .f32 := multiReduction .add [1] S1024 p 0x00000000#32 reduces_S1024x512_S1024 (.inl rfl) rfl
  addf (mulf α l) (shapeCast S1024x1 u shapeCasts_S1024_S1024x1)
def ac (α : FVec F S1024x1 .f32) (acc : FVec F S1024x128 .f32) (p : FVec F S1024x512 .f32) (v : Vec F S1x1x128x512 .bf16) :
    FVec F S1024x128 .f32 :=
  addf (mulf (broadcastTo S1024x128 α broadcasts_S1024x1_S1024x128) acc)
    (matmul dot_S1024x512_S128x512_S1024x128_1_1_0_0_n_n none (truncf .bf16 p bitsLt_bf16_f32)
      (shapeCast S128x512 v shapeCasts_S1x1x128x512_S128x512) (constant S1024x128 .f32 0x00000000#32))

def rmStep (q : FVec F S1024x128 .bf16) (c : Carry F)
    (k : Vec F S1x1x512x128 .bf16) (v : Vec F S1x1x128x512 .bf16) : Carry F :=
  ⟨mx c.m (sc q k), ls (al c.m (mx c.m (sc q k))) c.l (wt (sc q k) (mx c.m (sc q k))),
    ac (al c.m (mx c.m (sc q k))) c.acc (wt (sc q k) (mx c.m (sc q k))) v⟩

def rmLast (q : FVec F S1024x128 .bf16) (c : Carry F)
    (k : Vec F S1x1x256x128 .bf16) (v : Vec F S1x1x128x256 .bf16) : Carry F :=
  have s : FVec F S1024x256 .f32 := matmul dot_S1024x128_S256x128_S1024x256_1_1_0_0_n_n none q
    (shapeCast S256x128 k shapeCasts_S1x1x256x128_S256x128) (constant S1024x256 .f32 0x00000000#32)
  have t : FVec F S1024 .f32 := multiReduction .maximumf [1] S1024 s 0xFF800000#32 reduces_S1024x256_S1024 (.inl rfl) rfl
  have m := maximumf c.m (shapeCast S1024x1 t shapeCasts_S1024_S1024x1)
  have α := exp2 (subf c.m m)
  have p := exp2 (subf s (broadcastTo S1024x256 m broadcasts_S1024x1_S1024x256))
  have u : FVec F S1024 .f32 := multiReduction .add [1] S1024 p 0x00000000#32 reduces_S1024x256_S1024 (.inl rfl) rfl
  ⟨m, addf (mulf α c.l) (shapeCast S1024x1 u shapeCasts_S1024_S1024x1),
    addf (mulf (broadcastTo S1024x128 α broadcasts_S1024x1_S1024x128) c.acc)
      (matmul dot_S1024x256_S128x256_S1024x128_1_1_0_0_n_n none (truncf .bf16 p bitsLt_bf16_f32)
        (shapeCast S128x256 v shapeCasts_S1x1x128x256_S128x256) (constant S1024x128 .f32 0x00000000#32))⟩

def rmN (x0 : Vec F S1x1x1024x128 .bf16) (x1 : Vec F S1x1x8448x128 .bf16) (x2 : Vec F S1x1x128x8448 .bf16) :
    (n : ℕ) → n ≤ 16 → Carry F
  | 0, _ => ⟨broadcast S1024x1 (Scalar.ofBits .f32 0xF149F2CA#32), broadcast S1024x1 (Scalar.ofBits .f32 0x00000000#32),
      broadcast S1024x128 (Scalar.ofBits .f32 0x00000000#32)⟩
  | n + 1, h => rmStep (k0_pay1 x0) (rmN x0 x1 x2 n (Nat.le_of_succ_le h)) (chK x1 n h) (chV x2 n h)

def rmF (x0 : Vec F S1x1x1024x128 .bf16) (x1 : Vec F S1x1x8448x128 .bf16) (x2 : Vec F S1x1x128x8448 .bf16) :
    FVec F S1024x128 .f32 :=
  have c := rmLast (k0_pay1 x0) (rmN x0 x1 x2 16 (Nat.le_refl 16)) (ctK x1) (ctV x2)
  divf c.acc (broadcastTo S1024x128 c.l broadcasts_S1024x1_S1024x128)

/-! ## The block written -/

/-- Whether the tile's reference is small enough for the first pass. -/
def inRange (x0 : Vec F S1x1x1024x128 .bf16) (s : Vec F S1x1 .f32) : BitVec 1 :=
  Scalar.cmpi .ne (Scalar.extui (Scalar.cmpf .olt (k0_pay4 x0 s) (Scalar.ofBits .f32 0x42600000#32)) : BitVec 32) 0#32

def outF (x0 : Vec F S1x1x1024x128 .bf16) (x1 : Vec F S1x1x8448x128 .bf16) (x2 : Vec F S1x1x128x8448 .bf16)
    (s : Vec F S8x128 .f32) : Vec F S1x1x1024x128 .f32 :=
  k0_pay7 (if inRange (ldQ x0) (s00 s) = 1#1 then fxF (ldQ x0) x1 x2 (s00 s) else rmF (ldQ x0) x1 x2)

/-- Whether the tile is the first of its head. -/
def first (i : grid0.Coords) : BitVec 1 :=
  Scalar.cmpi .ne (Scalar.extui (Scalar.cmpi .eq (BitVec.ofNat 32 (i 2).val) 0#32) : BitVec 32) 0#32

def scrF (i : grid0.Coords) (x1 : Vec F S1x1x8448x128 .bf16) (s : Vec F S8x128 .f32) : Vec F S8x128 .f32 :=
  if first i = 1#1 then knF x1 else s

end Cert.Proof.Mla
-- ==== Proof.Body.lean ====
/-
  The attention body's triple: on whole memrefs holding a query tile, a head's keys, its values and the scratch, the
  body leaves the inputs as they were, the scratch at `scrF` and the result at `outF`.
-/
module

public import proofs.«01_k».proof.Proof.Vals
public import Idealize.ShloMosaic.Lib.Pipeline.Value

@[expose] public section

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero4 : (![0, 0, 0, 0] : Fin 4 → ℕ) = fun _ => 0 := by funext a; fin_cases a <;> rfl
theorem zero2 : (![0, 0] : Fin 2 → ℕ) = fun _ => 0 := by funext a; fin_cases a <;> rfl

theorem whole4 (v : View sig .tc .vmem S1x1x1024x128 .f32) (f : v.ty.Contents (Elt F)) (p : Vec F S1x1x1024x128 .f32) :
    v.read (Elt F) (v.writes (Elt F) f [⟨Rect.unit ![0, 0, 0, 0] S1x1x1024x128.size inb_S1x1x1024x128_S1x1x1024x128_0_0_0_0, p⟩]) = p :=
  (View.read_writes_eq_canon _ _ _ (fun y => ⟨_, List.mem_singleton_self _, View.mem_set_unit_zero zero4 inb_S1x1x1024x128_S1x1x1024x128_0_0_0_0 y⟩)).trans
    (View.canon_unit_zero zero4 _ _)

theorem whole2 (v : View sig .tc .vmem S8x128 .f32) (f : v.ty.Contents (Elt F)) (p : Vec F S8x128 .f32) :
    v.read (Elt F) (v.writes (Elt F) f [⟨Rect.unit ![0, 0] S8x128.size inb_S8x128_S8x128_0_0, p⟩]) = p :=
  (View.read_writes_eq_canon _ _ _ (fun y => ⟨_, List.mem_singleton_self _, View.mem_set_unit_zero zero2 inb_S8x128_S8x128_0_0 y⟩)).trans
    (View.canon_unit_zero zero2 _ _)

theorem cov2 (v : View sig .tc .vmem S8x128 .f32) (p : Vec F S8x128 .f32) :
    v.readCov [⟨Rect.unit ![0, 0] S8x128.size inb_S8x128_S8x128_0_0, p⟩]
      (Rect.unit (s := S8x128) ![0, 0] S1x1.size inb_S8x128_S1x1_0_0).toLoadRect = s00 p := by
  rw [View.readCov_eq_canon_ld _ _ _ (fun y => ⟨_, List.mem_singleton_self _, View.mem_set_unit_zero zero2 inb_S8x128_S8x128_0_0 y⟩),
    View.canon_unit_zero zero2]
  rfl

set_option maxRecDepth 65536 in
set_option maxHeartbeats 1000000 in
theorem body (c : Dev nD) (E : Set ℕ) (i : grid0.Coords)
    (arg3 : Memref sig .tc .vmem S1x1x1024x128 .bf16) (harg3 : arg3.IsWhole)
    (arg4 : Memref sig .tc .vmem S1x1x8448x128 .bf16) (harg4 : arg4.IsWhole)
    (arg5 : Memref sig .tc .vmem S1x1x128x8448 .bf16) (harg5 : arg5.IsWhole)
    (arg6 : Memref sig .tc .vmem S1x1x1024x128 .f32) (harg6 : arg6.IsWhole)
    (arg7 : Memref sig .tc .vmem S8x128 .f32) (harg7 : arg7.IsWhole)
    (x0 : Vec F S1x1x1024x128 .bf16) (x1 : Vec F S1x1x8448x128 .bf16) (x2 : Vec F S1x1x128x8448 .bf16)
    (s : Vec F S8x128 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (outF x0 x1 x2 (scrF i x1 s))
            ∗ owns (c : Thread nD τ) arg7 fullShare (scrF i x1 s)) -∗ K ⟨⟩))
      ⊢ wp frame (wpE (defs₀ (F := F)) Variants.none c none) E
          (cc0_attn_odd_0 i arg3 harg3 arg4 harg4 arg5 harg5 arg6 harg6 arg7 harg7) K := by
  simp only [cc0_attn_odd_0_eq_skeleton]; unfold cc0_attn_odd_0_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases h1 : (Scalar.cmpi .ne (Scalar.extui (Scalar.cmpi .eq (BitVec.ofNat 32 (i 2).val) 0#32) : BitVec 32) 0#32 : BitVec 1) = 1#1
  · sl_exec
    have hs : body.sl.v10 c arg4 arg7 f1 = s00 (knF (View.read (Elt F) arg4.view f1)) := cov2 _ _
    split
    · rename_i hc
      change inRange (ldQ (View.read (Elt F) arg3.view f0)) (body.sl.v10 c arg4 arg7 f1) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = knF (View.read (Elt F) arg4.view f1) from if_pos h1]
        refine Eq.trans ?_ (congrArg k0_pay7 (if_pos (hs ▸ hc)).symm)
        exact congrArg k0_pay7 (show _ = fxF (ldQ (View.read (Elt F) arg3.view f0)) (View.read (Elt F) arg4.view f1) (View.read (Elt F) arg5.view f2) (s00 (knF (View.read (Elt F) arg4.view f1))) from rfl)
      · iexists _; isplitr
        swap; · iexact H4
        ipureintro; exact (whole2 _ _ _).trans ((show _ = knF (View.read (Elt F) arg4.view f1) from rfl).trans (if_pos h1).symm)
    · rename_i hc
      change ¬ inRange (ldQ (View.read (Elt F) arg3.view f0)) (body.sl.v10 c arg4 arg7 f1) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = knF (View.read (Elt F) arg4.view f1) from if_pos h1]
        refine Eq.trans ?_ (congrArg k0_pay7 (if_neg (hs ▸ hc)).symm)
        exact congrArg k0_pay7 (show _ = rmF (ldQ (View.read (Elt F) arg3.view f0)) (View.read (Elt F) arg4.view f1) (View.read (Elt F) arg5.view f2) from rfl)
      · iexists _; isplitr
        swap; · iexact H4
        ipureintro; exact (whole2 _ _ _).trans ((show _ = knF (View.read (Elt F) arg4.view f1) from rfl).trans (if_pos h1).symm)
  · sl_exec
    split
    · rename_i hc
      change inRange (ldQ (View.read (Elt F) arg3.view f0)) (s00 (View.read (Elt F) arg7.view f4)) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = View.read (Elt F) arg7.view f4 from if_neg h1]
        refine Eq.trans ?_ (congrArg k0_pay7 (if_pos hc).symm)
        exact congrArg k0_pay7 (show _ = fxF (ldQ (View.read (Elt F) arg3.view f0)) (View.read (Elt F) arg4.view f1) (View.read (Elt F) arg5.view f2) (s00 (View.read (Elt F) arg7.view f4)) from rfl)
      · iexists _; isplitr
        swap; · iexact H4
        ipureintro; exact (if_neg h1).symm
    · rename_i hc
      change ¬ inRange (ldQ (View.read (Elt F) arg3.view f0)) (s00 (View.read (Elt F) arg7.view f4)) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = View.read (Elt F) arg7.view f4 from if_neg h1]
        refine Eq.trans ?_ (congrArg k0_pay7 (if_neg hc).symm)
        exact congrArg k0_pay7 (show _ = rmF (ldQ (View.read (Elt F) arg3.view f0)) (View.read (Elt F) arg4.view f1) (View.read (Elt F) arg5.view f2) from rfl)
      · iexists _; isplitr
        swap; · iexact H4
        ipureintro; exact (if_neg h1).symm

end Cert.Proof.Mla
-- ==== Proof.Run.lean ====
/-
  The run of the attention call: the proof data of its pipeline (the scratch holds the head's largest key norm at every
  tile but a head's first), the body's obligation at every grid point, and the launch.
-/
module

public import proofs.«01_k».proof.Proof.Body
public import proofs.«01_k».proof.Proof.Gen.KernelIdeal.Points
public import proofs.«01_k».proof.Proof.Gen.KernelIdeal.Launch

@[expose] public section

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords_eq : ∀ t : Fin grid0.N, (grid0.coords t 0).val = t.val / 128 ∧ (grid0.coords t 1).val = t.val / 8 % 16
    ∧ (grid0.coords t 2).val = t.val % 8 := by decide +kernel

theorem first_iff : ∀ t : Fin grid0.N, first (grid0.coords t) = 1#1 ↔ t.val % 8 = 0 := by
  intro t
  have h : ∀ n : Fin 8, ((Scalar.cmpi .ne (Scalar.extui (Scalar.cmpi .eq (BitVec.ofNat 32 n.val) 0#32) : BitVec 32) 0#32 : BitVec 1) = 1#1) ↔ n.val = 0 := by
    decide
  have e := (coords_eq t).2.2
  unfold first
  rw [e]
  exact h ⟨t.val % 8, Nat.mod_lt _ (by decide)⟩

/-- The head's keys are one block at all its tiles. -/
theorem keys_same (c : Dev nD) (t t' : Fin cfg0.N) (h : t.val / 8 = t'.val / 8) : iblk m c 1 t = iblk m c 1 t' := by
  have e0 : grid0.coords t 0 = grid0.coords t' 0 := Fin.ext (by rw [(coords_eq t).1, (coords_eq t').1]; omega)
  have e1 : grid0.coords t 1 = grid0.coords t' 1 := Fin.ext (by rw [(coords_eq t).2.1, (coords_eq t').2.1]; omega)
  have e : cc0_transform_1 (grid0.coords t) = cc0_transform_1 (grid0.coords t') := by
    unfold cc0_transform_1; rw [e0, e1]
  funext j
  refine congrArg (V m c (Pipeline.arrRef spec0 1)) (funext fun a => Fin.ext ?_)
  exact congrArg (fun f => f a * S1x1x8448x128.size a + 1 * (j a).val) e

/-! ## The pipeline's proof data -/

/-- The block written at point `t`. -/
def outAt (c : Dev nD) (t : Fin cfg0.N) : Vec F S1x1x1024x128 .f32 :=
  outF (X0_0 m c t) (iblk m c 1 t) (iblk m c 2 t) (knF (iblk m c 1 t))

/-- Ahead of point `n` the scratch holds the largest key norm of the head, unless a head begins. -/
def scrAt (c : Dev nD) (n : ℕ) (s : Vec F S8x128 .f32) : Prop :=
  ∀ t : Fin cfg0.N, t.val = n → t.val % 8 ≠ 0 → s = knF (iblk m c 1 t)

def Φs (c : Dev nD) (n : ℕ) : sProp 𝕄 :=
  iprop((∃ s, ⌜scrAt m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outAt m c t
  Φ n := Φs m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation -/

theorem scr_eq (c : Dev nD) (t : Fin cfg0.N) (s : Vec F S8x128 .f32) (h : scrAt m c t.val s) :
    scrF (grid0.coords t) (iblk m c 1 t) s = knF (iblk m c 1 t) := by
  unfold scrF
  by_cases h0 : t.val % 8 = 0
  · exact if_pos ((first_iff t).mpr h0)
  · rw [if_neg (fun e => h0 ((first_iff t).mp e))]; exact h t rfl h0

theorem scr_next (c : Dev nD) (t : Fin cfg0.N) : scrAt m c (t.val + 1) (knF (iblk m c 1 t)) := by
  intro t' e h
  rw [keys_same m c t t' (by omega)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Φs m c t.val from rfl, show (dats m 0 c).Φ t.succ = Φs m c (t.val + 1) from rfl,
    show (dats m 0 c).owesAt () t.succ = (dats m 0 c).owesAt () t.castSucc from rfl,
    after0_0, after0_1, after0_2, after0_3]
  unfold Φs
  iintro ⟨⟨⟨%s, %hs, HS⟩, Hr⟩, Ho, ⟨%d0, H0⟩, ⟨%d1, H1⟩, ⟨%d2, H2⟩, ⟨%d3, H3⟩⟩
  iapply (body c Set.univ (grid0.coords t) _ _ _ _ _ _ _ _ _ _ (X0_0 m c t) (iblk m c 1 t) (iblk m c 2 t) s _)
  rw [scr_eq m c t s hs]
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]
    · iexists (knF (iblk m c 1 t)); isplitr
      · ipureintro; exact scr_next m c t
      iexact HS
    iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : ΦA spec0 c ⊢ Φs m c 0 := by
  unfold ΦA Φs
  rw [scopedRest0_eq]
  iintro ⟨⟨%f, H⟩, Hr⟩
  isplitl [H]
  · iexists f; isplitr
    · ipureintro; intro t e h; omega
    unfold owns
    iexists f; isplitr; · ipureintro; rfl
    rw [show ((Memref.whole cc0_scratch0).view.set : Finset _) = Finset.univ from View.set_whole _]
    iexact H
  iexact Hr

theorem Φ_out (c : Dev nD) : Φs m c cfg0.N ⊢ ΦA spec0 c := by
  unfold ΦA Φs
  rw [scopedRest0_eq]
  unfold owns
  iintro ⟨⟨%s, -, %f, -, H⟩, Hr⟩
  isplitl [H]
  · iexists f
    rw [show ((Memref.whole cc0_scratch0).view.set : Finset _) = Finset.univ from View.set_whole _]
    iexact H
  iexact Hr

set_option backward.isDefEq.respectTransparency.types false in
set_option maxRecDepth 16384 in
/-- Every fair execution ends, with every array of the pipeline and every other buffer at what the proof data computes
    and the host's last lines leave, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)
    (Q' := fun r => Pipeline.FramePost cfgs (dats m) 0 (Pipeline.afterTail₀ cfgs (dats m) 0 (V0 m) [hostOps1]) r ∧ r.2.sem = fun _ => 0)
    (hQ' := fun _ h => h)

end Cert.Proof.Mla
-- ==== Proof.Soft.lean ====
/-
  A softmax's weighted sum on the extended reals, apart from any program: scores that are real numbers, values that may be
  infinite. The quotient of the two sums does not depend on the number that is subtracted from the scores.
-/
module

public import Idealize.ShloMosaic.PureOps.Ideal
public import Mathlib.Data.EReal.Inv
public import Mathlib.Analysis.SpecialFunctions.Pow.Real
public import Mathlib.Analysis.SpecialFunctions.Log.Basic

@[expose] public section

noncomputable section

namespace Cert.Proof.Soft

open Idealize.ShloMosaic

theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A nonnegative number goes into a sum, whatever its terms. -/
theorem mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h,
      EReal.left_distrib_of_nonneg_of_ne_top (EReal.coe_nonneg.2 hc) (EReal.coe_ne_top c), ih]

theorem scale_weighted {ι : Type*} (s : Finset ι) {c : ℝ} (hc : 0 ≤ c) (V : ι → EReal) (w : ι → ℝ) :
    (c : EReal) * ∑ i ∈ s, V i * (w i : EReal) = ∑ i ∈ s, V i * ((c * w i : ℝ) : EReal) := by
  rw [mul_sum s hc]
  refine Finset.sum_congr rfl fun i _ => ?_
  rw [EReal.coe_mul, mul_left_comm]

theorem scale_weights {ι : Type*} (s : Finset ι) {c : ℝ} (w : ι → ℝ) :
    (c : EReal) * ∑ i ∈ s, (w i : EReal) = ∑ i ∈ s, ((c * w i : ℝ) : EReal) := by
  rw [coe_sum, coe_sum, ← EReal.coe_mul, Finset.mul_sum]

theorem div_coe {x : EReal} {y : ℝ} (hy : y ≠ 0) : Ideal.div x (y : EReal) = x * ((y⁻¹ : ℝ) : EReal) := by
  unfold Ideal.div
  rw [if_neg (by simpa using hy), ← EReal.coe_inv]

/-- The largest of finitely many real numbers and `⊥` is below `⊤`. -/
theorem fold_lt_top {n : ℕ} (f : Fin n → EReal) (hf : ∀ i, f i < ⊤) : (Finset.univ : Finset (Fin n)).fold max ⊥ f < ⊤ :=
  (Finset.fold_max_lt _).2 ⟨bot_lt_top, fun i _ => hf i⟩

/-- The larger of a real number and such a maximum is a real number, no smaller than the first. -/
theorem max_fold_real {n : ℕ} (m : ℝ) (f : Fin n → ℝ) :
    ∃ M : ℝ, m ≤ M ∧ max (m : EReal) ((Finset.univ : Finset (Fin n)).fold max ⊥ fun i => (f i : EReal)) = (M : EReal) := by
  have h1 : max (m : EReal) ((Finset.univ : Finset (Fin n)).fold max ⊥ fun i => (f i : EReal)) ≠ ⊤ :=
    (max_lt (EReal.coe_lt_top m) (fold_lt_top _ fun i => EReal.coe_lt_top (f i))).ne
  have h2 : (m : EReal) ≤ max (m : EReal) ((Finset.univ : Finset (Fin n)).fold max ⊥ fun i => (f i : EReal)) := le_max_left _ _
  have h3 := ne_of_gt (lt_of_lt_of_le (EReal.bot_lt_coe m) h2)
  refine ⟨_, ?_, (EReal.coe_toReal h1 h3).symm⟩
  rw [← EReal.coe_le_coe_iff, EReal.coe_toReal h1 h3]
  exact h2

/-- The maximum of a nonempty row of real numbers is a real number. -/
theorem fold_real {n : ℕ} (f : Fin (n + 1) → ℝ) :
    ∃ M : ℝ, ((Finset.univ : Finset (Fin (n + 1))).fold max ⊥ fun i => (f i : EReal)) = (M : EReal) := by
  have h1 := (fold_lt_top (fun i => (f i : EReal)) fun i => EReal.coe_lt_top (f i)).ne
  have h2 : (f 0 : EReal) ≤ (Finset.univ : Finset (Fin (n + 1))).fold max ⊥ fun i => (f i : EReal) :=
    (Finset.le_fold_max _).2 (Or.inr ⟨0, Finset.mem_univ _, le_refl _⟩)
  exact ⟨_, (EReal.coe_toReal h1 (ne_of_gt (lt_of_lt_of_le (EReal.bot_lt_coe _) h2))).symm⟩

/-- The weighted sum of the values `V`, the weights proportional to `w` and of sum one. -/
def avg {ι : Type*} [Fintype ι] (w : ι → ℝ) (V : ι → EReal) : EReal := ∑ i, V i * ((w i / ∑ j, w j : ℝ) : EReal)

/-- Proportional weights give the same sum. -/
theorem avg_scale {ι : Type*} [Fintype ι] {c : ℝ} (hc : c ≠ 0) (w : ι → ℝ) (V : ι → EReal) :
    avg (fun i => c * w i) V = avg w V := by
  unfold avg
  refine Finset.sum_congr rfl fun i _ => ?_
  rw [← Finset.mul_sum, mul_div_mul_left _ _ hc]

/-- Dividing once, after the sums, is dividing every weight. -/
theorem div_sums {ι : Type*} [Fintype ι] [Nonempty ι] (w : ι → ℝ) (hw : ∀ i, 0 < w i) (V : ι → EReal) :
    Ideal.div (∑ i, V i * (w i : EReal)) (∑ i, (w i : EReal)) = avg w V := by
  have hs : 0 < ∑ i, w i := Finset.sum_pos (fun i _ => hw i) Finset.univ_nonempty
  rw [coe_sum, div_coe hs.ne', mul_comm, scale_weighted _ (inv_nonneg.2 hs.le)]
  unfold avg
  refine Finset.sum_congr rfl fun i _ => ?_
  rw [div_eq_inv_mul]

/-- Powers of two of the scores less `r`. -/
def pw (s r : ℝ) : ℝ := (2 : ℝ) ^ (s - r)

theorem pw_pos (s r : ℝ) : 0 < pw s r := Real.rpow_pos_of_pos two_pos _

theorem pw_mul (s r r' : ℝ) : pw r r' * pw s r = pw s r' := by
  unfold pw
  rw [← Real.rpow_add two_pos]
  congr 1; ring

theorem exp2_sub (s r : ℝ) : Ideal.exp2 ((s : EReal) - (r : EReal)) = (pw s r : EReal) := by
  rw [← EReal.coe_sub, Ideal.exp2_coe]; rfl

theorem exp_sub (s r : ℝ) : Ideal.exp ((s : EReal) - (r : EReal)) = (Real.exp (s - r) : EReal) := by
  rw [← EReal.coe_sub, Ideal.exp_coe]

/-- The quotient of the two sums, whatever was subtracted. -/
theorem quot {ι : Type*} [Fintype ι] [Nonempty ι] (s : ι → ℝ) (r : ℝ) (V : ι → EReal) :
    Ideal.div (∑ i, V i * (pw (s i) r : EReal)) (∑ i, (pw (s i) r : EReal)) = avg (fun i => (2 : ℝ) ^ s i) V := by
  rw [div_sums _ fun i => pw_pos (s i) r, ← avg_scale (c := (2 : ℝ) ^ (-r)) (Real.rpow_pos_of_pos two_pos _).ne' (fun i => (2 : ℝ) ^ s i)]
  congr 1
  funext i
  unfold pw
  rw [← Real.rpow_add two_pos]; congr 1; ring

/-- The same with each weight divided by their sum, powers of `e`, and the scores in those units. -/
theorem softmax {ι : Type*} [Fintype ι] [Nonempty ι] (s x : ι → ℝ) (hx : ∀ i, x i = s i * Real.log 2) (M : ℝ) (V : ι → EReal) :
    ∑ i, V i * Ideal.div (Real.exp (x i - M) : EReal) (∑ j, (Real.exp (x j - M) : EReal)) = avg (fun i => (2 : ℝ) ^ s i) V := by
  have hs : 0 < ∑ i, Real.exp (x i - M) := Finset.sum_pos (fun i _ => Real.exp_pos _) Finset.univ_nonempty
  rw [← avg_scale (c := Real.exp (-M)) (Real.exp_pos _).ne']
  have he : ∀ i, Real.exp (-M) * (2 : ℝ) ^ s i = Real.exp (x i - M) := fun i => by
    rw [Real.rpow_def_of_pos two_pos, ← Real.exp_add, hx]; congr 1; ring
  unfold avg
  refine Finset.sum_congr rfl fun i _ => ?_
  rw [coe_sum, div_coe hs.ne', ← EReal.coe_mul]
  simp only [he]
  rw [div_eq_mul_inv]

theorem range_step (f : ℕ → EReal) (n k : ℕ) :
    ∑ i ∈ Finset.range (n + k), f i = (∑ i ∈ Finset.range n, f i) + ∑ p : Fin k, f (n + p) := by
  rw [Finset.sum_range_add, Finset.sum_range (fun x => f (n + x))]

end Cert.Proof.Soft

end
-- ==== Proof.Block.lean ====
/-
  The block that one tile of the attention writes, at the ideal values: each query's weighted sum of the values, by either
  pass.
-/
module

public import proofs.«01_k».proof.Proof.Body
public import proofs.«01_k».proof.Proof.Soft
public import Idealize.ShloMosaic.Lib.Pointwise
public import Idealize.ShloMosaic.Lib.Pipeline.Value
public import Idealize.ShloMosaic.Lib.Pipeline.ValueKit

@[expose] public section

set_option maxRecDepth 16384
set_option maxHeartbeats 1000000

noncomputable section

namespace Cert.Proof.Mla

open Cert.KernelIdeal Cert.KernelIdeal.Gen
open Idealize.ShloMosaic Idealize.ShloMosaic.TcCoe Idealize.SL.Sem
open Cert.Proof.Soft

/-! ## Words read as numbers -/

theorem word_bot : Ideal.ofBits .f32 0xFF800000#32 = ⊥ := by
  simp [Ideal.ofBits, Ideal.ieee]

theorem word_low : ∃ c : ℝ, Ideal.ofBits .f32 0xF149F2CA#32 = (c : EReal) := by
  simp only [Ideal.ofBits, Ideal.ieee]
  rw [if_neg (by decide), if_neg (by decide)]
  exact ⟨_, rfl⟩

theorem word_slack : ∃ c : ℝ, Ideal.ofBits .f32 0x3F808312#32 = (c : EReal) := by
  simp only [Ideal.ofBits, Ideal.ieee]
  rw [if_neg (by decide), if_neg (by decide)]
  exact ⟨_, rfl⟩

theorem fexp2_sub (s r : ℝ) : FloatOps.exp2 (F := Ideal) (φ := .f32) ((s : EReal) - (r : EReal)) = (pw s r : EReal) :=
  exp2_sub s r

/-! ## The chunks at an index -/

variable (x0 : Vec Ideal S1x1x1024x128 .bf16) (x1 : Vec Ideal S1x1x8448x128 .bf16) (x2 : Vec Ideal S1x1x128x8448 .bf16)

/-- A key position as an index of the keys. -/
def pos (i : ℕ) : Fin 8448 := Fin.ofNat 8448 i

theorem pos_eq {i : ℕ} (h : i < 8448) : pos i = ⟨i, h⟩ := Fin.ext (Nat.mod_eq_of_lt h)

theorem pos_val (i : Fin 8448) : pos i = i := pos_eq i.isLt

theorem chK_at {n : ℕ} (h : n < 16) (p : Fin 512) (e : Fin 128) :
    chK x1 n h (ix4 0 0 p e) = x1 (ix4 0 0 (pos (512 * n + p)) e) := by
  rw [pos_eq (by omega)]
  pointwise [chK]

theorem chV_at {n : ℕ} (h : n < 16) (d : Fin 128) (p : Fin 512) :
    chV x2 n h (ix4 0 0 d p) = x2 (ix4 0 0 d (pos (512 * n + p))) := by
  rw [pos_eq (by omega)]
  pointwise [chV]

theorem ctK_at (p : Fin 256) (e : Fin 128) : ctK x1 (ix4 0 0 p e) = x1 (ix4 0 0 (pos (512 * 16 + p)) e) := by
  rw [pos_eq (by omega)]
  pointwise [ctK]

theorem ctV_at (d : Fin 128) (p : Fin 256) : ctV x2 (ix4 0 0 d p) = x2 (ix4 0 0 d (pos (512 * 16 + p))) := by
  rw [pos_eq (by omega)]
  pointwise [ctV]

theorem ldQ_eq : ldQ x0 = x0 := View.ld_unit_zero zero4 _ x0

variable (q : Fin 1024 → Fin 128 → ℝ) (k : Fin 8448 → Fin 128 → ℝ)

/-- The score of query `a` and the key at position `i`. -/
def score (a : Fin 1024) (i : ℕ) : ℝ := ∑ e, q a e * k (pos i) e

theorem score_coe (a : Fin 1024) (i : ℕ) : ∑ e, (k (pos i) e : EReal) * (q a e : EReal) = (score q k a i : EReal) := by
  rw [score, ← coe_sum]
  exact Finset.sum_congr rfl fun e _ => by rw [← EReal.coe_mul, mul_comm]

theorem score_coe' (a : Fin 1024) (i : ℕ) : ∑ e, (q a e : EReal) * (k (pos i) e : EReal) = (score q k a i : EReal) := by
  rw [score, ← coe_sum]
  exact Finset.sum_congr rfl fun e _ => by rw [← EReal.coe_mul]

theorem square_coe {n : ℕ} (f : Fin n → ℝ) : ∑ e, (f e : EReal) * (f e : EReal) = ((∑ e, f e * f e : ℝ) : EReal) := by
  rw [← coe_sum]
  exact Finset.sum_congr rfl fun e _ => by rw [← EReal.coe_mul]

/-! ## The largest key norm is a number -/

variable (hq : ∀ a e, x0 (ix4 0 0 a e) = (q a e : EReal)) (hk : ∀ i e, x1 (ix4 0 0 i e) = (k i e : EReal))

include hk in
theorem knN_real : ∀ (n : ℕ) (h : n ≤ 16), ∃ c : ℝ, 0 ≤ c ∧ knN x1 n h (ix2 0 0) = (c : EReal)
  | 0, _ => ⟨0, le_refl _, by
    pointwise [knN]
    exact EReal.coe_zero.symm⟩
  | n + 1, h => by
    obtain ⟨c, hc, e⟩ := knN_real n (Nat.le_of_succ_le h)
    obtain ⟨M, hM, e'⟩ := max_fold_real c fun p : Fin 512 => ∑ e, k (pos (512 * n + p)) e * k (pos (512 * n + p)) e
    refine ⟨M, hc.trans hM, ?_⟩
    rw [← e']
    unfold knN
    pointwise [knStep]
    simp only [chK_at, hk, e, word_bot, square_coe]

include hk in
theorem knF_real : ∃ c : ℝ, s00 (knF x1) (ix2 0 0) = (c : EReal) := by
  obtain ⟨c, hc, e⟩ := knN_real x1 k hk 16 (Nat.le_refl 16)
  obtain ⟨M, hM, e'⟩ := max_fold_real c fun p : Fin 256 => ∑ e, k (pos (512 * 16 + p)) e * k (pos (512 * 16 + p)) e
  refine ⟨Real.sqrt M, ?_⟩
  have h : knLast (knN x1 16 (Nat.le_refl 16)) (ctK x1) (ix2 0 0) = (M : EReal) := by
    rw [← e']
    pointwise [knLast]
    simp only [ctK_at, hk, e, word_bot, square_coe]
  pointwise [s00, knF]
  rw [h, Ideal.sqrt_coe, if_neg (not_lt.2 (hc.trans hM))]

include hq in
/-- The number the first pass subtracts from a query's scores. -/
theorem ref_real (s : Vec Ideal S1x1 .f32) {c : ℝ} (hs : s (ix2 0 0) = (c : EReal)) :
    ∃ ρ : Fin 1024 → ℝ, ∀ a, k0_pay16 (k0_pay3 x0) s (ix2 0 a) = (ρ a : EReal) := by
  obtain ⟨w, hw⟩ := word_slack
  refine ⟨fun a => Real.sqrt (∑ e, q a e * q a e) * (w * c), fun a => ?_⟩
  pointwise [k0_pay16, k0_pay3, k0_pay1]
  simp only [hq, square_coe, hs, hw]
  rw [Ideal.sqrt_coe, if_neg (not_lt.2 (Finset.sum_nonneg fun e _ => mul_self_nonneg _))]
  simp only [EReal.coe_mul]

/-! ## The pass at a fixed reference -/

/-- Row `d` of the values with ones below them, at position `i`. -/
def vone (d : Fin 144) (i : ℕ) : EReal := if h : (d : ℕ) < 128 then x2 (ix4 0 0 ⟨d, h⟩ (pos i)) else 1

include hq hk in
theorem fxN_at (r : FVec Ideal S1x1024 .f32) (ρ : Fin 1024 → ℝ) (hr : ∀ a, r (ix2 0 a) = (ρ a : EReal))
    (d : Fin 144) (a : Fin 1024) : ∀ (n : ℕ) (h : n ≤ 16), fxN x0 x1 x2 r n h (ix2 d a)
      = ∑ i ∈ Finset.range (512 * n), vone x2 d i * (pw (score q k a i) (ρ a) : EReal)
  | 0, _ => by
    rw [Nat.mul_zero, Finset.range_zero, Finset.sum_empty]
    pointwise [fxN]
  | n + 1, h => by
    rw [Nat.mul_succ, range_step, ← fxN_at r ρ hr d a n (Nat.le_of_succ_le h)]
    rw [fxN]
    pointwise [fxStep, k0_pay1]
    simp only [chK_at, chV_at, hk, hq, score_coe, hr, fexp2_sub, vone]

include hq hk in
theorem fxLast_at (r : FVec Ideal S1x1024 .f32) (ρ : Fin 1024 → ℝ) (hr : ∀ a, r (ix2 0 a) = (ρ a : EReal))
    (d : Fin 144) (a : Fin 1024) :
    fxLast (k0_pay1 x0) r (fxN x0 x1 x2 r 16 (Nat.le_refl 16)) (ctK x1) (ctV x2) (ix2 d a)
      = ∑ i : Fin 8448, vone x2 d i * (pw (score q k a i) (ρ a) : EReal) := by
  rw [← Finset.sum_range fun i => vone x2 d i * (pw (score q k a i) (ρ a) : EReal)]
  rw [show 8448 = 512 * 16 + 256 from rfl, range_step, ← fxN_at x0 x1 x2 q k hq hk r ρ hr d a 16 (Nat.le_refl 16)]
  pointwise [fxLast, k0_pay1]
  simp only [ctK_at, ctV_at, hk, hq, score_coe, hr, fexp2_sub, vone]

include hq hk in
theorem fxF_at (s : Vec Ideal S1x1 .f32) {c : ℝ} (hs : s (ix2 0 0) = (c : EReal)) (a : Fin 1024) (d : Fin 128) :
    fxF x0 x1 x2 s (ix2 a d) = avg (fun i : Fin 8448 => (2 : ℝ) ^ score q k a i) fun i => x2 (ix4 0 0 d i) := by
  obtain ⟨ρ, hr⟩ := ref_real x0 q hq s hs
  have h := fxLast_at x0 x1 x2 q k hq hk _ ρ hr
  rw [← quot _ (ρ a)]
  pointwise [fxF]
  rw [h, h]
  have h1 : ∀ i : Fin 8448, vone x2 ⟨d, by omega⟩ i = x2 (ix4 0 0 d i) := fun i => by
    rw [vone, dif_pos d.isLt, pos_val]
  have h2 : ∀ i : Fin 8448, vone x2 128 i = 1 := fun i => by rw [vone, dif_neg (by decide)]
  simp only [h1, h2, one_mul]

/-! ## The pass with a running maximum -/

theorem al_at (m m' : FVec Ideal S1024x1 .f32) (a : Fin 1024) :
    al m m' (ix2 a 0) = FloatOps.exp2 (F := Ideal) (φ := .f32) (m (ix2 a 0) - m' (ix2 a 0)) := by
  pointwise [al]

theorem wt_at (s : FVec Ideal S1024x512 .f32) (m : FVec Ideal S1024x1 .f32) (a : Fin 1024) (p : Fin 512) :
    wt s m (ix2 a p) = FloatOps.exp2 (F := Ideal) (φ := .f32) (s (ix2 a p) - m (ix2 a 0)) := by
  pointwise [wt]

theorem ls_at (α l : FVec Ideal S1024x1 .f32) (w : FVec Ideal S1024x512 .f32) (a : Fin 1024) :
    ls α l w (ix2 a 0) = α (ix2 a 0) * l (ix2 a 0) + ∑ p : Fin 512, w (ix2 a p) := by
  pointwise [ls]

theorem ac_at (α : FVec Ideal S1024x1 .f32) (acc : FVec Ideal S1024x128 .f32) (w : FVec Ideal S1024x512 .f32)
    (v : Vec Ideal S1x1x128x512 .bf16) (a : Fin 1024) (d : Fin 128) :
    ac α acc w v (ix2 a d) = α (ix2 a 0) * acc (ix2 a d) + ∑ p : Fin 512, w (ix2 a p) * v (ix4 0 0 d p) := by
  pointwise [ac]

include hq hk in
theorem rmN_at (a : Fin 1024) : ∀ (n : ℕ) (h : n ≤ 16), ∃ m : ℝ, (rmN x0 x1 x2 n h).m (ix2 a 0) = (m : EReal)
      ∧ (rmN x0 x1 x2 n h).l (ix2 a 0) = ∑ i ∈ Finset.range (512 * n), (pw (score q k a i) m : EReal)
      ∧ ∀ d : Fin 128, (rmN x0 x1 x2 n h).acc (ix2 a d)
        = ∑ i ∈ Finset.range (512 * n), x2 (ix4 0 0 d (pos i)) * (pw (score q k a i) m : EReal)
  | 0, _ => by
    obtain ⟨w, hw⟩ := word_low
    refine ⟨w, ?_, ?_, fun d => ?_⟩
    · pointwise [rmN]
      exact hw
    · rw [Nat.mul_zero, Finset.range_zero, Finset.sum_empty]
      pointwise [rmN]
    · rw [Nat.mul_zero, Finset.range_zero, Finset.sum_empty]
      pointwise [rmN]
  | n + 1, h => by
    obtain ⟨m, hm, hl, hacc⟩ := rmN_at a n (Nat.le_of_succ_le h)
    obtain ⟨M, -, hM⟩ := max_fold_real m fun p : Fin 512 => score q k a (512 * n + p)
    have hm' : mx (rmN x0 x1 x2 n (Nat.le_of_succ_le h)).m (sc (k0_pay1 x0) (chK x1 n h)) (ix2 a 0) = (M : EReal) := by
      pointwise [mx, sc, k0_pay1]
      simp only [chK_at, hk, hq, score_coe', hm, word_bot, hM]
    have hs : ∀ p : Fin 512, sc (k0_pay1 x0) (chK x1 n h) (ix2 a p) = (score q k a (512 * n + p) : EReal) := fun p => by
      pointwise [sc, k0_pay1]
      simp only [chK_at, hk, hq, score_coe']
    refine ⟨M, hm', ?_, fun d => ?_⟩
    · rw [Nat.mul_succ, range_step]
      rw [rmN, rmStep]
      simp only [ls_at, al_at, wt_at, hs, hm', hm, hl, fexp2_sub]
      rw [scale_weights]
      simp only [pw_mul]
    · rw [Nat.mul_succ, range_step]
      rw [rmN, rmStep]
      simp only [ac_at, al_at, wt_at, hs, hm', hm, hacc, chV_at, fexp2_sub]
      rw [scale_weighted _ (pw_pos _ _).le]
      simp only [pw_mul, mul_comm]

include hq hk in
theorem rmF_at (a : Fin 1024) (d : Fin 128) :
    rmF x0 x1 x2 (ix2 a d) = avg (fun i : Fin 8448 => (2 : ℝ) ^ score q k a i) fun i => x2 (ix4 0 0 d i) := by
  obtain ⟨m, hm, hl, hacc⟩ := rmN_at x0 x1 x2 q k hq hk a 16 (Nat.le_refl 16)
  obtain ⟨M, -, hM⟩ := max_fold_real m fun p : Fin 256 => score q k a (512 * 16 + p)
  have hN : ∀ f : ℕ → EReal, ∑ i : Fin 8448, f i
      = (∑ i ∈ Finset.range (512 * 16), f i) + ∑ p : Fin 256, f (512 * 16 + p) := fun f => by
    rw [← Finset.sum_range f, show 8448 = 512 * 16 + 256 from rfl, range_step]
  have hV : (fun i : Fin 8448 => x2 (ix4 0 0 d i)) = fun i : Fin 8448 => x2 (ix4 0 0 d (pos i)) :=
    funext fun i => by rw [pos_val]
  have hm' : (rmLast (k0_pay1 x0) (rmN x0 x1 x2 16 (Nat.le_refl 16)) (ctK x1) (ctV x2)).m (ix2 a 0) = (M : EReal) := by
    pointwise [rmLast, k0_pay1]
    simp only [ctK_at, hk, hq, score_coe', hm, word_bot, hM]
  rw [hV, ← quot _ M]
  rw [hN fun i => x2 (ix4 0 0 d (pos i)) * (pw (score q k a i) M : EReal), hN fun i => (pw (score q k a i) M : EReal)]
  pointwise [rmF, rmLast, k0_pay1]
  simp only [ctK_at, ctV_at, hk, hq, score_coe', hm, hl, hacc, word_bot, hM, fexp2_sub]
  rw [scale_weights, scale_weighted _ (pw_pos _ _).le]
  simp only [pw_mul, mul_comm, Nat.reduceMul]

include hq hk in
/-- The block written: at every query, the weighted sum of the values, whichever pass is taken. -/
theorem outF_at (a : Fin 1024) (d : Fin 128) :
    outF x0 x1 x2 (knF x1) (ix4 0 0 a d)
      = avg (fun i : Fin 8448 => (2 : ℝ) ^ score q k a i) fun i => x2 (ix4 0 0 d i) := by
  obtain ⟨c, hc⟩ := knF_real x1 k hk
  have h7 : ∀ y : FVec Ideal S1024x128 .f32, k0_pay7 y (ix4 0 0 a d) = y (ix2 a d) := fun y => by
    pointwise [k0_pay7]
  rw [outF, h7, ldQ_eq]
  split
  · exact fxF_at x0 x1 x2 q k hq hk _ hc a d
  · exact rmF_at x0 x1 x2 q k hq hk a d

end Cert.Proof.Mla

end
-- ==== Proof.Read.lean ====
/-
  The blocks the attention call reads.
-/
module

public import proofs.«01_k».proof.Proof.Run
public import proofs.«01_k».proof.Proof.Soft
public import proofs.«01_k».proof.Proof.Gen.KernelIdeal.Frame
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.SL.Sem
open Cert.Proof.Soft

variable (m : (ℓ : Loc nD τ sig) → Buf (Elt Ideal) ℓ) (c : Dev nD)

theorem idx : ∀ t : Fin cfg0.N, win0_0.index t = ![t.val / 128, t.val / 8 % 16, t.val % 8, 0]
    ∧ win0_1.index t = ![t.val / 128, t.val / 8 % 16, 0, 0] ∧ win0_2.index t = ![t.val / 128, t.val / 8 % 16 / 2, 0, 0]
    ∧ win0_3.index t = ![t.val / 128, t.val / 8 % 16, t.val % 8, 0] :=
  (by decide +kernel : ∀ t : Fin grid0.N, _)

theorem query_blk (t : Fin cfg0.N) (b : Fin 8) (h : Fin 16) (i : Fin 8448) (a : Fin 1024) (e : Fin 128) (hb : b.val = t.val / 128)
    (hh : h.val = t.val / 8 % 16) (hi : i.val = t.val % 8 * 1024 + a.val) : X0_0 m c t (ix4 0 0 a e) = V m c main_v21 (ix4 b h i e) := by
  unfold X0_0 Pipeline.Window.fill
  rw [dif_pos (moved0_0 t _)]
  blk_ext [iblk, idx t]

theorem key_blk (t : Fin cfg0.N) (b : Fin 8) (h : Fin 16) (i : Fin 8448) (e : Fin 128) (hb : b.val = t.val / 128)
    (hh : h.val = t.val / 8 % 16) : iblk m c 1 t (ix4 0 0 i e) = V m c main_v22 (ix4 b h i e) := by
  blk_ext [iblk, idx t]

/-- A block of the values, for any index map. -/
theorem read_blk (T : grid0.Coords → Fin 4 → ℕ) (hr : ∀ i i' : grid0.Coords, (∀ a, reads0_2 a = true → i a = i' a) → T i = T i')
    (hi : ∀ (i : grid0.Coords) a, (T i a + 1) * S1x1x128x8448.size a ≤ S8x8x128x8448.size a)
    (hw : ∀ i : grid0.Coords, EltTy.bits .bf16 = 32 ∨ (Rect.block (s := S8x8x128x8448) S1x1x128x8448.size (T i) (hi i)).WholeWords (EltTy.packing .bf16))
    (X : FVec Ideal S8x8x128x8448 .bf16) (t : Fin grid0.N) (b p : Fin 8) (d : Fin 128) (i : Fin 8448)
    (e : T (grid0.coords t) = ![b.val, p.val, 0, 0]) :
    ((Pipeline.Window.ofSpec (Memref.whole main_v20) S1x1x128x8448.size T reads0_2 false false 2 stage0_2 sem0_2
      hrank0 hr hi nbuf0_2 (Memref.isWhole_whole _) hw hstage0_2).blk t).view.read (Elt Ideal) X (ix4 0 0 d i) = X (ix4 b p d i) := by
  refine congrArg X (funext fun a => Fin.ext ?_)
  have h : ∀ f : Fin 4 → ℕ, f = ![b.val, p.val, 0, 0] → ∀ a : Fin 4,
      f a * S1x1x128x8448.size a + 1 * (ix4 (0 : Fin 1) (0 : Fin 1) d i a).val = (ix4 b p d i a).val := by
    rintro f rfl a
    match a with
    | 0 => exact Nat.mul_one _
    | 1 => exact Nat.mul_one _
    | 2 => show 0 * _ + 1 * d.val = d.val; omega
    | 3 => show 0 * _ + 1 * i.val = i.val; omega
  exact h _ e a

theorem val_blk (t : Fin cfg0.N) (b p : Fin 8) (d : Fin 128) (i : Fin 8448) (hb : b.val = t.val / 128)
    (hp : p.val = t.val / 8 % 16 / 2) : iblk m c 2 t (ix4 0 0 d i) = V m c main_v20 (ix4 b p d i) :=
  read_blk cc0_transform_2 hreads0_2 hinb0_2 hwx0_2 (V m c main_v20) t b p d i ((idx t).2.2.1.trans (by rw [hb, hp]))

end Cert.Proof.Mla

end
-- ==== Proof.Out.lean ====
/-
  The result, of the array the attention call writes.
-/
module

public import proofs.«01_k».proof.Proof.Run
public import proofs.«01_k».proof.Proof.Soft
public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.SL.Sem
open Cert.Proof.Soft

/-- One head of each pair. -/
def leftHalf (x : FVec Ideal S8x16x8192x128 .f32) : FVec Ideal S8x8x8192x64 .f32 :=
  shapeCast S8x8x8192x64 (extractStridedSlice S8x8x1x8192x64 ![0, 0, 0, 0, 0]
    (shapeCast S8x8x2x8192x128 x shapeCasts_S8x16x8192x128_S8x8x2x8192x128)
    slices_S8x8x2x8192x128_S8x8x1x8192x64_0_0_0_0_0) shapeCasts_S8x8x1x8192x64_S8x8x8192x64

def rightHalf (x : FVec Ideal S8x16x8192x128 .f32) : FVec Ideal S8x8x8192x64 .f32 :=
  shapeCast S8x8x8192x64 (extractStridedSlice S8x8x1x8192x64 ![0, 0, 1, 0, 64]
    (shapeCast S8x8x2x8192x128 x shapeCasts_S8x16x8192x128_S8x8x2x8192x128)
    slices_S8x8x2x8192x128_S8x8x1x8192x64_0_0_1_0_64) shapeCasts_S8x8x1x8192x64_S8x8x8192x64

/-- The two heads of each pair, in order. -/
def pairs (l r : FVec Ideal S8x8x8192x64 .f32) : FVec Ideal S8x8x2x8192x64 .f32 :=
  concatenate S8x8x2x8192x64 2
    [⟨S8x8x1x8192x64, broadcastInDim S8x8x1x8192x64 ![0, 1, 3, 4] bcast_S8x8x8192x64_S8x8x1x8192x64_0_1_3_4 l⟩,
     ⟨S8x8x1x8192x64, broadcastInDim S8x8x1x8192x64 ![0, 1, 3, 4] bcast_S8x8x8192x64_S8x8x1x8192x64_0_1_3_4 r⟩]
    concatenates_S8x8x1x8192x64_S8x8x1x8192x64_S8x8x2x8192x64_d2

def heads (z : FVec Ideal S8x8x2x8192x64 .f32) : FVec Ideal S8x8192x16x64 .f32 :=
  transpose S8x8192x16x64 [0, 2, 1, 3] (shapeCast S8x16x8192x64 z shapeCasts_S8x8x2x8192x64_S8x16x8192x64)
    transposes_S8x16x8192x64_S8x8192x16x64_0_2_1_3

/-- Each head's half of the lanes. -/
def halves (x : FVec Ideal S8x16x8192x128 .f32) : FVec Ideal S8x8192x16x64 .f32 :=
  heads (pairs (leftHalf x) (rightHalf x))

theorem leftHalf_at (x : FVec Ideal S8x16x8192x128 .f32) (b p : Fin 8) (i : Fin 8192) (d : Fin 64) :
    leftHalf x (ix4 b p i d) = x (ix4 b ⟨p * 2, by omega⟩ i ⟨d, by omega⟩) := by
  pointwise [leftHalf]

theorem rightHalf_at (x : FVec Ideal S8x16x8192x128 .f32) (b p : Fin 8) (i : Fin 8192) (d : Fin 64) :
    rightHalf x (ix4 b p i d) = x (ix4 b ⟨p * 2 + 1, by omega⟩ i ⟨64 + d, by omega⟩) := by
  pointwise [rightHalf]

theorem pairs_at (l r : FVec Ideal S8x8x8192x64 .f32) (b p : Fin 8) (j : Fin 2) (i : Fin 8192) (d : Fin 64) :
    pairs l r (ix5 b p j i d) = if _ : (j : ℕ) < 1 then l (ix4 b p i d) else r (ix4 b p i d) := by
  pointwise [pairs]

theorem heads_at (z : FVec Ideal S8x8x2x8192x64 .f32) (b : Fin 8) (i : Fin 8192) (h : Fin 16) (d : Fin 64) :
    heads z (ix4 b i h d) = z (ix5 b ⟨h / 2, by omega⟩ ⟨h % 2, by omega⟩ i d) := by
  pointwise [heads]

theorem halves_at (x : FVec Ideal S8x16x8192x128 .f32) (b : Fin 8) (i : Fin 8192) (h : Fin 16) (d : Fin 64) :
    halves x (ix4 b i h d) = x (ix4 b h i ⟨64 * (h % 2) + d, by omega⟩) := by
  rw [halves, heads_at, pairs_at]
  split
  · rename_i hj; rw [leftHalf_at]; congr 2 <;> exact Fin.ext (by simp at hj; grind)
  · rename_i hj; rw [rightHalf_at]; congr 2 <;> exact Fin.ext (by simp at hj; grind)

end Cert.Proof.Mla

end
-- ==== Proof.Final.lean ====
/-
  The array the attention call leaves, and the program's result.
-/
module

public import proofs.«01_k».proof.Proof.Block
public import proofs.«01_k».proof.Proof.Read
public import proofs.«01_k».proof.Proof.Out
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.SL.Sem
open Cert.Proof.Soft

variable (m : (ℓ : Loc nD τ sig) → Buf (Elt Ideal) ℓ) (c : Dev nD)

/-- The attention of one query row, of the arrays the call reads. -/
def attended (Q : Fin 8 → Fin 16 → Fin 8192 → Fin 128 → ℝ) (K : Fin 8 → Fin 16 → Fin 8448 → Fin 128 → ℝ) (W : FVec Ideal S8x8x128x8448 .bf16) (b : Fin 8) (h : Fin 16)
    (i : Fin 8192) (d : Fin 128) : EReal :=
  avg (fun j : Fin 8448 => (2 : ℝ) ^ ∑ e, Q b h i e * K b h j e) fun j => W (ix4 b ⟨h / 2, by omega⟩ d j)

variable (Q : Fin 8 → Fin 16 → Fin 8192 → Fin 128 → ℝ) (K : Fin 8 → Fin 16 → Fin 8448 → Fin 128 → ℝ)

theorem point (hQ : ∀ (b : Fin 8) (h : Fin 16) (i : Fin 8192) (e : Fin 128), V m c main_v21 (ix4 b h ⟨i, by omega⟩ e) = (Q b h i e : EReal)) (hK : ∀ b h i e, V m c main_v22 (ix4 b h i e) = (K b h i e : EReal))
    (t : Fin cfg0.N) (a : Fin 1024) (b : Fin 8) (h : Fin 16) (i : Fin 8192) (d d' : Fin 128) (hb : b.val = t.val / 128)
    (hh : h.val = t.val / 8 % 16) (hi : i.val = t.val % 8 * 1024 + a.val) (hd : d'.val = d.val) :
    outF (X0_0 m c t) (iblk m c 1 t) (iblk m c 2 t) (knF (iblk m c 1 t)) (ix4 0 0 a d) = attended Q K (V m c main_v20) b h i d' := by
  obtain rfl : d' = d := Fin.ext hd
  refine (outF_at (X0_0 m c t) (iblk m c 1 t) (iblk m c 2 t) (fun a e => Q b h ⟨t.val % 8 * 1024 + a, by omega⟩ e) (fun i e => K b h i e)
    (fun a e => ?_) (fun i e => ?_) a d').trans ?_
  · exact (query_blk m c t b h ⟨t.val % 8 * 1024 + a, by omega⟩ a e hb hh rfl).trans (hQ b h ⟨t.val % 8 * 1024 + a, by omega⟩ e)
  · exact (key_blk m c t b h i e hb hh).trans (hK _ _ _ _)
  · have hV : (fun i => iblk m c 2 t (ix4 0 0 d' i)) = fun j => V m c main_v20 (ix4 b ⟨h / 2, by omega⟩ d' j) :=
      funext fun j => val_blk m c t b ⟨h / 2, by omega⟩ d' j hb (by show h.val / 2 = _; rw [hh])
    have hI : (⟨t.val % 8 * 1024 + a, by omega⟩ : Fin 8192) = i := Fin.ext hi.symm
    unfold attended
    rw [← hV, ← hI]
    simp only [score, pos_val]

theorem final (hQ : ∀ (b : Fin 8) (h : Fin 16) (i : Fin 8192) (e : Fin 128), V m c main_v21 (ix4 b h ⟨i, by omega⟩ e) = (Q b h i e : EReal)) (hK : ∀ b h i e, V m c main_v22 (ix4 b h i e) = (K b h i e : EReal)) :
    (dats m 0 c).arrAt 3 (cfgs 0).N = fun y : S8x16x8192x128.Idx => attended Q K (V m c main_v20) (y 0) (y 1) (y 2) (y 3) := by
  refine (dats m 0 c).arrAt_eq_of_covers 3 _ (by decide +kernel) fun t hf y => ?_
  blk_simp
  rw [after0_3, outAt]
  have hy : y = ix4 (0 : Fin 1) (0 : Fin 1) (y 2 : Fin 1024) (y 3 : Fin 128) := by
    funext a
    match a with
    | 0 => exact Subsingleton.elim (α := Fin 1) _ _
    | 1 => exact Subsingleton.elim (α := Fin 1) _ _
    | 2 => rfl
    | 3 => rfl
  refine (congrArg _ hy).trans (point m c Q K hQ hK t (y 2) _ _ _ (y 3) _ ?_ ?_ ?_ ?_)
  · blk_simp [idx t]
  · blk_simp [idx t]
  · blk_simp [idx t]
  · blk_simp [idx t]

theorem tail_eq : Pipeline.afterTail₀ cfgs (dats m) 0 (V0 m) [hostOps1] c main_v33 = halves ((dats m 0 c).arrAt 3 (cfgs 0).N) := by
  unfold Pipeline.afterTail₀
  simp only [List.flatten_cons, List.flatten_nil, List.append_nil]
  after_results
  have h : Pipeline.withArrays (cfgs 0).spec c (V0 m c) (fun w => (dats m 0 c).arrAt w (cfgs 0).N) (Proc.tc.devRef main_v23)
      = (dats m 0 c).arrAt 3 (cfgs 0).N := Pipeline.withArrays_arr _ launch0.win.arr_inj c _ _ 3
  rw [h]
  rfl

end Cert.Proof.Mla

end
-- ==== Proof.Host.lean ====
/-
  The arrays the attention call reads, of the arguments, and the result, of the array it writes, at the ideal values.
-/
module

public import proofs.«01_k».proof.Proof.Run
public import proofs.«01_k».proof.Proof.Soft
public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.SL.Sem
open Cert.Proof.Soft

/-! ## The arrays read and the result, as terms -/

/-- The latents' array and the context's, one after the other. -/
def join64 (l : FVec Ideal S8x8192x16x64 .f32) (x : FVec Ideal S8x256x16x64 .f32) : FVec Ideal S8x8448x16x64 .f32 :=
  concatenate S8x8448x16x64 1 [⟨S8x8192x16x64, l⟩, ⟨S8x256x16x64, x⟩] concatenates_S8x8192x16x64_S8x256x16x64_S8x8448x16x64_d1

def join32 (l : FVec Ideal S8x8192x16x32 .f32) (x : FVec Ideal S8x256x16x32 .f32) : FVec Ideal S8x8448x16x32 .f32 :=
  concatenate S8x8448x16x32 1 [⟨S8x8192x16x32, l⟩, ⟨S8x256x16x32, x⟩] concatenates_S8x8192x16x32_S8x256x16x32_S8x8448x16x32_d1

def joinR (l : FVec Ideal S8x8192x32 .f32) (x : FVec Ideal S8x256x32 .f32) : FVec Ideal S8x8448x32 .f32 :=
  concatenate S8x8448x32 1 [⟨S8x8192x32, l⟩, ⟨S8x256x32, x⟩] concatenates_S8x8192x32_S8x256x32_S8x8448x32_d1

def zeros : FVec Ideal S8x8448x16x32 .f32 :=
  broadcastInDim S8x8448x16x32 ![] bcast_S_S8x8448x16x32 (constant S_ .f32 0x00000000#32)

/-- Three pieces of 64, 32 and 32 lanes. -/
def lanes (a : FVec Ideal S8x8448x16x64 .f32) (b z : FVec Ideal S8x8448x16x32 .f32) : FVec Ideal S8x8448x16x128 .f32 :=
  concatenate S8x8448x16x128 3 [⟨S8x8448x16x64, a⟩, ⟨S8x8448x16x32, b⟩, ⟨S8x8448x16x32, z⟩]
    concatenates_S8x8448x16x64_S8x8448x16x32_S8x8448x16x32_S8x8448x16x128_d3

def scale : FVec Ideal S_ .f32 :=
  Host.divf (constant S_ .f32 0x3F800000#32) (mulf (Host.sqrt (constant S_ .f32 0x42C00000#32)) (Host.log (constant S_ .f32 0x40000000#32)))

def queries (n : FVec Ideal S8x8448x16x64 .f32) (r : FVec Ideal S8x8448x16x32 .f32) : FVec Ideal S8x16x8448x128 .bf16 :=
  transpose S8x16x8448x128 [0, 2, 1, 3]
    (truncf .bf16 (mulf (lanes n r zeros) (broadcastInDim S8x8448x16x128 ![] bcast_S_S8x8448x16x128 scale)) bitsLt_bf16_f32)
    transposes_S8x8448x16x128_S8x16x8448x128_0_2_1_3

def keys (n : FVec Ideal S8x8448x16x64 .f32) (r : FVec Ideal S8x8448x32 .f32) : FVec Ideal S8x16x8448x128 .bf16 :=
  transpose S8x16x8448x128 [0, 2, 1, 3]
    (truncf .bf16 (lanes n (broadcastInDim S8x8448x16x32 ![0, 1, 2, 3] bcast_S8x8448x1x32_S8x8448x16x32_0_1_2_3
      (broadcastInDim S8x8448x1x32 ![0, 1, 3] bcast_S8x8448x32_S8x8448x1x32_0_1_3 r)) zeros) bitsLt_bf16_f32)
    transposes_S8x8448x16x128_S8x16x8448x128_0_2_1_3

def values (v : FVec Ideal S8x8448x16x64 .f32) : FVec Ideal S8x8x128x8448 .bf16 :=
  truncf .bf16 (transpose S8x8x128x8448 [0, 2, 3, 1] (shapeCast S8x8448x8x128 v shapeCasts_S8x8448x16x64_S8x8448x8x128)
    transposes_S8x8448x8x128_S8x8x128x8448_0_2_3_1) bitsLt_bf16_f32

/-! ## The same at an index -/

theorem join64_at (l : FVec Ideal S8x8192x16x64 .f32) (x : FVec Ideal S8x256x16x64 .f32) (b : Fin 8) (i : Fin 8448)
    (h : Fin 16) (e : Fin 64) : join64 l x (ix4 b i h e)
      = if hi : (i : ℕ) < 8192 then l (ix4 b ⟨i, hi⟩ h e) else x (ix4 b ⟨i - 8192, by omega⟩ h e) := by
  pointwise [join64]

theorem join32_at (l : FVec Ideal S8x8192x16x32 .f32) (x : FVec Ideal S8x256x16x32 .f32) (b : Fin 8) (i : Fin 8448)
    (h : Fin 16) (e : Fin 32) : join32 l x (ix4 b i h e)
      = if hi : (i : ℕ) < 8192 then l (ix4 b ⟨i, hi⟩ h e) else x (ix4 b ⟨i - 8192, by omega⟩ h e) := by
  pointwise [join32]

theorem joinR_at (l : FVec Ideal S8x8192x32 .f32) (x : FVec Ideal S8x256x32 .f32) (b : Fin 8) (i : Fin 8448)
    (e : Fin 32) : joinR l x (ix3 b i e)
      = if hi : (i : ℕ) < 8192 then l (ix3 b ⟨i, hi⟩ e) else x (ix3 b ⟨i - 8192, by omega⟩ e) := by
  pointwise [joinR]

theorem word_96 : Ideal.ofBits .f32 0x42C00000#32 = ((96 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

theorem scale_at (j : S_.Idx) : scale j = ((1 / (Real.sqrt 96 * Real.log 2) : ℝ) : EReal) := by
  pointwise [scale]
  rw [word_96, word_2, Ideal.sqrt_coe, Ideal.log_coe, if_neg (by norm_num), if_neg (by norm_num), ← EReal.coe_mul,
    div_coe (by positivity), one_mul, one_div]

theorem query_at (n : FVec Ideal S8x8448x16x64 .f32) (r : FVec Ideal S8x8448x16x32 .f32) (b : Fin 8) (h : Fin 16)
    (i : Fin 8448) (e : Fin 128) : queries n r (ix4 b h i e)
      = (if he : (e : ℕ) < 64 then n (ix4 b i h ⟨e, he⟩) else
          if he : (e : ℕ) - 64 < 32 then r (ix4 b i h ⟨e - 64, he⟩) else 0) * scale ix0 := by
  pointwise [queries, lanes, zeros]

theorem key_at (n : FVec Ideal S8x8448x16x64 .f32) (r : FVec Ideal S8x8448x32 .f32) (b : Fin 8) (h : Fin 16)
    (i : Fin 8448) (e : Fin 128) : keys n r (ix4 b h i e)
      = (if he : (e : ℕ) < 64 then n (ix4 b i h ⟨e, he⟩) else
          if he : (e : ℕ) - 64 < 32 then r (ix3 b i ⟨e - 64, he⟩) else 0) := by
  pointwise [keys, lanes, zeros]

theorem value_at (v : FVec Ideal S8x8448x16x64 .f32) (b p : Fin 8) (e : Fin 128) (i : Fin 8448) :
    values v (ix4 b p e i) = v (ix4 b i ⟨p * 2 + e / 64, by omega⟩ ⟨e % 64, by omega⟩) := by
  pointwise [values]

end Cert.Proof.Mla

end
-- ==== Proof.Arrays.lean ====
/-
  The arrays the attention call reads, of the program's arguments.
-/
module

public import proofs.«01_k».proof.Proof.Run
public import proofs.«01_k».proof.Proof.Host
public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Mla

open Cert.KernelIdeal Cert.KernelIdeal.Gen
open Idealize.ShloMosaic Idealize.ShloMosaic.TcCoe Idealize.SL.Sem
open Cert.Proof.Soft

/-! ## The call's arrays -/

variable (m : (ℓ : Loc nD τ sig) → Buf (Elt Ideal) ℓ) (c : Dev nD)

theorem V_q : (V m c main_v21 : FVec Ideal S8x16x8448x128 .bf16)
    = queries (join64 (m ((c.tc : Thread nD τ).loc main_arg0)) (m ((c.tc : Thread nD τ).loc main_arg5)))
      (join32 (m ((c.tc : Thread nD τ).loc main_arg1)) (m ((c.tc : Thread nD τ).loc main_arg6))) := by
  simp only [V, V0, List.flatten_cons, List.flatten_nil, List.append_nil]
  after_results
  rfl

theorem V_k : (V m c main_v22 : FVec Ideal S8x16x8448x128 .bf16)
    = keys (join64 (m ((c.tc : Thread nD τ).loc main_arg2)) (m ((c.tc : Thread nD τ).loc main_arg7)))
      (joinR (m ((c.tc : Thread nD τ).loc main_arg3)) (m ((c.tc : Thread nD τ).loc main_arg8))) := by
  simp only [V, V0, List.flatten_cons, List.flatten_nil, List.append_nil]
  after_results
  rfl

theorem V_v : (V m c main_v20 : FVec Ideal S8x8x128x8448 .bf16)
    = values (join64 (m ((c.tc : Thread nD τ).loc main_arg4)) (m ((c.tc : Thread nD τ).loc main_arg9))) := by
  simp only [V, V0, List.flatten_cons, List.flatten_nil, List.append_nil]
  after_results
  rfl

end Cert.Proof.Mla

end
-- ==== Proof.Ref.lean ====
/-
  The reference's result at an index.
-/
module

public import proofs.«01_k».proof.Proof.Soft
public import proofs.«01_k».proof.Proof.Gen.ReferenceIdeal
public import proofs.«01_k».proof.Proof.Gen.ReferenceIdeal.Run
public import Idealize.ShloMosaic.Lib.Pointwise
public import Idealize.ShloMosaic.Lib.Claim
public import Idealize.ShloMosaic.Lib.IdealHost

@[expose] public section

set_option maxRecDepth 16384

noncomputable section

namespace Cert.Proof.Ref

open Cert.ReferenceIdeal Cert.ReferenceIdeal.Gen
open Idealize.ShloMosaic Idealize.ShloMosaic.TcCoe Idealize.SL.Sem
open Cert.Proof.Soft

/-! ## The reference's stages -/

/-- The latents' array and the context's, one after the other. -/
def join64 (l : FVec Ideal S8x8192x16x64 .f32) (x : FVec Ideal S8x256x16x64 .f32) : FVec Ideal S8x8448x16x64 .f32 :=
  concatenate S8x8448x16x64 1 [⟨S8x8192x16x64, l⟩, ⟨S8x256x16x64, x⟩] concatenates_S8x8192x16x64_S8x256x16x64_S8x8448x16x64_d1

def joinR (l : FVec Ideal S8x8192x32 .f32) (x : FVec Ideal S8x256x32 .f32) : FVec Ideal S8x8448x32 .f32 :=
  concatenate S8x8448x32 1 [⟨S8x8192x32, l⟩, ⟨S8x256x32, x⟩] concatenates_S8x8192x32_S8x256x32_S8x8448x32_d1

def scores (qn : FVec Ideal S8x8192x16x64 .f32) (qr : FVec Ideal S8x8192x16x32 .f32) (kn : FVec Ideal S8x8448x16x64 .f32)
    (kr : FVec Ideal S8x8448x32 .f32) : FVec Ideal S8x16x8192x8448 .f32 :=
  mulf (addf (Host.dotGeneral dot_S8x8192x16x64_S8x8448x16x64_S8x16x8192x8448_3_3_1_1_02_02 none qn kn)
      (transpose S8x16x8192x8448 [0, 3, 2, 1] (Host.dotGeneral dot_S8x8448x32_S8x8192x16x32_S8x8448x8192x16_2_3_1_12_0_0 none kr qr)
        transposes_S8x8448x8192x16_S8x16x8192x8448_0_3_2_1))
    (broadcastInDim S8x16x8192x8448 ![] bcast_S_S8x16x8192x8448 (Host.divf (constant S_ .f32 0x3F800000#32) (Host.sqrt (constant S_ .f32 0x42C00000#32))))

/-- A row's number at each of its positions. -/
def along (x : FVec Ideal S8x16x8192 .f32) : FVec Ideal S8x16x8192x8448 .f32 :=
  broadcastInDim S8x16x8192x8448 ![0, 1, 2, 3] bcast_S8x16x8192x1_S8x16x8192x8448_0_1_2_3
    (broadcastInDim S8x16x8192x1 ![0, 1, 2] bcast_S8x16x8192_S8x16x8192x1_0_1_2 x)

def top (s : FVec Ideal S8x16x8192x8448 .f32) (z : FVec Ideal S_ .f32) : FVec Ideal S8x16x8192 .f32 :=
  Host.reduce FloatOps.maximumf s z reducesTo_S8x16x8192x8448_S8x16x8192_d3 h_S_

def atLeast (z : FVec Ideal S_ .f32) (x : FVec Ideal S8x16x8192 .f32) : FVec Ideal S8x16x8192 .f32 :=
  maximumf (broadcastInDim S8x16x8192 ![] bcast_S_S8x16x8192 z) x

def peak (s : FVec Ideal S8x16x8192x8448 .f32) : FVec Ideal S8x16x8192 .f32 :=
  atLeast (constant S_ .f32 0xFF800000#32) (top s (constant S_ .f32 0xFF800000#32))

def powers (s : FVec Ideal S8x16x8192x8448 .f32) : FVec Ideal S8x16x8192x8448 .f32 := Host.exp (subf s (along (peak s)))

def weights (e : FVec Ideal S8x16x8192x8448 .f32) : FVec Ideal S8x16x8192x8448 .f32 :=
  Host.divf e (along (Host.reduceAdd e (constant S_ .f32 0x00000000#32) reducesTo_S8x16x8192x8448_S8x16x8192_d3 h_S_))

def mix (v : FVec Ideal S8x8448x16x64 .f32) (w : FVec Ideal S8x16x8192x8448 .f32) : FVec Ideal S8x8192x16x64 .f32 :=
  transpose S8x8192x16x64 [0, 3, 1, 2] (Host.dotGeneral dot_S8x8448x16x64_S8x16x8192x8448_S8x16x64x8192_1_3_3_2_02_01 none v w)
    transposes_S8x16x64x8192_S8x8192x16x64_0_3_1_2

variable (m : (ℓ : Loc nD τ sig) → Buf (Elt Ideal) ℓ) (c : Dev nD)

theorem res_eq : Value.res_main_v23 m c
    = mix (join64 (m ((c.tc : Thread nD τ).loc main_arg4)) (m ((c.tc : Thread nD τ).loc main_arg9)))
      (weights (powers (scores (m ((c.tc : Thread nD τ).loc main_arg0)) (m ((c.tc : Thread nD τ).loc main_arg1))
        (join64 (m ((c.tc : Thread nD τ).loc main_arg2)) (m ((c.tc : Thread nD τ).loc main_arg7)))
        (joinR (m ((c.tc : Thread nD τ).loc main_arg3)) (m ((c.tc : Thread nD τ).loc main_arg8)))))) := rfl

/-! ## The same at an index -/

theorem word_96 : Ideal.ofBits .f32 0x42C00000#32 = ((96 : ℝ) : EReal) := by
  simp [Ideal.ofBits, Ideal.ieee, -EReal.coe_mul]; norm_num

theorem word_low : Ideal.ofBits .f32 0xFF800000#32 = ⊥ := by
  simp [Ideal.ofBits, Ideal.ieee]

theorem scores_at (qn : FVec Ideal S8x8192x16x64 .f32) (qr : FVec Ideal S8x8192x16x32 .f32) (kn : FVec Ideal S8x8448x16x64 .f32)
    (kr : FVec Ideal S8x8448x32 .f32) (b : Fin 8) (h : Fin 16) (i : Fin 8192) (j : Fin 8448) : scores qn qr kn kr (ix4 b h i j)
      = (((∑ e : Fin 64, qn (ix4 b i h e) * kn (ix4 b j h e)) + ∑ e : Fin 32, kr (ix3 b j e) * qr (ix4 b i h e))
        * ((1 / Real.sqrt 96 : ℝ) : EReal) : EReal) := by
  have hs : Ideal.div 1 (Ideal.sqrt (Ideal.ofBits .f32 0x42C00000#32)) = ((1 / Real.sqrt 96 : ℝ) : EReal) := by
    rw [word_96, Ideal.sqrt_coe, if_neg (by norm_num), div_coe (by positivity), one_mul, one_div]
  pointwise [scores]
  rw [hs]

theorem along_at (x : FVec Ideal S8x16x8192 .f32) (b : Fin 8) (h : Fin 16) (i : Fin 8192) (j : Fin 8448) :
    along x (ix4 b h i j) = x (ix3 b h i) := by
  pointwise [along]

theorem top_at (s : FVec Ideal S8x16x8192x8448 .f32) (z : FVec Ideal S_ .f32) (b : Fin 8) (h : Fin 16) (i : Fin 8192) :
    top s z (ix3 b h i) = Finset.univ.fold max (z (Shape.Idx.first h_S_)) fun j : Fin 8448 => s (ix4 b h i j) := by
  unfold top
  generalize (reducesTo_S8x16x8192x8448_S8x16x8192_d3 : S8x16x8192x8448.ReducesTo [3] S8x16x8192) = hr
  simp only [pointwise]

theorem atLeast_at (z : FVec Ideal S_ .f32) (x : FVec Ideal S8x16x8192 .f32) (b : Fin 8) (h : Fin 16) (i : Fin 8192) :
    atLeast z x (ix3 b h i) = (max (z ix0) (x (ix3 b h i)) : EReal) := by
  pointwise [atLeast]

theorem low_at (j : S_.Idx) : constant (F := Ideal) S_ .f32 0xFF800000#32 j = (⊥ : EReal) := word_low

theorem peak_at (s : FVec Ideal S8x16x8192x8448 .f32) (b : Fin 8) (h : Fin 16) (i : Fin 8192) :
    peak s (ix3 b h i) = max ⊥ (Finset.univ.fold max (⊥ : EReal) fun j : Fin 8448 => s (ix4 b h i j)) := by
  unfold peak
  rw [atLeast_at, top_at, low_at, low_at]

theorem powers_at (s : FVec Ideal S8x16x8192x8448 .f32) (b : Fin 8) (h : Fin 16) (i : Fin 8192) (j : Fin 8448) :
    powers s (ix4 b h i j) = Ideal.exp (s (ix4 b h i j) - along (peak s) (ix4 b h i j)) := by
  pointwise [powers]

theorem weights_at (e : FVec Ideal S8x16x8192x8448 .f32) (b : Fin 8) (h : Fin 16) (i : Fin 8192) (j : Fin 8448) :
    weights e (ix4 b h i j) = Ideal.div (e (ix4 b h i j)) (∑ k : Fin 8448, e (ix4 b h i k)) := by
  pointwise [weights, along]

theorem mix_at (v : FVec Ideal S8x8448x16x64 .f32) (w : FVec Ideal S8x16x8192x8448 .f32) (b : Fin 8) (i : Fin 8192) (h : Fin 16)
    (d : Fin 64) : mix v w (ix4 b i h d) = ∑ j : Fin 8448, v (ix4 b j h d) * w (ix4 b h i j) := by
  pointwise [mix]

/-- The attention of real scores is the mean weighted by their exponentials, which are powers of two of the scores divided by `log 2`. -/
theorem attention (s : FVec Ideal S8x16x8192x8448 .f32) (v : FVec Ideal S8x8448x16x64 .f32) (b : Fin 8) (i : Fin 8192) (h : Fin 16)
    (d : Fin 64) (σ : Fin 8448 → ℝ) (hσ : ∀ j, s (ix4 b h i j) = ((σ j * Real.log 2 : ℝ) : EReal)) :
    mix v (weights (powers s)) (ix4 b i h d) = avg (fun j : Fin 8448 => (2 : ℝ) ^ σ j) fun j => v (ix4 b j h d) := by
  obtain ⟨M, hM⟩ := fold_real fun j : Fin (8447 + 1) => σ j * Real.log 2
  have hp : peak s (ix3 b h i) = (M : EReal) := by
    rw [peak_at, bot_sup_eq]
    simp only [hσ]
    exact hM
  have he : ∀ j, powers s (ix4 b h i j) = (Real.exp (σ j * Real.log 2 - M) : EReal) := fun j => by
    rw [powers_at, along_at, hp, hσ, exp_sub]
  rw [mix_at]
  simp only [weights_at, he]
  exact softmax σ (fun j => σ j * Real.log 2) (fun _ => rfl) M _

end Cert.Proof.Ref

end
-- ==== Proof.Finite.lean ====
/-
  What the precondition says: the queries of the latents and every key are real numbers.
-/
module

public import proofs.«01_k».proof.Pre_finite_qk
public import proofs.«01_k».proof.Proof.Gen.Pre_finite_qk
public import Idealize.ShloMosaic.Lib.ReduceAll
public import Idealize.ShloMosaic.Lib.Pointwise
public import Idealize.ShloMosaic.Lib.IdealHost

@[expose] public section

set_option maxRecDepth 16384

noncomputable section

namespace Cert.Proof.Finite

open Idealize.ShloMosaic
open Cert.Pre_finite_qk

/-- An array of real numbers. -/
def Reals {s : Shape} (x : FVec Ideal s .f32) : Prop := ∀ i, x i = ((EReal.toReal (x i) : ℝ) : EReal)

theorem low_at (j : S_.Idx) : constant (F := Ideal) S_ .f32 0xFF800000#32 j = (⊥ : EReal) := by
  show Ideal.ofBits .f32 0xFF800000#32 = ⊥
  simp [Ideal.ofBits, Ideal.ieee]

theorem high_at (j : S_.Idx) : constant (F := Ideal) S_ .f32 0x7F800000#32 j = (⊤ : EReal) := by
  show Ideal.ofBits .f32 0x7F800000#32 = ⊤
  simp [Ideal.ofBits, Ideal.ieee]

theorem one_at {x : IVec S_ 1} {y : IVec S_ 1} (h : andi x y = fun _ => 1#1) : (x = fun _ => 1#1) ∧ y = fun _ => 1#1 :=
  ⟨funext fun j => (IntOp.andi_eq_one.1 (congrFun h j)).1, funext fun j => (IntOp.andi_eq_one.1 (congrFun h j)).2⟩

/-- All of an array above `⊥` and below `⊤`. -/
theorem real_of {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (andi (cmpf .ogt x (broadcastInDim s ![] hb (constant S_ .f32 0xFF800000#32)))
      (cmpf .olt x (broadcastInDim s ![] hb (constant S_ .f32 0x7F800000#32)))) (constantI S_ 1 1#1) hr hu = fun _ => 1#1) : Reals x := by
  intro i
  haveI : Subsingleton S_.Idx := ⟨fun a b => funext fun k => k.elim0⟩
  obtain ⟨h1, h2⟩ := IntOp.andi_eq_one.1 (Host.reduce_andi_all _ _ hr hu (fun k => k.elim0) (congrFun h _) i)
  have h1' : Ideal.cmp .ogt (x i) (broadcastInDim s ![] hb (constant (F := Ideal) S_ .f32 0xFF800000#32) i) = 1 := h1
  have h2' : Ideal.cmp .olt (x i) (broadcastInDim s ![] hb (constant (F := Ideal) S_ .f32 0x7F800000#32) i) = 1 := h2
  rw [show broadcastInDim s ![] hb (constant (F := Ideal) S_ .f32 0xFF800000#32) i = (⊥ : EReal) from low_at _, Ideal.cmp_ogt_eq_one] at h1'
  rw [show broadcastInDim s ![] hb (constant (F := Ideal) S_ .f32 0x7F800000#32) i = (⊤ : EReal) from high_at _, Ideal.cmp_olt_eq_one] at h2'
  exact (EReal.coe_toReal h2'.ne h1'.ne').symm

theorem reals (a0 : FVec Ideal S8x8192x16x64 .f32) (a1 : FVec Ideal S8x8192x16x32 .f32) (a2 : FVec Ideal S8x8192x16x64 .f32)
    (a3 : FVec Ideal S8x8192x32 .f32) (a4 : FVec Ideal S8x8192x16x64 .f32) (a5 : FVec Ideal S8x256x16x64 .f32)
    (a6 : FVec Ideal S8x256x16x32 .f32) (a7 : FVec Ideal S8x256x16x64 .f32) (a8 : FVec Ideal S8x256x32 .f32)
    (a9 : FVec Ideal S8x256x16x64 .f32) (h : fn (F := Ideal) a0 a1 a2 a3 a4 a5 a6 a7 a8 a9 = fun _ => 1#1) :
    Reals a0 ∧ Reals a1 ∧ Reals a2 ∧ Reals a3 ∧ Reals a7 ∧ Reals a8 := by
  dsimp only [fn, fn_part1, fn_part2] at h
  obtain ⟨h, h8⟩ := one_at h
  obtain ⟨h, h7⟩ := one_at h
  obtain ⟨h, h3⟩ := one_at h
  obtain ⟨h, h2⟩ := one_at h
  obtain ⟨h0, h1⟩ := one_at h
  exact ⟨real_of _ _ _ _ h0, real_of _ _ _ _ h1, real_of _ _ _ _ h2, real_of _ _ _ _ h3, real_of _ _ _ _ h7, real_of _ _ _ _ h8⟩

end Cert.Proof.Finite

end
-- ==== Proof.Value.lean ====
/-
  The two results are one array.
-/
module

public import proofs.«01_k».proof.Proof.Final
public import proofs.«01_k».proof.Proof.Arrays
public import proofs.«01_k».proof.Proof.Ref
public import proofs.«01_k».proof.Proof.Finite

@[expose] public section

set_option maxRecDepth 16384

noncomputable section

namespace Cert.Proof.Mla

open Cert.KernelIdeal Cert.KernelIdeal.Gen
open Idealize.ShloMosaic Idealize.ShloMosaic.TcCoe Idealize.SL.Sem
open Cert.Proof.Soft Cert.Proof.Finite

/-! ## Sums over the lanes -/

/-- 64 lanes, 32 lanes and zeros. -/
def lane (f : Fin 64 → ℝ) (g : Fin 32 → ℝ) (e : Fin 128) : ℝ :=
  if he : (e : ℕ) < 64 then f ⟨e, he⟩ else if he : (e : ℕ) - 64 < 32 then g ⟨e - 64, he⟩ else 0

theorem lane_left (f g) (e : Fin 64) : lane f g ⟨e, by omega⟩ = f e := dif_pos e.isLt

theorem lane_mid (f g) (e : Fin 32) : lane f g ⟨64 + e, by omega⟩ = g e := by
  unfold lane
  rw [dif_neg (by simp), dif_pos (by simp)]
  exact congrArg g (Fin.ext (by simp))

theorem lane_right (f g) (e : Fin 32) : lane f g ⟨96 + e, by omega⟩ = 0 := by
  unfold lane
  rw [dif_neg (by simp; omega), dif_neg (by simp; omega)]

theorem lanes_split (F : Fin 128 → ℝ) : ∑ e, F e
    = (∑ e : Fin 64, F ⟨e, by omega⟩) + ((∑ e : Fin 32, F ⟨64 + e, by omega⟩) + ∑ e : Fin 32, F ⟨96 + e, by omega⟩) := by
  rw [show (∑ e, F e) = ∑ e : Fin (64 + (32 + 32)), F e from rfl, Fin.sum_univ_add, Fin.sum_univ_add]
  rfl

theorem lanes_sum (f k : Fin 64 → ℝ) (g l : Fin 32 → ℝ) (s : ℝ) :
    ∑ e, (lane f g e * s) * lane k l e = ((∑ e, f e * k e) + ∑ e, l e * g e) * s := by
  rw [lanes_split]
  simp only [lane_left, lane_mid, lane_right, zero_mul, mul_zero, Finset.sum_const_zero, add_zero, add_mul, Finset.sum_mul]
  exact congrArg₂ _ (Finset.sum_congr rfl fun _ _ => by ring) (Finset.sum_congr rfl fun _ _ => by ring)

/-! ## Real arrays one after the other -/

theorem real_join64 {l : FVec Ideal S8x8192x16x64 .f32} {x : FVec Ideal S8x256x16x64 .f32} (hl : Reals l) (hx : Reals x) (b : Fin 8)
    (j : Fin 8448) (h : Fin 16) (e : Fin 64) : join64 l x (ix4 b j h e) = (((join64 l x (ix4 b j h e)).toReal : ℝ) : EReal) := by
  rw [join64_at]
  split
  · exact hl _
  · exact hx _

theorem real_joinR {l : FVec Ideal S8x8192x32 .f32} {x : FVec Ideal S8x256x32 .f32} (hl : Reals l) (hx : Reals x) (b : Fin 8)
    (j : Fin 8448) (e : Fin 32) : joinR l x (ix3 b j e) = (((joinR l x (ix3 b j e)).toReal : ℝ) : EReal) := by
  rw [joinR_at]
  split
  · exact hl _
  · exact hx _

/-- The factor the kernel's queries carry. -/
def factor : ℝ := 1 / (Real.sqrt 96 * Real.log 2)

theorem query_real (n : FVec Ideal S8x8192x16x64 .f32) (n' : FVec Ideal S8x256x16x64 .f32) (r : FVec Ideal S8x8192x16x32 .f32)
    (r' : FVec Ideal S8x256x16x32 .f32) (hn : Reals n) (hr : Reals r) (b : Fin 8) (h : Fin 16) (i : Fin 8192) (e : Fin 128) :
    queries (join64 n n') (join32 r r') (ix4 b h ⟨i, by omega⟩ e)
      = ((lane (fun e => (n (ix4 b i h e)).toReal) (fun e => (r (ix4 b i h e)).toReal) e * factor : ℝ) : EReal) := by
  rw [query_at, scale_at, EReal.coe_mul]
  refine congrArg (· * _) ?_
  unfold lane
  split
  · rw [join64_at, dif_pos i.isLt]; exact hn _
  · split
    · rw [join32_at, dif_pos i.isLt]; exact hr _
    · rfl

theorem key_real (n : FVec Ideal S8x8448x16x64 .f32) (r : FVec Ideal S8x8448x32 .f32)
    (hn : ∀ b j h e, n (ix4 b j h e) = (((n (ix4 b j h e)).toReal : ℝ) : EReal))
    (hr : ∀ b j e, r (ix3 b j e) = (((r (ix3 b j e)).toReal : ℝ) : EReal)) (b : Fin 8) (h : Fin 16) (j : Fin 8448) (e : Fin 128) :
    keys n r (ix4 b h j e) = ((lane (fun e => (n (ix4 b j h e)).toReal) (fun e => (r (ix3 b j e)).toReal) e : ℝ) : EReal) := by
  rw [key_at]
  unfold lane
  split
  · exact hn _ _ _ _
  · split
    · exact hr _ _ _
    · rfl

/-- The reference's score is the kernel's, times `log 2`. -/
theorem score_eq (qn : FVec Ideal S8x8192x16x64 .f32) (qr : FVec Ideal S8x8192x16x32 .f32) (kn : FVec Ideal S8x8448x16x64 .f32)
    (kr : FVec Ideal S8x8448x32 .f32) (hqn : Reals qn) (hqr : Reals qr) (hkn : ∀ b j h e, kn (ix4 b j h e) = (((kn (ix4 b j h e)).toReal : ℝ) : EReal))
    (hkr : ∀ b j e, kr (ix3 b j e) = (((kr (ix3 b j e)).toReal : ℝ) : EReal)) (b : Fin 8) (h : Fin 16) (i : Fin 8192) (j : Fin 8448) :
    Ref.scores qn qr kn kr (ix4 b h i j)
      = (((∑ e, (lane (fun e => (qn (ix4 b i h e)).toReal) (fun e => (qr (ix4 b i h e)).toReal) e * factor)
          * lane (fun e => (kn (ix4 b j h e)).toReal) (fun e => (kr (ix3 b j e)).toReal) e) * Real.log 2 : ℝ) : EReal) := by
  rw [lanes_sum, Ref.scores_at]
  have h1 : ∀ e : Fin 64, qn (ix4 b i h e) * kn (ix4 b j h e) = (((qn (ix4 b i h e)).toReal * (kn (ix4 b j h e)).toReal : ℝ) : EReal) := fun e => by
    rw [EReal.coe_mul, ← hqn, ← hkn]
  have h2 : ∀ e : Fin 32, kr (ix3 b j e) * qr (ix4 b i h e) = (((kr (ix3 b j e)).toReal * (qr (ix4 b i h e)).toReal : ℝ) : EReal) := fun e => by
    rw [EReal.coe_mul, ← hqr, ← hkr]
  rw [Finset.sum_congr rfl fun e _ => h1 e, Finset.sum_congr rfl fun e _ => h2 e, coe_sum, coe_sum, ← EReal.coe_add, ← EReal.coe_mul]
  refine congrArg _ ?_
  have hl : Real.log 2 ≠ 0 := (Real.log_pos (by norm_num)).ne'
  have hs : Real.sqrt 96 ≠ 0 := (Real.sqrt_pos.2 (by norm_num)).ne'
  unfold factor
  field_simp

/-- The values' block of a head holds the head's values in its half of the lanes. -/
theorem value_half (v : FVec Ideal S8x8448x16x64 .f32) (b : Fin 8) (h : Fin 16) (d : Fin 64) (j : Fin 8448) :
    values v (ix4 b ⟨h / 2, by omega⟩ ⟨64 * (h % 2) + d, by omega⟩ j) = v (ix4 b j h d) := by
  rw [value_at]
  congr 2
  · exact Fin.ext (by simp; omega)
  · exact Fin.ext (by simp)

theorem result_eq (a0 : FVec Ideal S8x8192x16x64 .f32) (a1 : FVec Ideal S8x8192x16x32 .f32)
    (kn v : FVec Ideal S8x8448x16x64 .f32) (kr : FVec Ideal S8x8448x32 .f32) (h0 : Reals a0) (h1 : Reals a1)
    (hkn : ∀ b j h e, kn (ix4 b j h e) = (((kn (ix4 b j h e)).toReal : ℝ) : EReal))
    (hkr : ∀ b j e, kr (ix3 b j e) = (((kr (ix3 b j e)).toReal : ℝ) : EReal)) :
    halves (fun y : S8x16x8192x128.Idx => attended
        (fun b h i e => lane (fun e => (a0 (ix4 b i h e)).toReal) (fun e => (a1 (ix4 b i h e)).toReal) e * factor)
        (fun b h j e => lane (fun e => (kn (ix4 b j h e)).toReal) (fun e => (kr (ix3 b j e)).toReal) e) (values v) (y 0) (y 1) (y 2) (y 3))
      = Ref.mix v (Ref.weights (Ref.powers (Ref.scores a0 a1 kn kr))) := by
  funext y
  obtain ⟨b, i, h, d, rfl⟩ : ∃ (b : Fin 8) (i : Fin 8192) (h : Fin 16) (d : Fin 64), y = ix4 b i h d :=
    ⟨y 0, y 1, y 2, y 3, by funext a; match a with | 0 => rfl | 1 => rfl | 2 => rfl | 3 => rfl⟩
  rw [halves_at]
  refine Eq.trans ?_ (Ref.attention _ _ b i h d _ fun j => score_eq a0 a1 kn kr h0 h1 hkn hkr b h i j).symm
  show attended _ _ _ b h i ⟨64 * (h % 2) + d, by omega⟩ = _
  unfold attended
  exact congrArg _ (funext fun j => value_half v b h d j)

end Cert.Proof.Mla

end
-- ==== Proof.Body2.lean ====
/-
  The triple of the even layers' attention body, which computes what the odd layers' does: on whole memrefs holding a query tile, a head's keys, its values and the scratch, the
  body leaves the inputs as they were, the scratch at `scrF` and the result at `outF`.
-/
module

public import proofs.«01_k».proof.Proof.Body
public import proofs.«01_k».proof.Proof.Gen.Kernel2Ideal.Frame
public import proofs.«01_k».proof.Proof.Gen.Kernel2Ideal.Skeleton
public import Idealize.ShloMosaic.Lib.Pipeline.Value

@[expose] public section

noncomputable section

namespace Cert.Proof.Even

open Cert.Kernel2Ideal Cert.Kernel2Ideal.Gen
open Cert.Proof.Mla (zero4 zero2 ldQ s00 knF inRange fxF rmF outF scrF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem whole4 (v : View sig .tc .vmem S1x1x1024x128 .f32) (f : v.ty.Contents (Elt F)) (p : Vec F S1x1x1024x128 .f32) :
    v.read (Elt F) (v.writes (Elt F) f [⟨Rect.unit ![0, 0, 0, 0] S1x1x1024x128.size inb_S1x1x1024x128_S1x1x1024x128_0_0_0_0, p⟩]) = p :=
  (View.read_writes_eq_canon _ _ _ (fun y => ⟨_, List.mem_singleton_self _, View.mem_set_unit_zero zero4 inb_S1x1x1024x128_S1x1x1024x128_0_0_0_0 y⟩)).trans
    (View.canon_unit_zero zero4 _ _)

theorem whole2 (v : View sig .tc .vmem S8x128 .f32) (f : v.ty.Contents (Elt F)) (p : Vec F S8x128 .f32) :
    v.read (Elt F) (v.writes (Elt F) f [⟨Rect.unit ![0, 0] S8x128.size inb_S8x128_S8x128_0_0, p⟩]) = p :=
  (View.read_writes_eq_canon _ _ _ (fun y => ⟨_, List.mem_singleton_self _, View.mem_set_unit_zero zero2 inb_S8x128_S8x128_0_0 y⟩)).trans
    (View.canon_unit_zero zero2 _ _)

theorem cov2 (v : View sig .tc .vmem S8x128 .f32) (p : Vec F S8x128 .f32) :
    v.readCov [⟨Rect.unit ![0, 0] S8x128.size inb_S8x128_S8x128_0_0, p⟩]
      (Rect.unit (s := S8x128) ![0, 0] S1x1.size inb_S8x128_S1x1_0_0).toLoadRect = s00 p := by
  rw [View.readCov_eq_canon_ld _ _ _ (fun y => ⟨_, List.mem_singleton_self _, View.mem_set_unit_zero zero2 inb_S8x128_S8x128_0_0 y⟩),
    View.canon_unit_zero zero2]
  rfl

set_option maxRecDepth 65536 in
set_option maxHeartbeats 1000000 in
theorem body (c : Dev nD) (E : Set ℕ) (i : grid0.Coords)
    (arg3 : Memref sig .tc .vmem S1x1x1024x128 .bf16) (harg3 : arg3.IsWhole)
    (arg4 : Memref sig .tc .vmem S1x1x8448x128 .bf16) (harg4 : arg4.IsWhole)
    (arg5 : Memref sig .tc .vmem S1x1x128x8448 .bf16) (harg5 : arg5.IsWhole)
    (arg6 : Memref sig .tc .vmem S1x1x1024x128 .f32) (harg6 : arg6.IsWhole)
    (arg7 : Memref sig .tc .vmem S8x128 .f32) (harg7 : arg7.IsWhole)
    (x0 : Vec F S1x1x1024x128 .bf16) (x1 : Vec F S1x1x8448x128 .bf16) (x2 : Vec F S1x1x128x8448 .bf16)
    (s : Vec F S8x128 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (outF x0 x1 x2 (scrF i x1 s))
            ∗ owns (c : Thread nD τ) arg7 fullShare (scrF i x1 s)) -∗ K ⟨⟩))
      ⊢ wp frame (wpE (defs₀ (F := F)) Variants.none c none) E
          (cc0_attn_even_0 i arg3 harg3 arg4 harg4 arg5 harg5 arg6 harg6 arg7 harg7) K := by
  simp only [cc0_attn_even_0_eq_skeleton]; unfold cc0_attn_even_0_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases h1 : (Scalar.cmpi .ne (Scalar.extui (Scalar.cmpi .eq (BitVec.ofNat 32 (i 2).val) 0#32) : BitVec 32) 0#32 : BitVec 1) = 1#1
  · sl_exec
    have hs : body.sl.v10 c arg4 arg7 f1 = s00 (knF (View.read (Elt F) arg4.view f1)) := cov2 _ _
    split
    · rename_i hc
      change inRange (ldQ (View.read (Elt F) arg3.view f0)) (body.sl.v10 c arg4 arg7 f1) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = knF (View.read (Elt F) arg4.view f1) from if_pos h1]
        refine Eq.trans ?_ (congrArg Cert.KernelIdeal.Gen.k0_pay7 (if_pos (hs ▸ hc)).symm)
        exact congrArg Cert.KernelIdeal.Gen.k0_pay7 (show _ = fxF (ldQ (View.read (Elt F) arg3.view f0)) (View.read (Elt F) arg4.view f1) (View.read (Elt F) arg5.view f2) (s00 (knF (View.read (Elt F) arg4.view f1))) from rfl)
      · iexists _; isplitr
        swap; · iexact H4
        ipureintro; exact (whole2 _ _ _).trans ((show _ = knF (View.read (Elt F) arg4.view f1) from rfl).trans (if_pos h1).symm)
    · rename_i hc
      change ¬ inRange (ldQ (View.read (Elt F) arg3.view f0)) (body.sl.v10 c arg4 arg7 f1) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = knF (View.read (Elt F) arg4.view f1) from if_pos h1]
        refine Eq.trans ?_ (congrArg Cert.KernelIdeal.Gen.k0_pay7 (if_neg (hs ▸ hc)).symm)
        exact congrArg Cert.KernelIdeal.Gen.k0_pay7 (show _ = rmF (ldQ (View.read (Elt F) arg3.view f0)) (View.read (Elt F) arg4.view f1) (View.read (Elt F) arg5.view f2) from rfl)
      · iexists _; isplitr
        swap; · iexact H4
        ipureintro; exact (whole2 _ _ _).trans ((show _ = knF (View.read (Elt F) arg4.view f1) from rfl).trans (if_pos h1).symm)
  · sl_exec
    split
    · rename_i hc
      change inRange (ldQ (View.read (Elt F) arg3.view f0)) (s00 (View.read (Elt F) arg7.view f4)) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = View.read (Elt F) arg7.view f4 from if_neg h1]
        refine Eq.trans ?_ (congrArg Cert.KernelIdeal.Gen.k0_pay7 (if_pos hc).symm)
        exact congrArg Cert.KernelIdeal.Gen.k0_pay7 (show _ = fxF (ldQ (View.read (Elt F) arg3.view f0)) (View.read (Elt F) arg4.view f1) (View.read (Elt F) arg5.view f2) (s00 (View.read (Elt F) arg7.view f4)) from rfl)
      · iexists _; isplitr
        swap; · iexact H4
        ipureintro; exact (if_neg h1).symm
    · rename_i hc
      change ¬ inRange (ldQ (View.read (Elt F) arg3.view f0)) (s00 (View.read (Elt F) arg7.view f4)) = 1#1 at hc
      sl_exec
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _; isplitr
        swap; · iexact H3
        ipureintro
        refine (whole4 _ _ _).trans ?_
        rw [show scrF i (View.read (Elt F) arg4.view f1) (View.read (Elt F) arg7.view f4) = View.read (Elt F) arg7.view f4 from if_neg h1]
        refine Eq.trans ?_ (congrArg Cert.KernelIdeal.Gen.k0_pay7 (if_neg hc).symm)
        exact congrArg Cert.KernelIdeal.Gen.k0_pay7 (show _ = rmF (ldQ (View.read (Elt F) arg3.view f0)) (View.read (Elt F) arg4.view f1) (View.read (Elt F) arg5.view f2) from rfl)
      · iexists _; isplitr
        swap; · iexact H4
        ipureintro; exact (if_neg h1).symm

end Cert.Proof.Even
-- ==== Proof.Run2.lean ====
/-
  The run of the even layers' attention call: the proof data of its pipeline (the scratch holds the head's largest key norm at every
  tile but a head's first), the body's obligation at every grid point, and the launch.
-/
module

public import proofs.«01_k».proof.Proof.Body2
public import proofs.«01_k».proof.Proof.Gen.Kernel2Ideal.Points
public import proofs.«01_k».proof.Proof.Gen.Kernel2Ideal.Launch

@[expose] public section

noncomputable section

namespace Cert.Proof.Even

open Cert.Kernel2Ideal Cert.Kernel2Ideal.Gen
open Cert.Proof.Mla (knF outF scrF first)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords_eq : ∀ t : Fin grid0.N, (grid0.coords t 0).val = t.val / 128 ∧ (grid0.coords t 1).val = t.val / 8 % 16
    ∧ (grid0.coords t 2).val = t.val % 8 := by decide +kernel

theorem first_iff : ∀ t : Fin grid0.N, first (grid0.coords t) = 1#1 ↔ t.val % 8 = 0 := by
  intro t
  have h : ∀ n : Fin 8, ((Scalar.cmpi .ne (Scalar.extui (Scalar.cmpi .eq (BitVec.ofNat 32 n.val) 0#32) : BitVec 32) 0#32 : BitVec 1) = 1#1) ↔ n.val = 0 := by
    decide
  have e := (coords_eq t).2.2
  unfold first
  rw [e]
  exact h ⟨t.val % 8, Nat.mod_lt _ (by decide)⟩

/-- The head's keys are one block at all its tiles. -/
theorem keys_same (c : Dev nD) (t t' : Fin cfg0.N) (h : t.val / 8 = t'.val / 8) : iblk m c 1 t = iblk m c 1 t' := by
  have e0 : grid0.coords t 0 = grid0.coords t' 0 := Fin.ext (by rw [(coords_eq t).1, (coords_eq t').1]; omega)
  have e1 : grid0.coords t 1 = grid0.coords t' 1 := Fin.ext (by rw [(coords_eq t).2.1, (coords_eq t').2.1]; omega)
  have e : cc0_transform_1 (grid0.coords t) = cc0_transform_1 (grid0.coords t') := by
    unfold cc0_transform_1; rw [e0, e1]
  funext j
  refine congrArg (V m c (Pipeline.arrRef spec0 1)) (funext fun a => Fin.ext ?_)
  exact congrArg (fun f => f a * S1x1x8448x128.size a + 1 * (j a).val) e

/-! ## The pipeline's proof data -/

/-- The block written at point `t`. -/
def outAt (c : Dev nD) (t : Fin cfg0.N) : Vec F S1x1x1024x128 .f32 :=
  outF (X0_0 m c t) (iblk m c 1 t) (iblk m c 2 t) (knF (iblk m c 1 t))

/-- Ahead of point `n` the scratch holds the largest key norm of the head, unless a head begins. -/
def scrAt (c : Dev nD) (n : ℕ) (s : Vec F S8x128 .f32) : Prop :=
  ∀ t : Fin cfg0.N, t.val = n → t.val % 8 ≠ 0 → s = knF (iblk m c 1 t)

def Φs (c : Dev nD) (n : ℕ) : sProp 𝕄 :=
  iprop((∃ s, ⌜scrAt m c n s⌝ ∗ owns (c : Thread nD τ) (Memref.whole cc0_scratch0) fullShare s) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outAt m c t
  Φ n := Φs m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation -/

theorem scr_eq (c : Dev nD) (t : Fin cfg0.N) (s : Vec F S8x128 .f32) (h : scrAt m c t.val s) :
    scrF (grid0.coords t) (iblk m c 1 t) s = knF (iblk m c 1 t) := by
  unfold scrF
  by_cases h0 : t.val % 8 = 0
  · exact if_pos ((first_iff t).mpr h0)
  · rw [if_neg (fun e => h0 ((first_iff t).mp e))]; exact h t rfl h0

theorem scr_next (c : Dev nD) (t : Fin cfg0.N) : scrAt m c (t.val + 1) (knF (iblk m c 1 t)) := by
  intro t' e h
  rw [keys_same m c t t' (by omega)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Φs m c t.val from rfl, show (dats m 0 c).Φ t.succ = Φs m c (t.val + 1) from rfl,
    show (dats m 0 c).owesAt () t.succ = (dats m 0 c).owesAt () t.castSucc from rfl,
    after0_0, after0_1, after0_2, after0_3]
  unfold Φs
  iintro ⟨⟨⟨%s, %hs, HS⟩, Hr⟩, Ho, ⟨%d0, H0⟩, ⟨%d1, H1⟩, ⟨%d2, H2⟩, ⟨%d3, H3⟩⟩
  iapply (body c Set.univ (grid0.coords t) _ _ _ _ _ _ _ _ _ _ (X0_0 m c t) (iblk m c 1 t) (iblk m c 2 t) s _)
  rw [scr_eq m c t s hs]
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr]
  · isplitl [HS]
    · iexists (knF (iblk m c 1 t)); isplitr
      · ipureintro; exact scr_next m c t
      iexact HS
    iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Φ_in (c : Dev nD) : ΦA spec0 c ⊢ Φs m c 0 := by
  unfold ΦA Φs
  rw [scopedRest0_eq]
  iintro ⟨⟨%f, H⟩, Hr⟩
  isplitl [H]
  · iexists f; isplitr
    · ipureintro; intro t e h; omega
    unfold owns
    iexists f; isplitr; · ipureintro; rfl
    rw [show ((Memref.whole cc0_scratch0).view.set : Finset _) = Finset.univ from View.set_whole _]
    iexact H
  iexact Hr

theorem Φ_out (c : Dev nD) : Φs m c cfg0.N ⊢ ΦA spec0 c := by
  unfold ΦA Φs
  rw [scopedRest0_eq]
  unfold owns
  iintro ⟨⟨%s, -, %f, -, H⟩, Hr⟩
  isplitl [H]
  · iexists f
    rw [show ((Memref.whole cc0_scratch0).view.set : Finset _) = Finset.univ from View.set_whole _]
    iexact H
  iexact Hr

set_option backward.isDefEq.respectTransparency.types false in
set_option maxRecDepth 16384 in
/-- Every fair execution ends, with every array of the pipeline and every other buffer at what the proof data computes
    and the host's last lines leave, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)
    (Q' := fun r => Pipeline.FramePost cfgs (dats m) 0 (Pipeline.afterTail₀ cfgs (dats m) 0 (V0 m) [hostOps1]) r ∧ r.2.sem = fun _ => 0)
    (hQ' := fun _ h => h)

end Cert.Proof.Even
-- ==== Proof.Read2.lean ====
/-
  The blocks the even layers' attention call reads.
-/
module

public import proofs.«01_k».proof.Proof.Run2
public import proofs.«01_k».proof.Proof.Soft
public import proofs.«01_k».proof.Proof.Gen.Kernel2Ideal.Frame
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Even

open Cert.Kernel2Ideal Cert.Kernel2Ideal.Gen
open Idealize.ShloMosaic Idealize.ShloMosaic.TcCoe Idealize.SL.Sem
open Cert.Proof.Soft

variable (m : (ℓ : Loc nD τ sig) → Buf (Elt Ideal) ℓ) (c : Dev nD)

/-- The block of keys and values a head reads. -/
def blkOf (h : ℕ) : ℕ := if h < 8 then h / 2 else 4

theorem blkOf_lt (h : Fin 16) : blkOf h < 5 := by unfold blkOf; split <;> omega

theorem idx : ∀ t : Fin cfg0.N, win0_0.index t = ![t.val / 128, t.val / 8 % 16, t.val % 8, 0]
    ∧ win0_1.index t = ![t.val / 128, blkOf (t.val / 8 % 16), 0, 0] ∧ win0_2.index t = ![t.val / 128, blkOf (t.val / 8 % 16), 0, 0]
    ∧ win0_3.index t = ![t.val / 128, t.val / 8 % 16, t.val % 8, 0] :=
  (by decide +kernel : ∀ t : Fin grid0.N, _)

theorem query_blk (t : Fin cfg0.N) (b : Fin 8) (h : Fin 16) (i : Fin 8448) (a : Fin 1024) (e : Fin 128) (hb : b.val = t.val / 128)
    (hh : h.val = t.val / 8 % 16) (hi : i.val = t.val % 8 * 1024 + a.val) : X0_0 m c t (ix4 0 0 a e) = V m c main_v38 (ix4 b h i e) := by
  unfold X0_0 Pipeline.Window.fill
  rw [dif_pos (moved0_0 t _)]
  blk_ext [iblk, idx t]

/-- A block of the keys, for any index map. -/
theorem read_key (T : grid0.Coords → Fin 4 → ℕ) (hr : ∀ i i' : grid0.Coords, (∀ a, reads0_1 a = true → i a = i' a) → T i = T i')
    (hi : ∀ (i : grid0.Coords) a, (T i a + 1) * S1x1x8448x128.size a ≤ S8x5x8448x128.size a)
    (hw : ∀ i : grid0.Coords, EltTy.bits .bf16 = 32 ∨ (Rect.block (s := S8x5x8448x128) S1x1x8448x128.size (T i) (hi i)).WholeWords (EltTy.packing .bf16))
    (X : FVec Ideal S8x5x8448x128 .bf16) (t : Fin grid0.N) (b : Fin 8) (p : Fin 5) (i : Fin 8448) (d : Fin 128)
    (e : T (grid0.coords t) = ![b.val, p.val, 0, 0]) :
    ((Pipeline.Window.ofSpec (Memref.whole main_v39) S1x1x8448x128.size T reads0_1 false false 2 stage0_1 sem0_1
      hrank0 hr hi nbuf0_1 (Memref.isWhole_whole _) hw hstage0_1).blk t).view.read (Elt Ideal) X (ix4 0 0 i d) = X (ix4 b p i d) := by
  refine congrArg X (funext fun a => Fin.ext ?_)
  have h : ∀ f : Fin 4 → ℕ, f = ![b.val, p.val, 0, 0] → ∀ a : Fin 4,
      f a * S1x1x8448x128.size a + 1 * (ix4 (0 : Fin 1) (0 : Fin 1) i d a).val = (ix4 b p i d a).val := by
    rintro f rfl a
    match a with
    | 0 => exact Nat.mul_one _
    | 1 => exact Nat.mul_one _
    | 2 => show 0 * _ + 1 * i.val = i.val; omega
    | 3 => show 0 * _ + 1 * d.val = d.val; omega
  exact h _ e a

/-- A block of the values, for any index map. -/
theorem read_val (T : grid0.Coords → Fin 4 → ℕ) (hr : ∀ i i' : grid0.Coords, (∀ a, reads0_2 a = true → i a = i' a) → T i = T i')
    (hi : ∀ (i : grid0.Coords) a, (T i a + 1) * S1x1x128x8448.size a ≤ S8x5x128x8448.size a)
    (hw : ∀ i : grid0.Coords, EltTy.bits .bf16 = 32 ∨ (Rect.block (s := S8x5x128x8448) S1x1x128x8448.size (T i) (hi i)).WholeWords (EltTy.packing .bf16))
    (X : FVec Ideal S8x5x128x8448 .bf16) (t : Fin grid0.N) (b : Fin 8) (p : Fin 5) (d : Fin 128) (i : Fin 8448)
    (e : T (grid0.coords t) = ![b.val, p.val, 0, 0]) :
    ((Pipeline.Window.ofSpec (Memref.whole main_v40) S1x1x128x8448.size T reads0_2 false false 2 stage0_2 sem0_2
      hrank0 hr hi nbuf0_2 (Memref.isWhole_whole _) hw hstage0_2).blk t).view.read (Elt Ideal) X (ix4 0 0 d i) = X (ix4 b p d i) := by
  refine congrArg X (funext fun a => Fin.ext ?_)
  have h : ∀ f : Fin 4 → ℕ, f = ![b.val, p.val, 0, 0] → ∀ a : Fin 4,
      f a * S1x1x128x8448.size a + 1 * (ix4 (0 : Fin 1) (0 : Fin 1) d i a).val = (ix4 b p d i a).val := by
    rintro f rfl a
    match a with
    | 0 => exact Nat.mul_one _
    | 1 => exact Nat.mul_one _
    | 2 => show 0 * _ + 1 * d.val = d.val; omega
    | 3 => show 0 * _ + 1 * i.val = i.val; omega
  exact h _ e a

theorem key_blk (t : Fin cfg0.N) (b : Fin 8) (p : Fin 5) (i : Fin 8448) (d : Fin 128) (hb : b.val = t.val / 128)
    (hp : p.val = blkOf (t.val / 8 % 16)) : iblk m c 1 t (ix4 0 0 i d) = V m c main_v39 (ix4 b p i d) :=
  read_key cc0_transform_1 hreads0_1 hinb0_1 hwx0_1 (V m c main_v39) t b p i d ((idx t).2.1.trans (by rw [hb, hp]))

theorem val_blk (t : Fin cfg0.N) (b : Fin 8) (p : Fin 5) (d : Fin 128) (i : Fin 8448) (hb : b.val = t.val / 128)
    (hp : p.val = blkOf (t.val / 8 % 16)) : iblk m c 2 t (ix4 0 0 d i) = V m c main_v40 (ix4 b p d i) :=
  read_val cc0_transform_2 hreads0_2 hinb0_2 hwx0_2 (V m c main_v40) t b p d i ((idx t).2.2.1.trans (by rw [hb, hp]))

end Cert.Proof.Even

end
-- ==== Proof.Out2.lean ====
/-
  The results, of the array the even layers' attention call writes.
-/
module

public import proofs.«01_k».proof.Proof.Run2
public import proofs.«01_k».proof.Proof.Soft
public import proofs.«01_k».proof.Proof.Gen.Kernel2Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Even

open Cert.Kernel2Ideal Cert.Kernel2Ideal.Gen
open Idealize.ShloMosaic Idealize.ShloMosaic.TcCoe Idealize.SL.Sem
open Cert.Proof.Soft

/-- The rows of one head. -/
def row (n : ℕ) (x : FVec Ideal S8x16x8192x128 .f32) (h : S8x16x8192x128.Slices ![0, n, 0, 0] S8x1x8192x128) : FVec Ideal S8x8192x128 .f32 :=
  shapeCast S8x8192x128 (extractStridedSlice S8x1x8192x128 ![0, n, 0, 0] x h) shapeCasts_S8x1x8192x128_S8x8192x128

/-- The second head's rows, times the factor, from the first's. -/
def less (lam : FVec Ideal S_ .f32) (x y : FVec Ideal S8x8192x128 .f32) : FVec Ideal S8x8192x128 .f32 :=
  subf x (mulf (broadcastInDim S8x8192x128 ![] bcast_S_S8x8192x128 lam) y)

def four (x0 x1 x2 x3 : FVec Ideal S8x8192x128 .f32) : FVec Ideal S8x8192x4x128 .f32 :=
  concatenate S8x8192x4x128 2
    [⟨S8x8192x1x128, broadcastInDim S8x8192x1x128 ![0, 1, 3] bcast_S8x8192x128_S8x8192x1x128_0_1_3 x0⟩,
     ⟨S8x8192x1x128, broadcastInDim S8x8192x1x128 ![0, 1, 3] bcast_S8x8192x128_S8x8192x1x128_0_1_3 x1⟩,
     ⟨S8x8192x1x128, broadcastInDim S8x8192x1x128 ![0, 1, 3] bcast_S8x8192x128_S8x8192x1x128_0_1_3 x2⟩,
     ⟨S8x8192x1x128, broadcastInDim S8x8192x1x128 ![0, 1, 3] bcast_S8x8192x128_S8x8192x1x128_0_1_3 x3⟩]
    concatenates_S8x8192x1x128_S8x8192x1x128_S8x8192x1x128_S8x8192x1x128_S8x8192x4x128_d2

/-- The differential heads' results. -/
def differences (lam : FVec Ideal S_ .f32) (x : FVec Ideal S8x16x8192x128 .f32) : FVec Ideal S8x8192x4x128 .f32 :=
  four (less lam (row 0 x slices_S8x16x8192x128_S8x1x8192x128_0_0_0_0) (row 1 x slices_S8x16x8192x128_S8x1x8192x128_0_1_0_0))
    (less lam (row 2 x slices_S8x16x8192x128_S8x1x8192x128_0_2_0_0) (row 3 x slices_S8x16x8192x128_S8x1x8192x128_0_3_0_0))
    (less lam (row 4 x slices_S8x16x8192x128_S8x1x8192x128_0_4_0_0) (row 5 x slices_S8x16x8192x128_S8x1x8192x128_0_5_0_0))
    (less lam (row 6 x slices_S8x16x8192x128_S8x1x8192x128_0_6_0_0) (row 7 x slices_S8x16x8192x128_S8x1x8192x128_0_7_0_0))

def left (x : FVec Ideal S8x16x8192x128 .f32) : FVec Ideal S8x4x8192x64 .f32 :=
  extractStridedSlice S8x4x8192x64 ![0, 8, 0, 0] x slices_S8x16x8192x128_S8x4x8192x64_0_8_0_0

def right (x : FVec Ideal S8x16x8192x128 .f32) : FVec Ideal S8x4x8192x64 .f32 :=
  extractStridedSlice S8x4x8192x64 ![0, 12, 0, 64] x slices_S8x16x8192x128_S8x4x8192x64_0_12_0_64

def two (x y : FVec Ideal S8x4x8192x64 .f32) : FVec Ideal S8x2x4x8192x64 .f32 :=
  concatenate S8x2x4x8192x64 1
    [⟨S8x1x4x8192x64, broadcastInDim S8x1x4x8192x64 ![0, 2, 3, 4] bcast_S8x4x8192x64_S8x1x4x8192x64_0_2_3_4 x⟩,
     ⟨S8x1x4x8192x64, broadcastInDim S8x1x4x8192x64 ![0, 2, 3, 4] bcast_S8x4x8192x64_S8x1x4x8192x64_0_2_3_4 y⟩]
    concatenates_S8x1x4x8192x64_S8x1x4x8192x64_S8x2x4x8192x64_d1

/-- The grouped heads' results. -/
def grouped (x : FVec Ideal S8x16x8192x128 .f32) : FVec Ideal S8x8192x2x4x64 .f32 :=
  transpose S8x8192x2x4x64 [0, 3, 1, 2, 4] (two (left x) (right x)) transposes_S8x2x4x8192x64_S8x8192x2x4x64_0_3_1_2_4

theorem row_at (n : Fin 16) (x : FVec Ideal S8x16x8192x128 .f32) (h) (b : Fin 8) (i : Fin 8192) (d : Fin 128) :
    row n x h (ix3 b i d) = x (ix4 b n i d) := by
  pointwise [row]

theorem less_at (lam : FVec Ideal S_ .f32) (x y : FVec Ideal S8x8192x128 .f32) (b : Fin 8) (i : Fin 8192) (d : Fin 128) :
    less lam x y (ix3 b i d) = (x (ix3 b i d) - lam ix0 * y (ix3 b i d) : EReal) := by
  pointwise [less]

theorem four_at (x0 x1 x2 x3 : FVec Ideal S8x8192x128 .f32) (b : Fin 8) (i : Fin 8192) (p : Fin 4) (d : Fin 128) :
    four x0 x1 x2 x3 (ix4 b i p d) = (if _ : (p : ℕ) < 1 then x0 (ix3 b i d) else if _ : (p : ℕ) - 1 < 1 then x1 (ix3 b i d) else
      if _ : (p : ℕ) - 1 - 1 < 1 then x2 (ix3 b i d) else x3 (ix3 b i d)) := by
  pointwise [four]

theorem differences_at (lam : FVec Ideal S_ .f32) (x : FVec Ideal S8x16x8192x128 .f32) (b : Fin 8) (i : Fin 8192) (p : Fin 4) (d : Fin 128) :
    differences lam x (ix4 b i p d) = (x (ix4 b ⟨2 * p, by omega⟩ i d) - lam ix0 * x (ix4 b ⟨2 * p + 1, by omega⟩ i d) : EReal) := by
  rw [differences, four_at]
  have h := fun (n : Fin 16) (h) => row_at n x h b i d
  match p with
  | 0 => rw [dif_pos (by decide), less_at]; exact congrArg₂ (fun u v : EReal => u - lam ix0 * v) (h 0 _) (h 1 _)
  | 1 => rw [dif_neg (by decide), dif_pos (by decide), less_at]; exact congrArg₂ (fun u v : EReal => u - lam ix0 * v) (h 2 _) (h 3 _)
  | 2 =>
    rw [dif_neg (by decide), dif_neg (by decide), dif_pos (by decide), less_at]
    exact congrArg₂ (fun u v : EReal => u - lam ix0 * v) (h 4 _) (h 5 _)
  | 3 =>
    rw [dif_neg (by decide), dif_neg (by decide), dif_neg (by decide), less_at]
    exact congrArg₂ (fun u v : EReal => u - lam ix0 * v) (h 6 _) (h 7 _)

theorem two_at (x y : FVec Ideal S8x4x8192x64 .f32) (b : Fin 8) (g : Fin 2) (r : Fin 4) (i : Fin 8192) (d : Fin 64) :
    two x y (ix5 b g r i d) = if _ : (g : ℕ) < 1 then x (ix4 b r i d) else y (ix4 b r i d) := by
  pointwise [two]

theorem left_at (x : FVec Ideal S8x16x8192x128 .f32) (b : Fin 8) (r : Fin 4) (i : Fin 8192) (d : Fin 64) :
    left x (ix4 b r i d) = x (ix4 b ⟨8 + r, by omega⟩ i ⟨d, by omega⟩) := by
  pointwise [left]

theorem right_at (x : FVec Ideal S8x16x8192x128 .f32) (b : Fin 8) (r : Fin 4) (i : Fin 8192) (d : Fin 64) :
    right x (ix4 b r i d) = x (ix4 b ⟨12 + r, by omega⟩ i ⟨64 + d, by omega⟩) := by
  pointwise [right]

theorem moved_at (x : FVec Ideal S8x2x4x8192x64 .f32) (b : Fin 8) (i : Fin 8192) (g : Fin 2) (r : Fin 4) (d : Fin 64) :
    transpose S8x8192x2x4x64 [0, 3, 1, 2, 4] x transposes_S8x2x4x8192x64_S8x8192x2x4x64_0_3_1_2_4 (ix5 b i g r d) = x (ix5 b g r i d) := by
  pointwise

theorem grouped_at (x : FVec Ideal S8x16x8192x128 .f32) (b : Fin 8) (i : Fin 8192) (g : Fin 2) (r : Fin 4) (d : Fin 64) :
    grouped x (ix5 b i g r d) = x (ix4 b ⟨8 + 4 * g + r, by omega⟩ i ⟨64 * g + d, by omega⟩) := by
  rw [grouped, moved_at, two_at]
  match g with
  | 0 => rw [dif_pos (by decide), left_at]; congr 2; exact Fin.ext (by simp)
  | 1 => rw [dif_neg (by decide), right_at]; rfl

end Cert.Proof.Even

end
-- ==== Proof.Host2.lean ====
/-
  The arrays the even layers' attention call reads, of the arguments, at the ideal values.
-/
module

public import proofs.«01_k».proof.Proof.Run2
public import proofs.«01_k».proof.Proof.Soft
public import proofs.«01_k».proof.Proof.Gen.Kernel2Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Even

open Cert.Kernel2Ideal Cert.Kernel2Ideal.Gen
open Idealize.ShloMosaic Idealize.ShloMosaic.TcCoe Idealize.SL.Sem
open Cert.Proof.Soft

/-! ## The arrays read, as terms -/

/-- The latents' array and the context's, one after the other: of the differential heads' queries or keys, -/
def joinA (l : FVec Ideal S8x8192x4x2x64 .f32) (x : FVec Ideal S8x256x4x2x64 .f32) : FVec Ideal S8x8448x4x2x64 .f32 :=
  concatenate S8x8448x4x2x64 1 [⟨S8x8192x4x2x64, l⟩, ⟨S8x256x4x2x64, x⟩] concatenates_S8x8192x4x2x64_S8x256x4x2x64_S8x8448x4x2x64_d1

/-- of their values, -/
def joinV (l : FVec Ideal S8x8192x4x128 .f32) (x : FVec Ideal S8x256x4x128 .f32) : FVec Ideal S8x8448x4x128 .f32 :=
  concatenate S8x8448x4x128 1 [⟨S8x8192x4x128, l⟩, ⟨S8x256x4x128, x⟩] concatenates_S8x8192x4x128_S8x256x4x128_S8x8448x4x128_d1

/-- of the grouped heads' queries, -/
def joinQ (l : FVec Ideal S8x8192x2x4x64 .f32) (x : FVec Ideal S8x256x2x4x64 .f32) : FVec Ideal S8x8448x2x4x64 .f32 :=
  concatenate S8x8448x2x4x64 1 [⟨S8x8192x2x4x64, l⟩, ⟨S8x256x2x4x64, x⟩] concatenates_S8x8192x2x4x64_S8x256x2x4x64_S8x8448x2x4x64_d1

/-- of their keys or values. -/
def joinB (l : FVec Ideal S8x8192x2x64 .f32) (x : FVec Ideal S8x256x2x64 .f32) : FVec Ideal S8x8448x2x64 .f32 :=
  concatenate S8x8448x2x64 1 [⟨S8x8192x2x64, l⟩, ⟨S8x256x2x64, x⟩] concatenates_S8x8192x2x64_S8x256x2x64_S8x8448x2x64_d1

def zeros : FVec Ideal S8x8448x4x64 .f32 :=
  broadcastInDim S8x8448x4x64 ![] bcast_S_S8x8448x4x64 (constant S_ .f32 0x00000000#32)

/-- Two pieces of 64 lanes. -/
def lanes (a b : FVec Ideal S8x8448x4x64 .f32) : FVec Ideal S8x8448x4x128 .f32 :=
  concatenate S8x8448x4x128 3 [⟨S8x8448x4x64, a⟩, ⟨S8x8448x4x64, b⟩] concatenates_S8x8448x4x64_S8x8448x4x64_S8x8448x4x128_d3

def part0 (q : FVec Ideal S8x8448x4x2x64 .f32) : FVec Ideal S8x8448x4x64 .f32 :=
  shapeCast S8x8448x4x64 (extractStridedSlice S8x8448x4x1x64 ![0, 0, 0, 0, 0] q slices_S8x8448x4x2x64_S8x8448x4x1x64_0_0_0_0_0)
    shapeCasts_S8x8448x4x1x64_S8x8448x4x64

def part1 (q : FVec Ideal S8x8448x4x2x64 .f32) : FVec Ideal S8x8448x4x64 .f32 :=
  shapeCast S8x8448x4x64 (extractStridedSlice S8x8448x4x1x64 ![0, 0, 0, 1, 0] q slices_S8x8448x4x2x64_S8x8448x4x1x64_0_0_0_1_0)
    shapeCasts_S8x8448x4x1x64_S8x8448x4x64

def group0 (q : FVec Ideal S8x8448x2x4x64 .f32) : FVec Ideal S8x8448x4x64 .f32 :=
  shapeCast S8x8448x4x64 (extractStridedSlice S8x8448x1x4x64 ![0, 0, 0, 0, 0] q slices_S8x8448x2x4x64_S8x8448x1x4x64_0_0_0_0_0)
    shapeCasts_S8x8448x1x4x64_S8x8448x4x64

def group1 (q : FVec Ideal S8x8448x2x4x64 .f32) : FVec Ideal S8x8448x4x64 .f32 :=
  shapeCast S8x8448x4x64 (extractStridedSlice S8x8448x1x4x64 ![0, 0, 1, 0, 0] q slices_S8x8448x2x4x64_S8x8448x1x4x64_0_0_1_0_0)
    shapeCasts_S8x8448x1x4x64_S8x8448x4x64

/-- The two rows of each differential head. -/
def stacked (a b : FVec Ideal S8x8448x4x128 .f32) : FVec Ideal S8x8448x4x2x128 .f32 :=
  concatenate S8x8448x4x2x128 3
    [⟨S8x8448x4x1x128, broadcastInDim S8x8448x4x1x128 ![0, 1, 2, 4] bcast_S8x8448x4x128_S8x8448x4x1x128_0_1_2_4 a⟩,
     ⟨S8x8448x4x1x128, broadcastInDim S8x8448x4x1x128 ![0, 1, 2, 4] bcast_S8x8448x4x128_S8x8448x4x1x128_0_1_2_4 b⟩]
    concatenates_S8x8448x4x1x128_S8x8448x4x1x128_S8x8448x4x2x128_d3

def flat (z : FVec Ideal S8x8448x4x2x128 .f32) : FVec Ideal S8x8448x8x128 .f32 :=
  shapeCast S8x8448x8x128 z shapeCasts_S8x8448x4x2x128_S8x8448x8x128

/-- Eight, four and four heads. -/
def heads (a : FVec Ideal S8x8448x8x128 .f32) (b c : FVec Ideal S8x8448x4x128 .f32) : FVec Ideal S8x8448x16x128 .f32 :=
  concatenate S8x8448x16x128 2 [⟨S8x8448x8x128, a⟩, ⟨S8x8448x4x128, b⟩, ⟨S8x8448x4x128, c⟩]
    concatenates_S8x8448x8x128_S8x8448x4x128_S8x8448x4x128_S8x8448x16x128_d2

def scale : FVec Ideal S_ .f32 :=
  Host.divf (constant S_ .f32 0x3F800000#32) (mulf (constant S_ .f32 0x41000000#32) (Host.log (constant S_ .f32 0x40000000#32)))

def scaled (x : FVec Ideal S8x8448x16x128 .f32) : FVec Ideal S8x16x8448x128 .bf16 :=
  transpose S8x16x8448x128 [0, 2, 1, 3]
    (truncf .bf16 (mulf x (broadcastInDim S8x8448x16x128 ![] bcast_S_S8x8448x16x128 scale)) bitsLt_bf16_f32)
    transposes_S8x8448x16x128_S8x16x8448x128_0_2_1_3

def rows (qa : FVec Ideal S8x8448x4x2x64 .f32) (qb : FVec Ideal S8x8448x2x4x64 .f32) : FVec Ideal S8x8448x16x128 .f32 :=
  heads (flat (stacked (lanes (part0 qa) zeros) (lanes zeros (part1 qa)))) (lanes (group0 qb) zeros) (lanes zeros (group1 qb))

def queries (qa : FVec Ideal S8x8448x4x2x64 .f32) (qb : FVec Ideal S8x8448x2x4x64 .f32) : FVec Ideal S8x16x8448x128 .bf16 :=
  scaled (rows qa qb)

/-- Four blocks of 128 lanes and the fifth. -/
def blocks (a : FVec Ideal S8x8448x4x128 .f32) (b : FVec Ideal S8x8448x2x64 .f32) : FVec Ideal S8x8448x5x128 .bf16 :=
  truncf .bf16 (concatenate S8x8448x5x128 2 [⟨S8x8448x4x128, a⟩, ⟨S8x8448x1x128, shapeCast S8x8448x1x128 b shapeCasts_S8x8448x2x64_S8x8448x1x128⟩]
    concatenates_S8x8448x4x128_S8x8448x1x128_S8x8448x5x128_d2) bitsLt_bf16_f32

def both (a : FVec Ideal S8x8448x4x2x64 .f32) : FVec Ideal S8x8448x4x128 .f32 :=
  shapeCast S8x8448x4x128 a shapeCasts_S8x8448x4x2x64_S8x8448x4x128

def keys (ka : FVec Ideal S8x8448x4x2x64 .f32) (kb : FVec Ideal S8x8448x2x64 .f32) : FVec Ideal S8x5x8448x128 .bf16 :=
  transpose S8x5x8448x128 [0, 2, 1, 3] (blocks (both ka) kb) transposes_S8x8448x5x128_S8x5x8448x128_0_2_1_3

def values (va : FVec Ideal S8x8448x4x128 .f32) (vb : FVec Ideal S8x8448x2x64 .f32) : FVec Ideal S8x5x128x8448 .bf16 :=
  transpose S8x5x128x8448 [0, 2, 3, 1] (blocks va vb) transposes_S8x8448x5x128_S8x5x128x8448_0_2_3_1

/-! ## The same at an index -/

theorem joinA_at (l : FVec Ideal S8x8192x4x2x64 .f32) (x : FVec Ideal S8x256x4x2x64 .f32) (b : Fin 8) (i : Fin 8448)
    (p : Fin 4) (k : Fin 2) (e : Fin 64) : joinA l x (ix5 b i p k e)
      = if hi : (i : ℕ) < 8192 then l (ix5 b ⟨i, hi⟩ p k e) else x (ix5 b ⟨i - 8192, by omega⟩ p k e) := by
  pointwise [joinA]

theorem joinV_at (l : FVec Ideal S8x8192x4x128 .f32) (x : FVec Ideal S8x256x4x128 .f32) (b : Fin 8) (i : Fin 8448)
    (p : Fin 4) (e : Fin 128) : joinV l x (ix4 b i p e)
      = if hi : (i : ℕ) < 8192 then l (ix4 b ⟨i, hi⟩ p e) else x (ix4 b ⟨i - 8192, by omega⟩ p e) := by
  pointwise [joinV]

theorem joinQ_at (l : FVec Ideal S8x8192x2x4x64 .f32) (x : FVec Ideal S8x256x2x4x64 .f32) (b : Fin 8) (i : Fin 8448)
    (g : Fin 2) (r : Fin 4) (e : Fin 64) : joinQ l x (ix5 b i g r e)
      = if hi : (i : ℕ) < 8192 then l (ix5 b ⟨i, hi⟩ g r e) else x (ix5 b ⟨i - 8192, by omega⟩ g r e) := by
  pointwise [joinQ]

theorem joinB_at (l : FVec Ideal S8x8192x2x64 .f32) (x : FVec Ideal S8x256x2x64 .f32) (b : Fin 8) (i : Fin 8448)
    (g : Fin 2) (e : Fin 64) : joinB l x (ix4 b i g e)
      = if hi : (i : ℕ) < 8192 then l (ix4 b ⟨i, hi⟩ g e) else x (ix4 b ⟨i - 8192, by omega⟩ g e) := by
  pointwise [joinB]

theorem zeros_at (b : Fin 8) (i : Fin 8448) (p : Fin 4) (e : Fin 64) : zeros (ix4 b i p e) = (0 : EReal) := by
  pointwise [zeros]

theorem lanes_at (a z : FVec Ideal S8x8448x4x64 .f32) (b : Fin 8) (i : Fin 8448) (p : Fin 4) (e : Fin 128) :
    lanes a z (ix4 b i p e) = if he : (e : ℕ) < 64 then a (ix4 b i p ⟨e, he⟩) else z (ix4 b i p ⟨e - 64, by omega⟩) := by
  pointwise [lanes]

theorem part0_at (q : FVec Ideal S8x8448x4x2x64 .f32) (b : Fin 8) (i : Fin 8448) (p : Fin 4) (e : Fin 64) :
    part0 q (ix4 b i p e) = q (ix5 b i p 0 e) := by
  pointwise [part0]

theorem part1_at (q : FVec Ideal S8x8448x4x2x64 .f32) (b : Fin 8) (i : Fin 8448) (p : Fin 4) (e : Fin 64) :
    part1 q (ix4 b i p e) = q (ix5 b i p 1 e) := by
  pointwise [part1]

theorem group0_at (q : FVec Ideal S8x8448x2x4x64 .f32) (b : Fin 8) (i : Fin 8448) (p : Fin 4) (e : Fin 64) :
    group0 q (ix4 b i p e) = q (ix5 b i 0 p e) := by
  pointwise [group0]

theorem group1_at (q : FVec Ideal S8x8448x2x4x64 .f32) (b : Fin 8) (i : Fin 8448) (p : Fin 4) (e : Fin 64) :
    group1 q (ix4 b i p e) = q (ix5 b i 1 p e) := by
  pointwise [group1]

theorem stacked_at (x y : FVec Ideal S8x8448x4x128 .f32) (b : Fin 8) (i : Fin 8448) (p : Fin 4) (k : Fin 2) (e : Fin 128) :
    stacked x y (ix5 b i p k e) = if _ : (k : ℕ) < 1 then x (ix4 b i p e) else y (ix4 b i p e) := by
  pointwise [stacked]

theorem flat_at (z : FVec Ideal S8x8448x4x2x128 .f32) (b : Fin 8) (i : Fin 8448) (h : Fin 8) (e : Fin 128) :
    flat z (ix4 b i h e) = z (ix5 b i ⟨h / 2, by omega⟩ ⟨h % 2, by omega⟩ e) := by
  pointwise [flat]

theorem heads_at (x : FVec Ideal S8x8448x8x128 .f32) (y z : FVec Ideal S8x8448x4x128 .f32) (b : Fin 8) (i : Fin 8448) (h : Fin 16)
    (e : Fin 128) : heads x y z (ix4 b i h e) = if h8 : (h : ℕ) < 8 then x (ix4 b i ⟨h, h8⟩ e) else
      if h4 : (h : ℕ) - 8 < 4 then y (ix4 b i ⟨h - 8, h4⟩ e) else z (ix4 b i ⟨h - 8 - 4, by omega⟩ e) := by
  pointwise [heads]

theorem word_8 : Ideal.ofBits .f32 0x41000000#32 = ((8 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

/-- The factor the queries carry. -/
def factor : ℝ := 1 / (8 * Real.log 2)

theorem scale_at (j : S_.Idx) : scale j = (factor : EReal) := by
  have hl : 0 < Real.log 2 := Real.log_pos (by norm_num)
  unfold factor
  pointwise [scale]
  rw [word_8, word_2, Ideal.log_coe, if_neg (by norm_num), ← EReal.coe_mul,
    div_coe (by positivity), one_mul, one_div]

theorem scaled_at (x : FVec Ideal S8x8448x16x128 .f32) (b : Fin 8) (h : Fin 16) (i : Fin 8448) (e : Fin 128) :
    scaled x (ix4 b h i e) = x (ix4 b i h e) * scale ix0 := by
  pointwise [scaled]

theorem both_at (a : FVec Ideal S8x8448x4x2x64 .f32) (b : Fin 8) (i : Fin 8448) (p : Fin 4) (e : Fin 128) :
    both a (ix4 b i p e) = a (ix5 b i p ⟨e / 64, by omega⟩ ⟨e % 64, by omega⟩) := by
  pointwise [both]

theorem blocks_at (x : FVec Ideal S8x8448x4x128 .f32) (y : FVec Ideal S8x8448x2x64 .f32) (b : Fin 8) (i : Fin 8448) (p : Fin 5)
    (e : Fin 128) : blocks x y (ix4 b i p e) = if hp : (p : ℕ) < 4 then x (ix4 b i ⟨p, hp⟩ e) else
      y (ix4 b i ⟨e / 64, by omega⟩ ⟨e % 64, by omega⟩) := by
  pointwise [blocks]

theorem key_at (ka : FVec Ideal S8x8448x4x2x64 .f32) (kb : FVec Ideal S8x8448x2x64 .f32) (b : Fin 8) (p : Fin 5) (i : Fin 8448)
    (e : Fin 128) : keys ka kb (ix4 b p i e) = blocks (both ka) kb (ix4 b i p e) := by
  pointwise [keys]

theorem value_at (va : FVec Ideal S8x8448x4x128 .f32) (vb : FVec Ideal S8x8448x2x64 .f32) (b : Fin 8) (p : Fin 5) (e : Fin 128)
    (i : Fin 8448) : values va vb (ix4 b p e i) = blocks va vb (ix4 b i p e) := by
  pointwise [values]

end Cert.Proof.Even

end
-- ==== Proof.Arrays2.lean ====
/-
  The arrays the even layers' attention call reads, of the program's arguments.
-/
module

public import proofs.«01_k».proof.Proof.Run2
public import proofs.«01_k».proof.Proof.Host2
public import proofs.«01_k».proof.Proof.Gen.Kernel2Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Even

open Cert.Kernel2Ideal Cert.Kernel2Ideal.Gen
open Idealize.ShloMosaic Idealize.ShloMosaic.TcCoe Idealize.SL.Sem
open Cert.Proof.Soft

variable (m : (ℓ : Loc nD τ sig) → Buf (Elt Ideal) ℓ) (c : Dev nD)

/-- A line of operations in two parts. -/
theorem after_split (n : ℕ) (ops : List (HloOp τ sig (Elt Ideal))) (W : Valuation τ sig (Elt Ideal)) :
    StableHlo.after ops W = StableHlo.after (ops.drop n) (StableHlo.after (ops.take n) W) := by
  induction ops generalizing n W with
  | nil => simp only [List.drop_nil, List.take_nil, StableHlo.after_nil]
  | cons o l ih =>
    cases n with
    | zero => rfl
    | succ n => rw [List.drop_succ_cons, List.take_succ_cons, StableHlo.after_cons, StableHlo.after_cons]; exact ih n _

/-- From the heads' rows to the queries. -/
theorem late (W : Valuation τ sig (Elt Ideal)) :
    (StableHlo.after (hostOps0.drop 32) W (Proc.tc.devRef main_v38) : FVec Ideal S8x16x8448x128 .bf16)
      = transpose S8x16x8448x128 [0, 2, 1, 3] (truncf .bf16 (mulf
          (heads (W (Proc.tc.devRef main_v20)) (W (Proc.tc.devRef main_v23)) (W (Proc.tc.devRef main_v26)))
          (broadcastInDim S8x8448x16x128 ![] bcast_S_S8x8448x16x128 (W (Proc.tc.devRef main_v8)))) bitsLt_bf16_f32)
        transposes_S8x8448x16x128_S8x16x8448x128_0_2_1_3 := by
  simp only [hostOps0, List.drop_succ_cons, List.drop_zero]
  after_results
  rfl

variable (W : Valuation τ sig (Elt Ideal))

theorem early20 : (StableHlo.after (hostOps0.take 32) W (Proc.tc.devRef main_v20) : FVec Ideal S8x8448x8x128 .f32)
    = flat (stacked (lanes (part0 (joinA (W (Proc.tc.devRef main_arg0)) (W (Proc.tc.devRef main_arg6)))) zeros)
      (lanes zeros (part1 (joinA (W (Proc.tc.devRef main_arg0)) (W (Proc.tc.devRef main_arg6)))))) := by
  simp only [hostOps0, List.take_succ_cons, List.take_zero]
  after_results
  rfl

theorem early23 : (StableHlo.after (hostOps0.take 32) W (Proc.tc.devRef main_v23) : FVec Ideal S8x8448x4x128 .f32)
    = lanes (group0 (joinQ (W (Proc.tc.devRef main_arg3)) (W (Proc.tc.devRef main_arg9)))) zeros := by
  simp only [hostOps0, List.take_succ_cons, List.take_zero]
  after_results
  rfl

theorem early26 : (StableHlo.after (hostOps0.take 32) W (Proc.tc.devRef main_v26) : FVec Ideal S8x8448x4x128 .f32)
    = lanes zeros (group1 (joinQ (W (Proc.tc.devRef main_arg3)) (W (Proc.tc.devRef main_arg9)))) := by
  simp only [hostOps0, List.take_succ_cons, List.take_zero]
  after_results
  rfl

theorem early8 : (StableHlo.after (hostOps0.take 32) W (Proc.tc.devRef main_v8) : FVec Ideal S_ .f32) = scale := by
  simp only [hostOps0, List.take_succ_cons, List.take_zero]
  after_results
  rfl

theorem V_q : (V m c main_v38 : FVec Ideal S8x16x8448x128 .bf16)
    = queries (joinA (m ((c.tc : Thread nD τ).loc main_arg0)) (m ((c.tc : Thread nD τ).loc main_arg6)))
      (joinQ (m ((c.tc : Thread nD τ).loc main_arg3)) (m ((c.tc : Thread nD τ).loc main_arg9))) := by
  unfold V V0
  rw [show List.flatten [hostOps0 (F := Ideal)] = hostOps0 from List.append_nil _, after_split 32, late, early20, early23, early26, early8]
  rfl

theorem V_k : (V m c main_v39 : FVec Ideal S8x5x8448x128 .bf16)
    = keys (joinA (m ((c.tc : Thread nD τ).loc main_arg1)) (m ((c.tc : Thread nD τ).loc main_arg7)))
      (joinB (m ((c.tc : Thread nD τ).loc main_arg4)) (m ((c.tc : Thread nD τ).loc main_arg10))) := by
  simp only [V, V0, List.flatten_cons, List.flatten_nil, List.append_nil]
  after_results
  rfl

theorem V_v : (V m c main_v40 : FVec Ideal S8x5x128x8448 .bf16)
    = values (joinV (m ((c.tc : Thread nD τ).loc main_arg2)) (m ((c.tc : Thread nD τ).loc main_arg8)))
      (joinB (m ((c.tc : Thread nD τ).loc main_arg5)) (m ((c.tc : Thread nD τ).loc main_arg11))) := by
  simp only [V, V0, List.flatten_cons, List.flatten_nil, List.append_nil]
  after_results
  rfl

end Cert.Proof.Even

end
-- ==== Proof.Final2.lean ====
/-
  The array the even layers' attention call leaves, and the program's results.
-/
module

public import proofs.«01_k».proof.Proof.Block
public import proofs.«01_k».proof.Proof.Read2
public import proofs.«01_k».proof.Proof.Out2
public import proofs.«01_k».proof.Proof.Arrays2
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Even

open Cert.Kernel2Ideal Cert.Kernel2Ideal.Gen
open Cert.Proof.Mla (outF knF outF_at score pos_val)
open Idealize.ShloMosaic Idealize.ShloMosaic.TcCoe Idealize.SL.Sem
open Cert.Proof.Soft

variable (m : (ℓ : Loc nD τ sig) → Buf (Elt Ideal) ℓ) (c : Dev nD)

def blk (h : Fin 16) : Fin 5 := ⟨blkOf h, blkOf_lt h⟩

/-- The attention of one query row, of the arrays the call reads. -/
def attended (Q : Fin 8 → Fin 16 → Fin 8192 → Fin 128 → ℝ) (K : Fin 8 → Fin 5 → Fin 8448 → Fin 128 → ℝ) (W : FVec Ideal S8x5x128x8448 .bf16) (b : Fin 8) (h : Fin 16)
    (i : Fin 8192) (d : Fin 128) : EReal :=
  avg (fun j : Fin 8448 => (2 : ℝ) ^ ∑ e, Q b h i e * K b (blk h) j e) fun j => W (ix4 b (blk h) d j)

variable (Q : Fin 8 → Fin 16 → Fin 8192 → Fin 128 → ℝ) (K : Fin 8 → Fin 5 → Fin 8448 → Fin 128 → ℝ)

theorem point (hQ : ∀ (b : Fin 8) (h : Fin 16) (i : Fin 8192) (e : Fin 128), V m c main_v38 (ix4 b h ⟨i, by omega⟩ e) = (Q b h i e : EReal)) (hK : ∀ b p i e, V m c main_v39 (ix4 b p i e) = (K b p i e : EReal))
    (t : Fin cfg0.N) (a : Fin 1024) (b : Fin 8) (h : Fin 16) (i : Fin 8192) (d d' : Fin 128) (hb : b.val = t.val / 128)
    (hh : h.val = t.val / 8 % 16) (hi : i.val = t.val % 8 * 1024 + a.val) (hd : d'.val = d.val) :
    outF (X0_0 m c t) (iblk m c 1 t) (iblk m c 2 t) (knF (iblk m c 1 t)) (ix4 0 0 a d) = attended Q K (V m c main_v40) b h i d' := by
  obtain rfl : d' = d := Fin.ext hd
  refine (outF_at (X0_0 m c t) (iblk m c 1 t) (iblk m c 2 t) (fun a e => Q b h ⟨t.val % 8 * 1024 + a, by omega⟩ e) (fun i e => K b (blk h) i e)
    (fun a e => ?_) (fun i e => ?_) a d').trans ?_
  · exact (query_blk m c t b h ⟨t.val % 8 * 1024 + a, by omega⟩ a e hb hh rfl).trans (hQ b h ⟨t.val % 8 * 1024 + a, by omega⟩ e)
  · exact (key_blk m c t b (blk h) i e hb (by show blkOf h = _; rw [hh])).trans (hK _ _ _ _)
  · have hV : (fun i => iblk m c 2 t (ix4 0 0 d' i)) = fun j => V m c main_v40 (ix4 b (blk h) d' j) :=
      funext fun j => val_blk m c t b (blk h) d' j hb (by show blkOf h = _; rw [hh])
    have hI : (⟨t.val % 8 * 1024 + a, by omega⟩ : Fin 8192) = i := Fin.ext hi.symm
    unfold attended
    rw [← hV, ← hI]
    simp only [score, pos_val]

theorem final (hQ : ∀ (b : Fin 8) (h : Fin 16) (i : Fin 8192) (e : Fin 128), V m c main_v38 (ix4 b h ⟨i, by omega⟩ e) = (Q b h i e : EReal)) (hK : ∀ b p i e, V m c main_v39 (ix4 b p i e) = (K b p i e : EReal)) :
    (dats m 0 c).arrAt 3 (cfgs 0).N = fun y : S8x16x8192x128.Idx => attended Q K (V m c main_v40) (y 0) (y 1) (y 2) (y 3) := by
  refine (dats m 0 c).arrAt_eq_of_covers 3 _ (by decide +kernel) fun t hf y => ?_
  blk_simp
  rw [after0_3, outAt]
  have hy : y = ix4 (0 : Fin 1) (0 : Fin 1) (y 2 : Fin 1024) (y 3 : Fin 128) := by
    funext a
    match a with
    | 0 => exact Subsingleton.elim (α := Fin 1) _ _
    | 1 => exact Subsingleton.elim (α := Fin 1) _ _
    | 2 => rfl
    | 3 => rfl
  refine (congrArg _ hy).trans (point m c Q K hQ hK t (y 2) _ _ _ (y 3) _ ?_ ?_ ?_ ?_)
  · blk_simp [idx t]
  · blk_simp [idx t]
  · blk_simp [idx t]
  · blk_simp [idx t]

section Line

variable (W : Valuation τ sig (Elt Ideal))

def spread (x : FVec Ideal S8x8192x128 .f32) : FVec Ideal S8x8192x1x128 .f32 :=
  broadcastInDim S8x8192x1x128 ![0, 1, 3] bcast_S8x8192x128_S8x8192x1x128_0_1_3 x

def gather (x0 x1 x2 x3 : FVec Ideal S8x8192x1x128 .f32) : FVec Ideal S8x8192x4x128 .f32 :=
  concatenate S8x8192x4x128 2 [⟨S8x8192x1x128, x0⟩, ⟨S8x8192x1x128, x1⟩, ⟨S8x8192x1x128, x2⟩, ⟨S8x8192x1x128, x3⟩]
    concatenates_S8x8192x1x128_S8x8192x1x128_S8x8192x1x128_S8x8192x1x128_S8x8192x4x128_d2

theorem tail_74 : (StableHlo.after (hostOps1.drop 32) W (Proc.tc.devRef main_v74) : FVec Ideal S8x8192x4x128 .f32)
    = gather (W (Proc.tc.devRef main_v70)) (W (Proc.tc.devRef main_v71)) (W (Proc.tc.devRef main_v72)) (W (Proc.tc.devRef main_v73)) := by
  simp only [hostOps1, List.drop_succ_cons, List.drop_zero]
  after_results
  rfl

theorem tail_70 : (StableHlo.after (hostOps1.take 32) W (Proc.tc.devRef main_v70) : FVec Ideal S8x8192x1x128 .f32)
    = spread (less (W (Proc.tc.devRef main_arg12)) (row 0 (W (Proc.tc.devRef main_v41)) slices_S8x16x8192x128_S8x1x8192x128_0_0_0_0)
      (row 1 (W (Proc.tc.devRef main_v41)) slices_S8x16x8192x128_S8x1x8192x128_0_1_0_0)) := by
  simp only [hostOps1, List.take_succ_cons, List.take_zero]
  after_results
  rfl

theorem tail_71 : (StableHlo.after (hostOps1.take 32) W (Proc.tc.devRef main_v71) : FVec Ideal S8x8192x1x128 .f32)
    = spread (less (W (Proc.tc.devRef main_arg12)) (row 2 (W (Proc.tc.devRef main_v41)) slices_S8x16x8192x128_S8x1x8192x128_0_2_0_0)
      (row 3 (W (Proc.tc.devRef main_v41)) slices_S8x16x8192x128_S8x1x8192x128_0_3_0_0)) := by
  simp only [hostOps1, List.take_succ_cons, List.take_zero]
  after_results
  rfl

theorem tail_72 : (StableHlo.after (hostOps1.take 32) W (Proc.tc.devRef main_v72) : FVec Ideal S8x8192x1x128 .f32)
    = spread (less (W (Proc.tc.devRef main_arg12)) (row 4 (W (Proc.tc.devRef main_v41)) slices_S8x16x8192x128_S8x1x8192x128_0_4_0_0)
      (row 5 (W (Proc.tc.devRef main_v41)) slices_S8x16x8192x128_S8x1x8192x128_0_5_0_0)) := by
  simp only [hostOps1, List.take_succ_cons, List.take_zero]
  after_results
  rfl

theorem tail_73 : (StableHlo.after (hostOps1.take 32) W (Proc.tc.devRef main_v73) : FVec Ideal S8x8192x1x128 .f32)
    = spread (less (W (Proc.tc.devRef main_arg12)) (row 6 (W (Proc.tc.devRef main_v41)) slices_S8x16x8192x128_S8x1x8192x128_0_6_0_0)
      (row 7 (W (Proc.tc.devRef main_v41)) slices_S8x16x8192x128_S8x1x8192x128_0_7_0_0)) := by
  simp only [hostOps1, List.take_succ_cons, List.take_zero]
  after_results
  rfl

theorem line_diff : (StableHlo.after hostOps1 W (Proc.tc.devRef main_v74) : FVec Ideal S8x8192x4x128 .f32)
    = differences (W (Proc.tc.devRef main_arg12)) (W (Proc.tc.devRef main_v41)) := by
  rw [after_split 32, tail_74, tail_70, tail_71, tail_72, tail_73]
  rfl

theorem line_grouped : (StableHlo.after hostOps1 W (Proc.tc.devRef main_v80) : FVec Ideal S8x8192x2x4x64 .f32)
    = grouped (W (Proc.tc.devRef main_v41)) := by
  after_results
  rfl

end Line

theorem left_array : Pipeline.withArrays (cfgs 0).spec c (V0 m c) (fun w => (dats m 0 c).arrAt w (cfgs 0).N) (Proc.tc.devRef main_v41)
    = (dats m 0 c).arrAt 3 (cfgs 0).N := Pipeline.withArrays_arr _ launch0.win.arr_inj c _ _ 3

theorem kept : Pipeline.withArrays (cfgs 0).spec c (V0 m c) (fun w => (dats m 0 c).arrAt w (cfgs 0).N) (Proc.tc.devRef main_arg12)
    = m ((c.tc : Thread nD τ).loc main_arg12) := by
  rw [Pipeline.withArrays_of_ne _ c _ _ main_arg12 (by decide)]
  simp only [V0, List.flatten_cons, List.flatten_nil, List.append_nil]
  after_results

theorem tail_diff : Pipeline.afterTail₀ cfgs (dats m) 0 (V0 m) [hostOps1] c main_v74
    = differences (m ((c.tc : Thread nD τ).loc main_arg12)) ((dats m 0 c).arrAt 3 (cfgs 0).N) := by
  unfold Pipeline.afterTail₀
  rw [show List.flatten [hostOps1 (F := Ideal)] = hostOps1 from List.append_nil _, line_diff, left_array, kept]

theorem tail_grouped : Pipeline.afterTail₀ cfgs (dats m) 0 (V0 m) [hostOps1] c main_v80 = grouped ((dats m 0 c).arrAt 3 (cfgs 0).N) := by
  unfold Pipeline.afterTail₀
  rw [show List.flatten [hostOps1 (F := Ideal)] = hostOps1 from List.append_nil _, line_grouped, left_array]

end Cert.Proof.Even

end
-- ==== Proof.Weights.lean ====
/-
  The weights of a softmax, and the difference of two of them.
-/
module

public import proofs.«01_k».proof.Proof.Soft

@[expose] public section

noncomputable section

namespace Cert.Proof.Soft

open Idealize.ShloMosaic

/-- One weight: powers of `e` over their sum, and the scores in units of `log 2`. -/
theorem softmax_weight {ι : Type*} [Fintype ι] [Nonempty ι] (s x : ι → ℝ) (hx : ∀ i, x i = s i * Real.log 2) (M : ℝ) (i : ι) :
    Ideal.div (Real.exp (x i - M) : EReal) (∑ j, (Real.exp (x j - M) : EReal)) = (((2 : ℝ) ^ s i / ∑ j, (2 : ℝ) ^ s j : ℝ) : EReal) := by
  have hs : 0 < ∑ i, Real.exp (x i - M) := Finset.sum_pos (fun i _ => Real.exp_pos _) Finset.univ_nonempty
  have he : ∀ i, Real.exp (x i - M) = Real.exp (-M) * (2 : ℝ) ^ s i := fun i => by
    rw [Real.rpow_def_of_pos two_pos, ← Real.exp_add, hx]; congr 1; ring
  rw [coe_sum, div_coe hs.ne', ← EReal.coe_mul, ← div_eq_mul_inv]
  simp only [he]
  rw [← Finset.mul_sum, mul_div_mul_left _ _ (Real.exp_pos _).ne']

/-- The mean of real numbers is a real number. -/
theorem avg_real {ι : Type*} [Fintype ι] (w V : ι → ℝ) :
    avg w (fun i => (V i : EReal)) = ((∑ i, V i * (w i / ∑ j, w j) : ℝ) : EReal) := by
  unfold avg
  rw [← coe_sum]
  exact Finset.sum_congr rfl fun i _ => (EReal.coe_mul _ _).symm

/-- Of real values, the sum weighted by a difference is the difference of the weighted sums. -/
theorem avg_diff {ι : Type*} [Fintype ι] (p q V : ι → ℝ) (l : ℝ) :
    ∑ i, (V i : EReal) * (((p i / ∑ j, p j : ℝ) : EReal) - (l : EReal) * ((q i / ∑ j, q j : ℝ) : EReal))
      = avg p (fun i => (V i : EReal)) - (l : EReal) * avg q (fun i => (V i : EReal)) := by
  rw [avg_real, avg_real, ← EReal.coe_mul, ← EReal.coe_sub, Finset.mul_sum, ← Finset.sum_sub_distrib, ← coe_sum]
  refine Finset.sum_congr rfl fun i _ => ?_
  rw [← EReal.coe_mul, ← EReal.coe_sub, ← EReal.coe_mul]
  congr 1; ring

end Cert.Proof.Soft

end
-- ==== Proof.Diff.lean ====
/-
  The reference's differential attention at an index.
-/
module

public import proofs.«01_k».proof.Proof.Weights
public import proofs.«01_k».proof.Proof.Gen.Reference2Ideal
public import proofs.«01_k».proof.Proof.Gen.Reference2Ideal.Run
public import Idealize.ShloMosaic.Lib.Pointwise
public import Idealize.ShloMosaic.Lib.Claim
public import Idealize.ShloMosaic.Lib.IdealHost

@[expose] public section

set_option maxRecDepth 16384

noncomputable section

namespace Cert.Proof.Diff

open Cert.Reference2Ideal Cert.Reference2Ideal.Gen
open Idealize.ShloMosaic Idealize.ShloMosaic.TcCoe Idealize.SL.Sem
open Cert.Proof.Soft

theorem low_at (j : S_.Idx) : constant (F := Ideal) S_ .f32 0xFF800000#32 j = (⊥ : EReal) := by
  show Ideal.ofBits .f32 0xFF800000#32 = ⊥
  simp [Ideal.ofBits, Ideal.ieee]

theorem eighth : Ideal.ofBits .f32 0x3E000000#32 = ((1 / 8 : ℝ) : EReal) := by
  simp [Ideal.ofBits, Ideal.ieee, -EReal.coe_mul]; norm_num

/-! ## The stages -/

def joinA (l : FVec Ideal S8x8192x4x2x64 .f32) (x : FVec Ideal S8x256x4x2x64 .f32) : FVec Ideal S8x8448x4x2x64 .f32 :=
  concatenate S8x8448x4x2x64 1 [⟨S8x8192x4x2x64, l⟩, ⟨S8x256x4x2x64, x⟩] concatenates_S8x8192x4x2x64_S8x256x4x2x64_S8x8448x4x2x64_d1

def joinV (l : FVec Ideal S8x8192x4x128 .f32) (x : FVec Ideal S8x256x4x128 .f32) : FVec Ideal S8x8448x4x128 .f32 :=
  concatenate S8x8448x4x128 1 [⟨S8x8192x4x128, l⟩, ⟨S8x256x4x128, x⟩] concatenates_S8x8192x4x128_S8x256x4x128_S8x8448x4x128_d1

def scores (q : FVec Ideal S8x8192x4x2x64 .f32) (k : FVec Ideal S8x8448x4x2x64 .f32) : FVec Ideal S8x4x2x8192x8448 .f32 :=
  mulf (Host.dotGeneral dot_S8x8192x4x2x64_S8x8448x4x2x64_S8x4x2x8192x8448_4_4_1_1_023_023 none q k)
    (broadcastInDim S8x4x2x8192x8448 ![] bcast_S_S8x4x2x8192x8448 (constant S_ .f32 0x3E000000#32))

/-- A row's number at each of its positions. -/
def along (x : FVec Ideal S8x4x2x8192 .f32) : FVec Ideal S8x4x2x8192x8448 .f32 :=
  broadcastInDim S8x4x2x8192x8448 ![0, 1, 2, 3, 4] bcast_S8x4x2x8192x1_S8x4x2x8192x8448_0_1_2_3_4 (broadcastInDim S8x4x2x8192x1 ![0, 1, 2, 3] bcast_S8x4x2x8192_S8x4x2x8192x1_0_1_2_3 x)

def top (s : FVec Ideal S8x4x2x8192x8448 .f32) (z : FVec Ideal S_ .f32) : FVec Ideal S8x4x2x8192 .f32 :=
  Host.reduce FloatOps.maximumf s z reducesTo_S8x4x2x8192x8448_S8x4x2x8192_d4 h_S_

def atLeast (z : FVec Ideal S_ .f32) (x : FVec Ideal S8x4x2x8192 .f32) : FVec Ideal S8x4x2x8192 .f32 :=
  maximumf (broadcastInDim S8x4x2x8192 ![] bcast_S_S8x4x2x8192 z) x

def peak (s : FVec Ideal S8x4x2x8192x8448 .f32) : FVec Ideal S8x4x2x8192 .f32 :=
  atLeast (constant S_ .f32 0xFF800000#32) (top s (constant S_ .f32 0xFF800000#32))

def powers (s : FVec Ideal S8x4x2x8192x8448 .f32) : FVec Ideal S8x4x2x8192x8448 .f32 := Host.exp (subf s (along (peak s)))

def weights (e : FVec Ideal S8x4x2x8192x8448 .f32) : FVec Ideal S8x4x2x8192x8448 .f32 :=
  Host.divf e (along (Host.reduceAdd e (constant S_ .f32 0x00000000#32) reducesTo_S8x4x2x8192x8448_S8x4x2x8192_d4 h_S_))

theorem along_at (x : FVec Ideal S8x4x2x8192 .f32) (n : Fin 8) (p : Fin 4) (k : Fin 2) (i : Fin 8192) (j : Fin 8448) :
    along x (ix5 n p k i j) = x (ix4 n p k i) := by
  pointwise [along]

theorem top_at (s : FVec Ideal S8x4x2x8192x8448 .f32) (z : FVec Ideal S_ .f32) (n : Fin 8) (p : Fin 4) (k : Fin 2) (i : Fin 8192) :
    top s z (ix4 n p k i) = Finset.univ.fold max (z (Shape.Idx.first h_S_)) fun j : Fin 8448 => s (ix5 n p k i j) := by
  unfold top
  generalize (reducesTo_S8x4x2x8192x8448_S8x4x2x8192_d4 : S8x4x2x8192x8448.ReducesTo [4] S8x4x2x8192) = hr
  simp only [pointwise]

theorem atLeast_at (z : FVec Ideal S_ .f32) (x : FVec Ideal S8x4x2x8192 .f32) (n : Fin 8) (p : Fin 4) (k : Fin 2) (i : Fin 8192) :
    atLeast z x (ix4 n p k i) = (max (z ix0) (x (ix4 n p k i)) : EReal) := by
  pointwise [atLeast]

theorem peak_at (s : FVec Ideal S8x4x2x8192x8448 .f32) (n : Fin 8) (p : Fin 4) (k : Fin 2) (i : Fin 8192) :
    peak s (ix4 n p k i) = max ⊥ (Finset.univ.fold max (⊥ : EReal) fun j : Fin 8448 => s (ix5 n p k i j)) := by
  unfold peak
  rw [atLeast_at, top_at, low_at, low_at]

theorem powers_at (s : FVec Ideal S8x4x2x8192x8448 .f32) (n : Fin 8) (p : Fin 4) (k : Fin 2) (i : Fin 8192) (j : Fin 8448) :
    powers s (ix5 n p k i j) = Ideal.exp (s (ix5 n p k i j) - along (peak s) (ix5 n p k i j)) := by
  pointwise [powers]

theorem weights_at (e : FVec Ideal S8x4x2x8192x8448 .f32) (n : Fin 8) (p : Fin 4) (k : Fin 2) (i : Fin 8192) (j : Fin 8448) :
    weights e (ix5 n p k i j) = Ideal.div (e (ix5 n p k i j)) (∑ l : Fin 8448, e (ix5 n p k i l)) := by
  pointwise [weights, along]

/-- The weights of real scores: powers of two of the scores divided by `log 2`, over their sum. -/
theorem softmax_at (s : FVec Ideal S8x4x2x8192x8448 .f32) (n : Fin 8) (p : Fin 4) (k : Fin 2) (i : Fin 8192) (σ : Fin 8448 → ℝ)
    (hσ : ∀ j, s (ix5 n p k i j) = ((σ j * Real.log 2 : ℝ) : EReal)) (j : Fin 8448) :
    weights (powers s) (ix5 n p k i j) = (((2 : ℝ) ^ σ j / ∑ k, (2 : ℝ) ^ σ k : ℝ) : EReal) := by
  obtain ⟨M, hM⟩ := fold_real fun j : Fin (8447 + 1) => σ j * Real.log 2
  have hp : peak s (ix4 n p k i) = (M : EReal) := by
    rw [peak_at, bot_sup_eq]
    simp only [hσ]
    exact hM
  have he : ∀ j, powers s (ix5 n p k i j) = (Real.exp (σ j * Real.log 2 - M) : EReal) := fun j => by
    rw [powers_at, along_at, hp, hσ, exp_sub]
  rw [weights_at]
  simp only [he]
  exact softmax_weight σ (fun j => σ j * Real.log 2) (fun _ => rfl) M j

/-- The first weights, and the second. -/
def fst (w : FVec Ideal S8x4x2x8192x8448 .f32) : FVec Ideal S8x4x8192x8448 .f32 :=
  shapeCast S8x4x8192x8448 (extractStridedSlice S8x4x1x8192x8448 ![0, 0, 0, 0, 0] w slices_S8x4x2x8192x8448_S8x4x1x8192x8448_0_0_0_0_0)
    shapeCasts_S8x4x1x8192x8448_S8x4x8192x8448

def snd (w : FVec Ideal S8x4x2x8192x8448 .f32) : FVec Ideal S8x4x8192x8448 .f32 :=
  shapeCast S8x4x8192x8448 (extractStridedSlice S8x4x1x8192x8448 ![0, 0, 1, 0, 0] w slices_S8x4x2x8192x8448_S8x4x1x8192x8448_0_0_1_0_0)
    shapeCasts_S8x4x1x8192x8448_S8x4x8192x8448

def less (lam : FVec Ideal S_ .f32) (x y : FVec Ideal S8x4x8192x8448 .f32) : FVec Ideal S8x4x8192x8448 .f32 :=
  subf x (mulf (broadcastInDim S8x4x8192x8448 ![] bcast_S_S8x4x8192x8448 lam) y)

def mix (v : FVec Ideal S8x8448x4x128 .f32) (w : FVec Ideal S8x4x8192x8448 .f32) : FVec Ideal S8x8192x4x128 .f32 :=
  transpose S8x8192x4x128 [0, 3, 1, 2] (Host.dotGeneral dot_S8x8448x4x128_S8x4x8192x8448_S8x4x128x8192_1_3_3_2_02_01 none v w)
    transposes_S8x4x128x8192_S8x8192x4x128_0_3_1_2

def result (lam : FVec Ideal S_ .f32) (w : FVec Ideal S8x4x2x8192x8448 .f32) (v : FVec Ideal S8x8448x4x128 .f32) : FVec Ideal S8x8192x4x128 .f32 :=
  mix v (less lam (fst w) (snd w))

variable (m : (ℓ : Loc nD τ sig) → Buf (Elt Ideal) ℓ) (c : Dev nD)

theorem res_eq : Value.res_main_v26 m c
    = result (m ((c.tc : Thread nD τ).loc main_arg12)) (weights (powers (scores (m ((c.tc : Thread nD τ).loc main_arg0)) (joinA (m ((c.tc : Thread nD τ).loc main_arg1)) (m ((c.tc : Thread nD τ).loc main_arg7)))))) (joinV (m ((c.tc : Thread nD τ).loc main_arg2)) (m ((c.tc : Thread nD τ).loc main_arg8))) := rfl

theorem scores_at (q : FVec Ideal S8x8192x4x2x64 .f32) (kk : FVec Ideal S8x8448x4x2x64 .f32) (n : Fin 8) (p : Fin 4) (k : Fin 2) (i : Fin 8192)
    (j : Fin 8448) : scores q kk (ix5 n p k i j) = ((∑ e : Fin 64, q (ix5 n i p k e) * kk (ix5 n j p k e)) * ((1 / 8 : ℝ) : EReal) : EReal) := by
  pointwise [scores]
  rw [eighth]

theorem fst_at (w : FVec Ideal S8x4x2x8192x8448 .f32) (n : Fin 8) (p : Fin 4) (i : Fin 8192) (j : Fin 8448) :
    fst w (ix4 n p i j) = w (ix5 n p 0 i j) := by
  pointwise [fst]

theorem snd_at (w : FVec Ideal S8x4x2x8192x8448 .f32) (n : Fin 8) (p : Fin 4) (i : Fin 8192) (j : Fin 8448) :
    snd w (ix4 n p i j) = w (ix5 n p 1 i j) := by
  pointwise [snd]

theorem less_at (lam : FVec Ideal S_ .f32) (x y : FVec Ideal S8x4x8192x8448 .f32) (n : Fin 8) (p : Fin 4) (i : Fin 8192) (j : Fin 8448) :
    less lam x y (ix4 n p i j) = (x (ix4 n p i j) - lam ix0 * y (ix4 n p i j) : EReal) := by
  pointwise [less]

theorem mix_at (v : FVec Ideal S8x8448x4x128 .f32) (w : FVec Ideal S8x4x8192x8448 .f32) (n : Fin 8) (i : Fin 8192) (p : Fin 4)
    (d : Fin 128) : mix v w (ix4 n i p d) = ∑ j : Fin 8448, v (ix4 n j p d) * w (ix4 n p i j) := by
  pointwise [mix]

theorem result_at (lam : FVec Ideal S_ .f32) (w : FVec Ideal S8x4x2x8192x8448 .f32) (v : FVec Ideal S8x8448x4x128 .f32) (n : Fin 8)
    (i : Fin 8192) (p : Fin 4) (d : Fin 128) : result lam w v (ix4 n i p d)
      = ∑ j : Fin 8448, v (ix4 n j p d) * (w (ix5 n p 0 i j) - lam ix0 * w (ix5 n p 1 i j) : EReal) := by
  rw [result, mix_at]
  simp only [less_at, fst_at, snd_at]

end Cert.Proof.Diff

end
-- ==== Proof.Grouped.lean ====
/-
  The reference's grouped attention at an index.
-/
module

public import proofs.«01_k».proof.Proof.Weights
public import proofs.«01_k».proof.Proof.Gen.Reference2Ideal
public import proofs.«01_k».proof.Proof.Gen.Reference2Ideal.Run
public import Idealize.ShloMosaic.Lib.Pointwise
public import Idealize.ShloMosaic.Lib.Claim
public import Idealize.ShloMosaic.Lib.IdealHost

@[expose] public section

set_option maxRecDepth 16384

noncomputable section

namespace Cert.Proof.Grouped

open Cert.Reference2Ideal Cert.Reference2Ideal.Gen
open Idealize.ShloMosaic Idealize.ShloMosaic.TcCoe Idealize.SL.Sem
open Cert.Proof.Soft

theorem low_at (j : S_.Idx) : constant (F := Ideal) S_ .f32 0xFF800000#32 j = (⊥ : EReal) := by
  show Ideal.ofBits .f32 0xFF800000#32 = ⊥
  simp [Ideal.ofBits, Ideal.ieee]

theorem eighth : Ideal.ofBits .f32 0x3E000000#32 = ((1 / 8 : ℝ) : EReal) := by
  simp [Ideal.ofBits, Ideal.ieee, -EReal.coe_mul]; norm_num

/-! ## The stages -/

def joinB (l : FVec Ideal S8x8192x2x64 .f32) (x : FVec Ideal S8x256x2x64 .f32) : FVec Ideal S8x8448x2x64 .f32 :=
  concatenate S8x8448x2x64 1 [⟨S8x8192x2x64, l⟩, ⟨S8x256x2x64, x⟩] concatenates_S8x8192x2x64_S8x256x2x64_S8x8448x2x64_d1

def scores (q : FVec Ideal S8x8192x2x4x64 .f32) (k : FVec Ideal S8x8448x2x64 .f32) : FVec Ideal S8x2x4x8192x8448 .f32 :=
  mulf (transpose S8x2x4x8192x8448 [0, 1, 4, 3, 2] (Host.dotGeneral dot_S8x8448x2x64_S8x8192x2x4x64_S8x2x8448x8192x4_3_4_1_13_02_02 none k q)
      transposes_S8x2x8448x8192x4_S8x2x4x8192x8448_0_1_4_3_2)
    (broadcastInDim S8x2x4x8192x8448 ![] bcast_S_S8x2x4x8192x8448 (constant S_ .f32 0x3E000000#32))

/-- A row's number at each of its positions. -/
def along (x : FVec Ideal S8x2x4x8192 .f32) : FVec Ideal S8x2x4x8192x8448 .f32 :=
  broadcastInDim S8x2x4x8192x8448 ![0, 1, 2, 3, 4] bcast_S8x2x4x8192x1_S8x2x4x8192x8448_0_1_2_3_4 (broadcastInDim S8x2x4x8192x1 ![0, 1, 2, 3] bcast_S8x2x4x8192_S8x2x4x8192x1_0_1_2_3 x)

def top (s : FVec Ideal S8x2x4x8192x8448 .f32) (z : FVec Ideal S_ .f32) : FVec Ideal S8x2x4x8192 .f32 :=
  Host.reduce FloatOps.maximumf s z reducesTo_S8x2x4x8192x8448_S8x2x4x8192_d4 h_S_

def atLeast (z : FVec Ideal S_ .f32) (x : FVec Ideal S8x2x4x8192 .f32) : FVec Ideal S8x2x4x8192 .f32 :=
  maximumf (broadcastInDim S8x2x4x8192 ![] bcast_S_S8x2x4x8192 z) x

def peak (s : FVec Ideal S8x2x4x8192x8448 .f32) : FVec Ideal S8x2x4x8192 .f32 :=
  atLeast (constant S_ .f32 0xFF800000#32) (top s (constant S_ .f32 0xFF800000#32))

def powers (s : FVec Ideal S8x2x4x8192x8448 .f32) : FVec Ideal S8x2x4x8192x8448 .f32 := Host.exp (subf s (along (peak s)))

def weights (e : FVec Ideal S8x2x4x8192x8448 .f32) : FVec Ideal S8x2x4x8192x8448 .f32 :=
  Host.divf e (along (Host.reduceAdd e (constant S_ .f32 0x00000000#32) reducesTo_S8x2x4x8192x8448_S8x2x4x8192_d4 h_S_))

theorem along_at (x : FVec Ideal S8x2x4x8192 .f32) (n : Fin 8) (g : Fin 2) (r : Fin 4) (i : Fin 8192) (j : Fin 8448) :
    along x (ix5 n g r i j) = x (ix4 n g r i) := by
  pointwise [along]

theorem top_at (s : FVec Ideal S8x2x4x8192x8448 .f32) (z : FVec Ideal S_ .f32) (n : Fin 8) (g : Fin 2) (r : Fin 4) (i : Fin 8192) :
    top s z (ix4 n g r i) = Finset.univ.fold max (z (Shape.Idx.first h_S_)) fun j : Fin 8448 => s (ix5 n g r i j) := by
  unfold top
  generalize (reducesTo_S8x2x4x8192x8448_S8x2x4x8192_d4 : S8x2x4x8192x8448.ReducesTo [4] S8x2x4x8192) = hr
  simp only [pointwise]

theorem atLeast_at (z : FVec Ideal S_ .f32) (x : FVec Ideal S8x2x4x8192 .f32) (n : Fin 8) (g : Fin 2) (r : Fin 4) (i : Fin 8192) :
    atLeast z x (ix4 n g r i) = (max (z ix0) (x (ix4 n g r i)) : EReal) := by
  pointwise [atLeast]

theorem peak_at (s : FVec Ideal S8x2x4x8192x8448 .f32) (n : Fin 8) (g : Fin 2) (r : Fin 4) (i : Fin 8192) :
    peak s (ix4 n g r i) = max ⊥ (Finset.univ.fold max (⊥ : EReal) fun j : Fin 8448 => s (ix5 n g r i j)) := by
  unfold peak
  rw [atLeast_at, top_at, low_at, low_at]

theorem powers_at (s : FVec Ideal S8x2x4x8192x8448 .f32) (n : Fin 8) (g : Fin 2) (r : Fin 4) (i : Fin 8192) (j : Fin 8448) :
    powers s (ix5 n g r i j) = Ideal.exp (s (ix5 n g r i j) - along (peak s) (ix5 n g r i j)) := by
  pointwise [powers]

theorem weights_at (e : FVec Ideal S8x2x4x8192x8448 .f32) (n : Fin 8) (g : Fin 2) (r : Fin 4) (i : Fin 8192) (j : Fin 8448) :
    weights e (ix5 n g r i j) = Ideal.div (e (ix5 n g r i j)) (∑ k : Fin 8448, e (ix5 n g r i k)) := by
  pointwise [weights, along]

/-- The weights of real scores: powers of two of the scores divided by `log 2`, over their sum. -/
theorem softmax_at (s : FVec Ideal S8x2x4x8192x8448 .f32) (n : Fin 8) (g : Fin 2) (r : Fin 4) (i : Fin 8192) (σ : Fin 8448 → ℝ)
    (hσ : ∀ j, s (ix5 n g r i j) = ((σ j * Real.log 2 : ℝ) : EReal)) (j : Fin 8448) :
    weights (powers s) (ix5 n g r i j) = (((2 : ℝ) ^ σ j / ∑ k, (2 : ℝ) ^ σ k : ℝ) : EReal) := by
  obtain ⟨M, hM⟩ := fold_real fun j : Fin (8447 + 1) => σ j * Real.log 2
  have hp : peak s (ix4 n g r i) = (M : EReal) := by
    rw [peak_at, bot_sup_eq]
    simp only [hσ]
    exact hM
  have he : ∀ j, powers s (ix5 n g r i j) = (Real.exp (σ j * Real.log 2 - M) : EReal) := fun j => by
    rw [powers_at, along_at, hp, hσ, exp_sub]
  rw [weights_at]
  simp only [he]
  exact softmax_weight σ (fun j => σ j * Real.log 2) (fun _ => rfl) M j

def mix (v : FVec Ideal S8x8448x2x64 .f32) (w : FVec Ideal S8x2x4x8192x8448 .f32) : FVec Ideal S8x8192x2x4x64 .f32 :=
  transpose S8x8192x2x4x64 [0, 4, 1, 3, 2] (Host.dotGeneral dot_S8x8448x2x64_S8x2x4x8192x8448_S8x2x64x4x8192_1_4_3_23_02_01 none v w)
    transposes_S8x2x64x4x8192_S8x8192x2x4x64_0_4_1_3_2

theorem scores_at (q : FVec Ideal S8x8192x2x4x64 .f32) (k : FVec Ideal S8x8448x2x64 .f32) (n : Fin 8) (g : Fin 2) (r : Fin 4) (i : Fin 8192)
    (j : Fin 8448) : scores q k (ix5 n g r i j) = ((∑ e : Fin 64, k (ix4 n j g e) * q (ix5 n i g r e)) * ((1 / 8 : ℝ) : EReal) : EReal) := by
  pointwise [scores]
  rw [eighth]

theorem mix_at (v : FVec Ideal S8x8448x2x64 .f32) (w : FVec Ideal S8x2x4x8192x8448 .f32) (n : Fin 8) (i : Fin 8192) (g : Fin 2) (r : Fin 4)
    (d : Fin 64) : mix v w (ix5 n i g r d) = ∑ j : Fin 8448, v (ix4 n j g d) * w (ix5 n g r i j) := by
  pointwise [mix]

end Cert.Proof.Grouped

end
-- ==== Proof.Finite2.lean ====
/-
  What the second precondition says: the even layers' latent queries, their keys, the differential heads' values and
  the factor are real numbers.
-/
module

public import proofs.«01_k».proof.Pre_finite2
public import proofs.«01_k».proof.Proof.Gen.Pre_finite2
public import proofs.«01_k».proof.Proof.Finite

@[expose] public section

set_option maxRecDepth 16384

noncomputable section

namespace Cert.Proof.Finite

open Idealize.ShloMosaic

/-- One number above `⊥` and below `⊤`. -/
theorem real_one (x : FVec Ideal Cert.Pre_finite2.S_ .f32) (hr : Cert.Pre_finite2.S_.ReducesTo [] Cert.Pre_finite2.S_)
    (hu : 0 < Cert.Pre_finite2.S_.numel)
    (h : Host.reduce IntOp.andi (andi (cmpf .ogt x (constant Cert.Pre_finite2.S_ .f32 0xFF800000#32))
      (cmpf .olt x (constant Cert.Pre_finite2.S_ .f32 0x7F800000#32))) (constantI Cert.Pre_finite2.S_ 1 1#1) hr hu = fun _ => 1#1) : Reals x := by
  intro i
  haveI : Subsingleton Cert.Pre_finite2.S_.Idx := ⟨fun a b => funext fun k => k.elim0⟩
  obtain ⟨h1, h2⟩ := IntOp.andi_eq_one.1 (Host.reduce_andi_all _ _ hr hu (fun k => k.elim0) (congrFun h (fun k => k.elim0)) i)
  have h1' : Ideal.cmp .ogt (x i) (constant (F := Ideal) Cert.Pre_finite2.S_ .f32 0xFF800000#32 i) = 1 := h1
  have h2' : Ideal.cmp .olt (x i) (constant (F := Ideal) Cert.Pre_finite2.S_ .f32 0x7F800000#32 i) = 1 := h2
  rw [show constant (F := Ideal) Cert.Pre_finite2.S_ .f32 0xFF800000#32 i = (⊥ : EReal) from low_at _, Ideal.cmp_ogt_eq_one] at h1'
  rw [show constant (F := Ideal) Cert.Pre_finite2.S_ .f32 0x7F800000#32 i = (⊤ : EReal) from high_at _, Ideal.cmp_olt_eq_one] at h2'
  exact (EReal.coe_toReal h2'.ne h1'.ne').symm

open Cert.Pre_finite2 in
theorem reals2 (a0 a1 : FVec Ideal S8x8192x4x2x64 .f32) (a2 : FVec Ideal S8x8192x4x128 .f32) (a3 : FVec Ideal S8x8192x2x4x64 .f32)
    (a4 a5 : FVec Ideal S8x8192x2x64 .f32) (a6 a7 : FVec Ideal S8x256x4x2x64 .f32) (a8 : FVec Ideal S8x256x4x128 .f32)
    (a9 : FVec Ideal S8x256x2x4x64 .f32) (a10 a11 : FVec Ideal S8x256x2x64 .f32) (a12 : FVec Ideal S_ .f32)
    (h : fn (F := Ideal) a0 a1 a2 a3 a4 a5 a6 a7 a8 a9 a10 a11 a12 = fun _ => 1#1) :
    (Reals a0 ∧ Reals a3 ∧ Reals a1 ∧ Reals a4 ∧ Reals a7 ∧ Reals a10) ∧ Reals a2 ∧ Reals a8 ∧ Reals a12 := by
  dsimp only [fn, fn_part1, fn_part2, fn_part3] at h
  obtain ⟨h, h12⟩ := one_at h
  obtain ⟨h, h8⟩ := one_at h
  obtain ⟨h, h2⟩ := one_at h
  obtain ⟨h, h10⟩ := one_at h
  obtain ⟨h, h7⟩ := one_at h
  obtain ⟨h, h4⟩ := one_at h
  obtain ⟨h, h1⟩ := one_at h
  obtain ⟨h0, h3⟩ := one_at h
  exact ⟨⟨real_of _ _ _ _ h0, real_of _ _ _ _ h3, real_of _ _ _ _ h1, real_of _ _ _ _ h4, real_of _ _ _ _ h7, real_of _ _ _ _ h10⟩,
    real_of _ _ _ _ h2, real_of _ _ _ _ h8, real_one _ _ _ h12⟩

end Cert.Proof.Finite

end
-- ==== Proof.Value2.lean ====
/-
  The even layers' two results are the reference's.
-/
module

public import proofs.«01_k».proof.Proof.Final2
public import proofs.«01_k».proof.Proof.Diff
public import proofs.«01_k».proof.Proof.Grouped
public import proofs.«01_k».proof.Proof.Finite2

@[expose] public section

set_option maxRecDepth 16384

noncomputable section

namespace Cert.Proof.Even

open Cert.Kernel2Ideal Cert.Kernel2Ideal.Gen
open Idealize.ShloMosaic Idealize.ShloMosaic.TcCoe Idealize.SL.Sem
open Cert.Proof.Soft Cert.Proof.Finite

/-! ## Sums over the lanes -/

/-- 64 lanes in one half of 128, zeros in the other. -/
def half (k : Fin 2) (f : Fin 64 → ℝ) (e : Fin 128) : ℝ := if (e : ℕ) / 64 = k then f ⟨e % 64, by omega⟩ else 0

theorem half_sum (k : Fin 2) (f : Fin 64 → ℝ) (K : Fin 2 → Fin 64 → ℝ) (s : ℝ) :
    ∑ e : Fin 128, (half k f e * s) * K ⟨e / 64, by omega⟩ ⟨e % 64, by omega⟩ = (∑ e, f e * K k e) * s := by
  have split : ∀ F : Fin 128 → ℝ, ∑ e, F e = (∑ e : Fin 64, F ⟨e, by omega⟩) + ∑ e : Fin 64, F ⟨64 + e, by omega⟩ := fun F => by
    rw [show (∑ e, F e) = ∑ e : Fin (64 + 64), F e from rfl, Fin.sum_univ_add]; rfl
  have d0 : ∀ e : Fin 64, (e : ℕ) / 64 = 0 := fun e => by omega
  have m0 : ∀ e : Fin 64, (e : ℕ) % 64 = e := fun e => by omega
  have d1 : ∀ e : Fin 64, (64 + (e : ℕ)) / 64 = 1 := fun e => by omega
  have m1 : ∀ e : Fin 64, (64 + (e : ℕ)) % 64 = e := fun e => by omega
  rw [split, Finset.sum_mul]
  unfold half
  match k with
  | 0 =>
    simp only [d0, m0, d1, m1]
    simp
    exact Finset.sum_congr rfl fun e _ => by ring
  | 1 =>
    simp only [d0, m0, d1, m1]
    simp
    exact Finset.sum_congr rfl fun e _ => by ring

/-! ## Real arrays one after the other -/

theorem real_joinA {l : FVec Ideal S8x8192x4x2x64 .f32} {x : FVec Ideal S8x256x4x2x64 .f32} (hl : Reals l) (hx : Reals x) (b : Fin 8)
    (j : Fin 8448) (p : Fin 4) (k : Fin 2) (e : Fin 64) : joinA l x (ix5 b j p k e) = (((joinA l x (ix5 b j p k e)).toReal : ℝ) : EReal) := by
  rw [joinA_at]
  split
  · exact hl _
  · exact hx _

theorem real_joinV {l : FVec Ideal S8x8192x4x128 .f32} {x : FVec Ideal S8x256x4x128 .f32} (hl : Reals l) (hx : Reals x) (b : Fin 8)
    (j : Fin 8448) (p : Fin 4) (e : Fin 128) : joinV l x (ix4 b j p e) = (((joinV l x (ix4 b j p e)).toReal : ℝ) : EReal) := by
  rw [joinV_at]
  split
  · exact hl _
  · exact hx _

theorem real_joinB {l : FVec Ideal S8x8192x2x64 .f32} {x : FVec Ideal S8x256x2x64 .f32} (hl : Reals l) (hx : Reals x) (b : Fin 8)
    (j : Fin 8448) (g : Fin 2) (e : Fin 64) : joinB l x (ix4 b j g e) = (((joinB l x (ix4 b j g e)).toReal : ℝ) : EReal) := by
  rw [joinB_at]
  split
  · exact hl _
  · exact hx _

/-! ## The queries and the keys as numbers -/

/-- The queries of a head: the differential heads' first, the grouped heads' after them. -/
def rowR (a : FVec Ideal S8x8192x4x2x64 .f32) (q : FVec Ideal S8x8192x2x4x64 .f32) (b : Fin 8) (h : Fin 16) (i : Fin 8192) (e : Fin 128) : ℝ :=
  if h8 : (h : ℕ) < 8 then half ⟨h % 2, by omega⟩ (fun e => (a (ix5 b i ⟨h / 2, by omega⟩ ⟨h % 2, by omega⟩ e)).toReal) e
  else half ⟨(h - 8) / 4, by omega⟩ (fun e => (q (ix5 b i ⟨(h - 8) / 4, by omega⟩ ⟨(h - 8) % 4, by omega⟩ e)).toReal) e

/-- The keys of a block: the differential heads' four, the grouped heads' last. -/
def keyR (a : FVec Ideal S8x8448x4x2x64 .f32) (k : FVec Ideal S8x8448x2x64 .f32) (b : Fin 8) (p : Fin 5) (j : Fin 8448) (e : Fin 128) : ℝ :=
  if hp : (p : ℕ) < 4 then (a (ix5 b j ⟨p, hp⟩ ⟨e / 64, by omega⟩ ⟨e % 64, by omega⟩)).toReal
  else (k (ix4 b j ⟨e / 64, by omega⟩ ⟨e % 64, by omega⟩)).toReal

theorem lanes_first (x : FVec Ideal S8x8448x4x64 .f32) (f : Fin 64 → ℝ) (b : Fin 8) (i : Fin 8448) (p : Fin 4)
    (hx : ∀ e, x (ix4 b i p e) = (f e : EReal)) (k : Fin 2) (hk : (k : ℕ) = 0) (e : Fin 128) :
    lanes x zeros (ix4 b i p e) = ((half k f e : ℝ) : EReal) := by
  rw [lanes_at]
  unfold half
  by_cases he : (e : ℕ) < 64
  · rw [dif_pos he, if_pos (by omega), hx]
    exact congrArg (fun e => ((f e : ℝ) : EReal)) (Fin.ext (by simp; omega))
  · rw [dif_neg he, if_neg (by omega), zeros_at]; rfl

theorem lanes_second (x : FVec Ideal S8x8448x4x64 .f32) (f : Fin 64 → ℝ) (b : Fin 8) (i : Fin 8448) (p : Fin 4)
    (hx : ∀ e, x (ix4 b i p e) = (f e : EReal)) (k : Fin 2) (hk : (k : ℕ) = 1) (e : Fin 128) :
    lanes zeros x (ix4 b i p e) = ((half k f e : ℝ) : EReal) := by
  rw [lanes_at]
  unfold half
  by_cases he : (e : ℕ) < 64
  · rw [dif_pos he, if_neg (by omega), zeros_at]; rfl
  · rw [dif_neg he, if_pos (by omega), hx]
    exact congrArg (fun e => ((f e : ℝ) : EReal)) (Fin.ext (by simp; omega))

theorem rows_real (a : FVec Ideal S8x8192x4x2x64 .f32) (a' : FVec Ideal S8x256x4x2x64 .f32) (q : FVec Ideal S8x8192x2x4x64 .f32)
    (q' : FVec Ideal S8x256x2x4x64 .f32) (ha : Reals a) (hq : Reals q) (b : Fin 8) (h : Fin 16) (i : Fin 8192) (e : Fin 128) :
    rows (joinA a a') (joinQ q q') (ix4 b ⟨i, by omega⟩ h e) = ((rowR a q b h i e : ℝ) : EReal) := by
  have hA : ∀ (p : Fin 4) (k : Fin 2) (e : Fin 64), joinA a a' (ix5 b ⟨i, by omega⟩ p k e) = (((a (ix5 b i p k e)).toReal : ℝ) : EReal) :=
    fun p k e => by rw [joinA_at, dif_pos i.isLt]; exact ha _
  have hB : ∀ (g : Fin 2) (r : Fin 4) (e : Fin 64), joinQ q q' (ix5 b ⟨i, by omega⟩ g r e) = (((q (ix5 b i g r e)).toReal : ℝ) : EReal) :=
    fun g r e => by rw [joinQ_at, dif_pos i.isLt]; exact hq _
  rw [rows, heads_at]
  unfold rowR
  by_cases h8 : (h : ℕ) < 8
  · rw [dif_pos h8, dif_pos h8, flat_at, stacked_at]
    by_cases hk : (h : ℕ) % 2 < 1
    · rw [dif_pos hk]
      refine lanes_first _ _ _ _ _ (fun e => ?_) _ (by show (h : ℕ) % 2 = 0; omega) e
      rw [part0_at, ← hA]
      exact congrArg (fun k => joinA a a' (ix5 b ⟨i, by omega⟩ ⟨h / 2, by omega⟩ k e)) (Fin.ext (by show 0 = (h : ℕ) % 2; omega))
    · rw [dif_neg hk]
      refine lanes_second _ _ _ _ _ (fun e => ?_) _ (by show (h : ℕ) % 2 = 1; omega) e
      rw [part1_at, ← hA]
      exact congrArg (fun k => joinA a a' (ix5 b ⟨i, by omega⟩ ⟨h / 2, by omega⟩ k e)) (Fin.ext (by show 1 = (h : ℕ) % 2; omega))
  · rw [dif_neg h8, dif_neg h8]
    by_cases h4 : (h : ℕ) - 8 < 4
    · rw [dif_pos h4]
      refine lanes_first _ _ _ _ _ (fun e => ?_) _ (by show ((h : ℕ) - 8) / 4 = 0; omega) e
      rw [group0_at, ← hB]
      exact congrArg₂ (fun g r => joinQ q q' (ix5 b ⟨i, by omega⟩ g r e)) (Fin.ext (by show 0 = ((h : ℕ) - 8) / 4; omega))
        (Fin.ext (by show (h : ℕ) - 8 = ((h : ℕ) - 8) % 4; omega))
    · rw [dif_neg h4]
      refine lanes_second _ _ _ _ _ (fun e => ?_) _ (by show ((h : ℕ) - 8) / 4 = 1; omega) e
      rw [group1_at, ← hB]
      exact congrArg₂ (fun g r => joinQ q q' (ix5 b ⟨i, by omega⟩ g r e)) (Fin.ext (by show 1 = ((h : ℕ) - 8) / 4; omega))
        (Fin.ext (by show (h : ℕ) - 8 - 4 = ((h : ℕ) - 8) % 4; omega))

theorem query_real (a : FVec Ideal S8x8192x4x2x64 .f32) (a' : FVec Ideal S8x256x4x2x64 .f32) (q : FVec Ideal S8x8192x2x4x64 .f32)
    (q' : FVec Ideal S8x256x2x4x64 .f32) (ha : Reals a) (hq : Reals q) (b : Fin 8) (h : Fin 16) (i : Fin 8192) (e : Fin 128) :
    queries (joinA a a') (joinQ q q') (ix4 b h ⟨i, by omega⟩ e) = ((rowR a q b h i e * factor : ℝ) : EReal) := by
  rw [queries, scaled_at, scale_at, rows_real _ _ _ _ ha hq, EReal.coe_mul]

theorem key_real (a : FVec Ideal S8x8448x4x2x64 .f32) (k : FVec Ideal S8x8448x2x64 .f32)
    (ha : ∀ b j p k e, a (ix5 b j p k e) = (((a (ix5 b j p k e)).toReal : ℝ) : EReal))
    (hk : ∀ b j g e, k (ix4 b j g e) = (((k (ix4 b j g e)).toReal : ℝ) : EReal)) (b : Fin 8) (p : Fin 5) (j : Fin 8448) (e : Fin 128) :
    keys a k (ix4 b p j e) = ((keyR a k b p j e : ℝ) : EReal) := by
  rw [key_at, blocks_at]
  unfold keyR
  split
  · rw [both_at]; exact ha _ _ _ _ _
  · exact hk _ _ _ _

/-! ## The scores -/

theorem mul_log (x : ℝ) : x * (1 / 8) = x * factor * Real.log 2 := by
  have hl : Real.log 2 ≠ 0 := (Real.log_pos (by norm_num)).ne'
  unfold factor
  field_simp

theorem score_diff (a : FVec Ideal S8x8192x4x2x64 .f32) (q : FVec Ideal S8x8192x2x4x64 .f32) (ka : FVec Ideal S8x8448x4x2x64 .f32)
    (kb : FVec Ideal S8x8448x2x64 .f32) (b : Fin 8) (p : Fin 4) (k : Fin 2) (i : Fin 8192) (j : Fin 8448) (h : Fin 16) (hh : (h : ℕ) = 2 * p + k) :
    ∑ e, rowR a q b h i e * factor * keyR ka kb b (blk h) j e
      = (∑ e, (a (ix5 b i p k e)).toReal * (ka (ix5 b j p k e)).toReal) * factor := by
  have e1 : (⟨h / 2, by omega⟩ : Fin 4) = p := Fin.ext (by show (h : ℕ) / 2 = p; omega)
  have e2 : (⟨h % 2, by omega⟩ : Fin 2) = k := Fin.ext (by show (h : ℕ) % 2 = k; omega)
  rw [← half_sum k _ (fun k e => (ka (ix5 b j p k e)).toReal)]
  refine Finset.sum_congr rfl fun e _ => ?_
  have hp : ((blk h : Fin 5) : ℕ) = p := by show blkOf h = p; unfold blkOf; rw [if_pos (by omega)]; omega
  have e3 : (⟨(blk h : Fin 5), by omega⟩ : Fin 4) = p := Fin.ext hp
  unfold rowR keyR
  rw [dif_pos (by omega), dif_pos (by omega), e1, e2, e3]

theorem score_grouped (a : FVec Ideal S8x8192x4x2x64 .f32) (q : FVec Ideal S8x8192x2x4x64 .f32) (ka : FVec Ideal S8x8448x4x2x64 .f32)
    (kb : FVec Ideal S8x8448x2x64 .f32) (b : Fin 8) (g : Fin 2) (r : Fin 4) (i : Fin 8192) (j : Fin 8448) (h : Fin 16)
    (hh : (h : ℕ) = 8 + 4 * g + r) :
    ∑ e, rowR a q b h i e * factor * keyR ka kb b (blk h) j e
      = (∑ e, (q (ix5 b i g r e)).toReal * (kb (ix4 b j g e)).toReal) * factor := by
  have e1 : (⟨(h - 8) / 4, by omega⟩ : Fin 2) = g := Fin.ext (by show ((h : ℕ) - 8) / 4 = g; omega)
  have e2 : (⟨(h - 8) % 4, by omega⟩ : Fin 4) = r := Fin.ext (by show ((h : ℕ) - 8) % 4 = r; omega)
  rw [← half_sum g _ (fun g e => (kb (ix4 b j g e)).toReal)]
  refine Finset.sum_congr rfl fun e _ => ?_
  have hp : ((blk h : Fin 5) : ℕ) = 4 := by show blkOf h = 4; unfold blkOf; rw [if_neg (by omega)]
  unfold rowR keyR
  rw [dif_neg (by omega), dif_neg (by omega), e1, e2]

/-- The reference's score is the kernel's, times `log 2`. -/
theorem diff_score (q : FVec Ideal S8x8192x4x2x64 .f32) (kk : FVec Ideal S8x8448x4x2x64 .f32) (hq : Reals q)
    (hk : ∀ b j p k e, kk (ix5 b j p k e) = (((kk (ix5 b j p k e)).toReal : ℝ) : EReal)) (b : Fin 8) (p : Fin 4) (k : Fin 2) (i : Fin 8192)
    (j : Fin 8448) : Diff.scores q kk (ix5 b p k i j)
      = (((∑ e, (q (ix5 b i p k e)).toReal * (kk (ix5 b j p k e)).toReal) * factor * Real.log 2 : ℝ) : EReal) := by
  have h : ∀ e : Fin 64, q (ix5 b i p k e) * kk (ix5 b j p k e) = (((q (ix5 b i p k e)).toReal * (kk (ix5 b j p k e)).toReal : ℝ) : EReal) := fun e => by
    rw [EReal.coe_mul, ← hq, ← hk]
  rw [Diff.scores_at, Finset.sum_congr rfl fun e _ => h e, coe_sum, ← EReal.coe_mul, mul_log]

theorem grouped_score (q : FVec Ideal S8x8192x2x4x64 .f32) (kk : FVec Ideal S8x8448x2x64 .f32) (hq : Reals q)
    (hk : ∀ b j g e, kk (ix4 b j g e) = (((kk (ix4 b j g e)).toReal : ℝ) : EReal)) (b : Fin 8) (g : Fin 2) (r : Fin 4) (i : Fin 8192)
    (j : Fin 8448) : Grouped.scores q kk (ix5 b g r i j)
      = (((∑ e, (q (ix5 b i g r e)).toReal * (kk (ix4 b j g e)).toReal) * factor * Real.log 2 : ℝ) : EReal) := by
  have h : ∀ e : Fin 64, kk (ix4 b j g e) * q (ix5 b i g r e) = (((q (ix5 b i g r e)).toReal * (kk (ix4 b j g e)).toReal : ℝ) : EReal) := fun e => by
    rw [EReal.coe_mul, ← hq, ← hk, mul_comm]
  rw [Grouped.scores_at, Finset.sum_congr rfl fun e _ => h e, coe_sum, ← EReal.coe_mul, mul_log]

/-! ## The results -/

variable (a0 : FVec Ideal S8x8192x4x2x64 .f32) (a3 : FVec Ideal S8x8192x2x4x64 .f32) (ka : FVec Ideal S8x8448x4x2x64 .f32)
  (kb vb : FVec Ideal S8x8448x2x64 .f32) (va : FVec Ideal S8x8448x4x128 .f32) (lam : FVec Ideal S_ .f32)

/-- The array the call leaves, of these arguments. -/
def calls : FVec Ideal S8x16x8192x128 .f32 := fun y =>
  attended (fun b h i e => rowR a0 a3 b h i e * factor) (keyR ka kb) (values va vb) (y 0) (y 1) (y 2) (y 3)

theorem calls_diff (b : Fin 8) (p : Fin 4) (k : Fin 2) (i : Fin 8192) (d : Fin 128) (h : Fin 16) (hh : (h : ℕ) = 2 * p + k) :
    calls a0 a3 ka kb vb va (ix4 b h i d)
      = avg (fun j => (2 : ℝ) ^ ((∑ e, (a0 (ix5 b i p k e)).toReal * (ka (ix5 b j p k e)).toReal) * factor)) fun j => va (ix4 b j p d) := by
  show attended _ _ _ b h i d = _
  unfold attended
  refine congrArg₂ avg (funext fun j => ?_) (funext fun j => ?_)
  · rw [score_diff a0 a3 ka kb b p k i j h hh]
  · have hp : ((blk h : Fin 5) : ℕ) = p := by show blkOf h = p; unfold blkOf; rw [if_pos (by omega)]; omega
    rw [value_at, blocks_at, dif_pos (by omega)]
    exact congrArg (fun p => va (ix4 b j p d)) (Fin.ext hp)

theorem calls_grouped (b : Fin 8) (g : Fin 2) (r : Fin 4) (i : Fin 8192) (d : Fin 64) (h : Fin 16) (hh : (h : ℕ) = 8 + 4 * g + r) :
    calls a0 a3 ka kb vb va (ix4 b h i ⟨64 * g + d, by omega⟩)
      = avg (fun j => (2 : ℝ) ^ ((∑ e, (a3 (ix5 b i g r e)).toReal * (kb (ix4 b j g e)).toReal) * factor)) fun j => vb (ix4 b j g d) := by
  show attended _ _ _ b h i ⟨64 * g + d, by omega⟩ = _
  unfold attended
  refine congrArg₂ avg (funext fun j => ?_) (funext fun j => ?_)
  · rw [score_grouped a0 a3 ka kb b g r i j h hh]
  · have hp : ((blk h : Fin 5) : ℕ) = 4 := by show blkOf h = 4; unfold blkOf; rw [if_neg (by omega)]
    rw [value_at, blocks_at, dif_neg (by omega)]
    exact congrArg₂ (fun g d => vb (ix4 b j g d)) (Fin.ext (by show (64 * (g : ℕ) + d) / 64 = g; omega))
      (Fin.ext (by show (64 * (g : ℕ) + d) % 64 = d; omega))

theorem diff_eq (h0 : Reals a0) (hka : ∀ b j p k e, ka (ix5 b j p k e) = (((ka (ix5 b j p k e)).toReal : ℝ) : EReal))
    (hva : ∀ b j p d, va (ix4 b j p d) = (((va (ix4 b j p d)).toReal : ℝ) : EReal)) (hl : Reals lam) :
    differences lam (calls a0 a3 ka kb vb va) = Diff.result lam (Diff.weights (Diff.powers (Diff.scores a0 ka))) va := by
  funext y
  obtain ⟨b, i, p, d, rfl⟩ : ∃ (b : Fin 8) (i : Fin 8192) (p : Fin 4) (d : Fin 128), y = ix4 b i p d :=
    ⟨y 0, y 1, y 2, y 3, by funext a; match a with | 0 => rfl | 1 => rfl | 2 => rfl | 3 => rfl⟩
  rw [differences_at, calls_diff a0 a3 ka kb vb va b p 0 i d ⟨2 * p, by omega⟩ rfl,
    calls_diff a0 a3 ka kb vb va b p 1 i d ⟨2 * p + 1, by omega⟩ rfl, Diff.result_at, hl ix0]
  simp only [Diff.softmax_at _ b p 0 i _ fun j => diff_score a0 ka h0 hka b p 0 i j, Diff.softmax_at _ b p 1 i _ fun j => diff_score a0 ka h0 hka b p 1 i j]
  rw [show (fun j => va (ix4 b j p d)) = fun j => (((va (ix4 b j p d)).toReal : ℝ) : EReal) from funext fun j => hva b j p d,
    Finset.sum_congr rfl fun j _ => congrArg (· * _) (hva b j p d)]
  exact (avg_diff _ _ _ _).symm

theorem grouped_eq (h3 : Reals a3) (hkb : ∀ b j g e, kb (ix4 b j g e) = (((kb (ix4 b j g e)).toReal : ℝ) : EReal)) :
    grouped (calls a0 a3 ka kb vb va) = Grouped.mix vb (Grouped.weights (Grouped.powers (Grouped.scores a3 kb))) := by
  funext y
  obtain ⟨b, i, g, r, d, rfl⟩ : ∃ (b : Fin 8) (i : Fin 8192) (g : Fin 2) (r : Fin 4) (d : Fin 64), y = ix5 b i g r d :=
    ⟨y 0, y 1, y 2, y 3, y 4, by funext a; match a with | 0 => rfl | 1 => rfl | 2 => rfl | 3 => rfl | 4 => rfl⟩
  rw [grouped_at, calls_grouped a0 a3 ka kb vb va b g r i d ⟨8 + 4 * g + r, by omega⟩ rfl, Grouped.mix_at]
  simp only [Grouped.softmax_at _ b g r i _ fun j => grouped_score a3 kb h3 hkb b g r i j]
  rfl

end Cert.Proof.Even

end
-- ==== Proof.Rows.lean ====
/-
  The odd layers' output projection, one token at a time: the residual stream after the mixer, its norm with the gain and
  the modulation, and the router's affinities.
-/
module

public import proofs.«01_k».proof.Proof.Soft
public import Idealize.ShloMosaic.Lib.Pointwise
public import Idealize.ShloMosaic.Lib.Claim

@[expose] public section

set_option maxRecDepth 16384

noncomputable section

namespace Cert.Proof.Outproj

open Idealize.ShloMosaic
open Cert.Proof.Soft

/-- The mean of a row's squares. -/
def meanSq (x : Fin 1024 → EReal) : EReal := Ideal.div (∑ d, x d * x d) (Ideal.ofBits .f32 0x44800000#32)

/-- A row under the norm with a gain, a scale and a shift. -/
def normed (x g s t : Fin 1024 → EReal) (d : Fin 1024) : EReal :=
  x d * Ideal.rsqrt (meanSq x + Ideal.ofBits .f32 0x358637BD#32) * g d * (1 + s d) + t d

/-- The softmax of sixteen logits. -/
def affinity (l : Fin 16 → EReal) (e : Fin 16) : EReal :=
  Ideal.div (Ideal.exp (l e - Finset.univ.fold max ⊥ l)) (∑ k, Ideal.exp (l k - Finset.univ.fold max ⊥ l))

theorem word_1024 : Ideal.ofBits .f32 0x44800000#32 = ((1024 : ℝ) : EReal) := by
  simp [Ideal.ofBits, Ideal.ieee, -EReal.coe_mul]; norm_num

theorem word_eps : ∃ r : ℝ, 0 < r ∧ Ideal.ofBits .f32 0x358637BD#32 = (r : EReal) := by
  simp only [Ideal.ofBits, Ideal.ieee]
  rw [if_neg (by decide), if_neg (by decide)]
  refine ⟨_, ?_, rfl⟩
  rw [if_neg (by decide)]
  norm_num
  positivity

/-- The norm of a row of real numbers is a row of real numbers. -/
theorem normed_real (x g s t : Fin 1024 → ℝ) (d : Fin 1024) :
    ∃ r : ℝ, normed (fun d => x d) (fun d => g d) (fun d => s d) (fun d => t d) d = (r : EReal) := by
  obtain ⟨ε, hε, he⟩ := word_eps
  have hs : ∑ d, (x d : EReal) * (x d : EReal) = ((∑ d, x d * x d : ℝ) : EReal) := by
    rw [← coe_sum]
    exact Finset.sum_congr rfl fun e _ => by rw [← EReal.coe_mul]
  have h0 : 0 ≤ ∑ d, x d * x d := Finset.sum_nonneg fun d _ => mul_self_nonneg _
  have hp : 0 < (∑ d, x d * x d) * (1024 : ℝ)⁻¹ + ε := by positivity
  unfold normed meanSq
  rw [hs, word_1024, he, div_coe (by norm_num), ← EReal.coe_mul, ← EReal.coe_add, Ideal.rsqrt_coe, if_neg (not_lt.2 hp.le), if_neg hp.ne',
    ← EReal.coe_one, ← EReal.coe_mul, ← EReal.coe_mul, ← EReal.coe_add, ← EReal.coe_mul, ← EReal.coe_add]
  exact ⟨_, rfl⟩

/-- A product in three parts, of which two are of zeros. -/
theorem split_sum {n : ℕ} (w h : Fin n → ℝ) :
    ∑ d, (w d : EReal) * (h d : EReal) + (∑ d, (w d : EReal) * ((h d : EReal) - (h d : EReal))
      + ∑ d, ((w d : EReal) - (w d : EReal)) * (h d : EReal)) = ∑ d, (w d : EReal) * (h d : EReal) := by
  have h1 : ∀ r : ℝ, (r : EReal) - (r : EReal) = 0 := fun r => by rw [← EReal.coe_sub, sub_self, EReal.coe_zero]
  simp only [h1, mul_zero, zero_mul, Finset.sum_const_zero, add_zero]

/-- The lane of 2048 that holds lane `j` of 1024: heads of 64 lanes, each at one half of 128. -/
def lane (j : Fin 1024) : Fin 2048 := ⟨128 * (j.val / 64) + 64 * (j.val / 64 % 2) + j.val % 64, by omega⟩

theorem lane_inj : Function.Injective lane := fun i j h => Fin.ext (by
  have h := congrArg Fin.val h
  simp only [lane] at h
  omega)

/-- The lanes not reached are those of the other half of their head. -/
theorem lane_range (l : Fin 2048) (h : l.val % 128 / 64 = l.val / 128 % 2) : l ∈ Set.range lane :=
  ⟨⟨64 * (l.val / 128) + l.val % 64, by omega⟩, Fin.ext (by simp only [lane]; omega)⟩

/-- A product over heads padded to 128 lanes is the product over the heads' own lanes. -/
theorem padded_sum (f : Fin 2048 → EReal) (g : Fin 1024 → EReal) (h0 : ∀ l : Fin 2048, l.val % 128 / 64 ≠ l.val / 128 % 2 → f l = 0)
    (h : ∀ j, f (lane j) = g j) : ∑ l, f l = ∑ j, g j :=
  (Fintype.sum_of_injective lane lane_inj g f (fun l hl => h0 l fun hl' => hl (lane_range l hl')) fun j => (h j).symm).symm

end Cert.Proof.Outproj

end
-- ==== Proof.Body3.lean ====
/-
  What the output projection's body computes from its blocks, at an index.
-/
module

public import proofs.«01_k».proof.Proof.Rows
public import proofs.«01_k».proof.Proof.Gen.Kernel3Ideal.Frame
public import proofs.«01_k».proof.Proof.Gen.Kernel3Ideal.Skeleton
public import Idealize.ShloMosaic.Lib.Pointwise
public import Idealize.ShloMosaic.Lib.Claim
public import Idealize.ShloMosaic.Lib.Pipeline.Value

@[expose] public section

set_option maxRecDepth 16384

noncomputable section

namespace Cert.Proof.Outproj

open Cert.Kernel3Ideal Cert.Kernel3Ideal.Gen
open Idealize.ShloMosaic Idealize.ShloMosaic.TcCoe

theorem zero3 : (![0, 0, 0] : Fin 3 → ℕ) = fun _ => 0 := by funext a; fin_cases a <;> rfl

theorem inbH (h : Fin 16) (a : Fin S1x16x256x128.rank) :
    (![0, h.val, 0, 0] : Fin 4 → ℕ) a + S1x1x256x128.size a ≤ S1x16x256x128.size a := by
  fin_cases a <;> simp [S1x1x256x128, S1x16x256x128]

/-- One head's rows of a block. -/
def ldH (x : Vec Ideal S1x16x256x128 .f32) (h : Fin 16) : Vec Ideal S1x1x256x128 .f32 :=
  View.ld x (Rect.unit (s := S1x16x256x128) ![0, h.val, 0, 0] S1x1x256x128.size (inbH h))

theorem ldH_at (x : Vec Ideal S1x16x256x128 .f32) (h : Fin 16) (a : Fin 256) (l : Fin 128) :
    shapeCast S256x128 (ldH x h) shapeCasts_S1x1x256x128_S256x128 (ix2 a l) = x (ix4 0 h a l) := by
  pointwise [ldH]

/-- One head's rows, of the latents or of the context. -/
def part (s : BitVec 1) (x0 x1 : Vec Ideal S1x16x256x128 .f32) (h : Fin 16) : FVec Ideal S256x128 .bf16 :=
  truncf .bf16 (Scalar.select s (shapeCast S256x128 (ldH x1 h) shapeCasts_S1x1x256x128_S256x128 : FVec Ideal S256x128 .f32)
    (shapeCast S256x128 (ldH x0 h) shapeCasts_S1x1x256x128_S256x128)) bitsLt_bf16_f32

theorem part_at (s : BitVec 1) (x0 x1 : Vec Ideal S1x16x256x128 .f32) (h : Fin 16) (a : Fin 256) (l : Fin 128) :
    part s x0 x1 h (ix2 a l) = (Scalar.select s x1 x0) (ix4 0 h a l) := by
  unfold part Scalar.select
  split
  · exact ldH_at x1 h a l
  · exact ldH_at x0 h a l

theorem cat (f : Fin 16 → FVec Ideal S256x128 .bf16) :
    Shape.Concatenates ((List.ofFn fun n : Fin 16 => (⟨S256x128, f n⟩ : (s : Shape) × (s.Idx → Ideal .bf16))).map (·.1)) S256x2048 1 := by
  have h := concatenates_S256x128_S256x128_S256x128_S256x128_S256x128_S256x128_S256x128_S256x128_S256x128_S256x128_S256x128_S256x128_S256x128_S256x128_S256x128_S256x128_S256x2048_d1
  simpa using h

/-- The sixteen heads side by side. -/
def side (f : Fin 16 → FVec Ideal S256x128 .bf16) : FVec Ideal S256x2048 .bf16 :=
  concatenate S256x2048 1 (List.ofFn fun n : Fin 16 => (⟨S256x128, f n⟩ : (s : Shape) × (s.Idx → Ideal .bf16))) (cat f)

theorem side_at (f : Fin 16 → FVec Ideal S256x128 .bf16) (a : Fin 256) (l : Fin 2048) :
    side f (ix2 a l) = f ⟨l.val / 128, by omega⟩ (ix2 a ⟨l.val % 128, by omega⟩) :=
  concatenate_ofFn_apply 1 f (cat f) rfl 128 rfl (ix2 a l) ⟨l.val / 128, by omega⟩ rfl (ix2 a ⟨l.val % 128, by omega⟩) rfl (fun b hb => by
    match b with
    | 0 => rfl
    | 1 => exact absurd rfl hb)

def times (v : FVec Ideal S256x2048 .bf16) (x4 : Vec Ideal S2048x1024 .bf16) : FVec Ideal S256x1024 .f32 :=
  matmul dot_S256x2048_S2048x1024_S256x1024_1_0_0_1_n_n none v
    (shapeCast S2048x1024 (View.ld x4 r0_17) shapeCasts_S2048x1024_S2048x1024 : FVec Ideal S2048x1024 .bf16)
    (constant S256x1024 .f32 0x00000000#32)

theorem times_at (v : FVec Ideal S256x2048 .bf16) (x4 : Vec Ideal S2048x1024 .bf16) (a : Fin 256) (n : Fin 1024) :
    times v x4 (ix2 a n) = ∑ l : Fin 2048, v (ix2 a l) * x4 (ix2 l n) := by
  pointwise [times]

variable (i : grid0.Coords) (x0 x1 : Vec Ideal S1x16x256x128 .f32) (x2 : Vec Ideal S1x256x1024 .f32) (x3 : Vec Ideal S1x6x1024 .f32)
  (x4 : Vec Ideal S2048x1024 .bf16) (x5 : Vec Ideal S1x1024 .f32) (x6 : Vec Ideal S16x1024 .f32)

/-- Whether a tile is the context's. -/
def late (i : grid0.Coords) : BitVec 1 := Scalar.cmpi .sge (BitVec.ofNat 32 (i 1).val) 32#32

theorem product_eq : k0_pay27 i x0 x1 x2 x3 x4 x5 x6
    = times (side (part (late i) x0 x1)) x4 := rfl

theorem product_at (a : Fin 256) (n : Fin 1024) : k0_pay27 i x0 x1 x2 x3 x4 x5 x6 (ix2 a n)
    = ∑ l : Fin 2048, (Scalar.select (late i) x1 x0) (ix4 0 ⟨l.val / 128, by omega⟩ a ⟨l.val % 128, by omega⟩) * x4 (ix2 l n) := by
  rw [product_eq, times_at]
  exact Finset.sum_congr rfl fun l _ => by rw [side_at, part_at]

theorem stream_at (y : FVec Ideal S256x1024 .f32) (a : Fin 256) (n : Fin 1024) :
    k0_pay18 (k0_pay2 (View.ld x3 r0_0)) y (View.ld x2 r0_18) (ix2 a n) = (x2 (ix3 0 a n) + x3 (ix3 0 2 n) * y (ix2 a n) : EReal) := by
  pointwise [k0_pay18, k0_pay2]

theorem left7 (a : Fin 256) (n : Fin 1024) : out0_7 i x0 x1 x2 x3 x4 x5 x6 (ix3 0 a n)
    = (x2 (ix3 0 a n) + x3 (ix3 0 2 n) * k0_pay27 i x0 x1 x2 x3 x4 x5 x6 (ix2 a n) : EReal) := by
  unfold out0_7 k0_pay26
  generalize k0_pay27 i x0 x1 x2 x3 x4 x5 x6 = y
  rw [← stream_at, View.canon_unit_zero zero3]
  pointwise [k0_pay19]

theorem norm_at (v1 : FVec Ideal S6x1024 .f32) (y : FVec Ideal S256x1024 .f32) (x : Vec Ideal S1x256x1024 .f32) (a : Fin 256) (n : Fin 1024) :
    k0_pay20 v1 y x (View.ld x5 r0_19) (ix2 a n)
      = normed (fun d => k0_pay18 v1 y x (ix2 a d)) (fun d => x5 (ix2 0 d)) (fun d => v1 (ix2 4 d)) (fun d => v1 (ix2 3 d)) n := by
  unfold normed meanSq k0_pay20
  generalize k0_pay18 v1 y x = z
  pointwise

/-- The row the body norms. -/
def row (y : FVec Ideal S256x1024 .f32) (a : Fin 256) (d : Fin 1024) : EReal := x2 (ix3 0 a d) + x3 (ix3 0 2 d) * y (ix2 a d)

def hidden (y : FVec Ideal S256x1024 .f32) (a : Fin 256) : Fin 1024 → EReal :=
  normed (row x2 x3 y a) (fun d => x5 (ix2 0 d)) (fun d => x3 (ix3 0 4 d)) (fun d => x3 (ix3 0 3 d))

theorem mods_at (r : Fin 6) (d : Fin 1024) : k0_pay2 (View.ld x3 r0_0) (ix2 r d) = x3 (ix3 0 r d) := by
  pointwise [k0_pay2]

theorem hidden_at (y : FVec Ideal S256x1024 .f32) (a : Fin 256) (n : Fin 1024) :
    k0_pay20 (k0_pay2 (View.ld x3 r0_0)) y (View.ld x2 r0_18) (View.ld x5 r0_19) (ix2 a n) = hidden x2 x3 x5 y a n := by
  rw [norm_at, hidden]
  simp only [stream_at, mods_at]
  rfl

theorem left8 (a : Fin 256) (n : Fin 1024) : out0_8 i x0 x1 x2 x3 x4 x5 x6 (ix3 0 a n)
    = hidden x2 x3 x5 (k0_pay27 i x0 x1 x2 x3 x4 x5 x6) a n := by
  unfold out0_8 k0_pay26
  generalize k0_pay27 i x0 x1 x2 x3 x4 x5 x6 = y
  rw [← hidden_at, View.canon_unit_zero zero3]
  pointwise [k0_pay21]

/-- The three products of the parts. -/
def logits (v133 : FVec Ideal S256x1024 .f32) (v139 v142 : FVec Ideal S16x1024 .bf16) (v143 : FVec Ideal S256x1024 .bf16) : FVec Ideal S16x256 .f32 :=
  addf (matmul dot_S16x1024_S256x1024_S16x256_1_1_0_0_n_n none v139 v143 (constant S16x256 .f32 0x00000000#32))
    (addf (matmul dot_S16x1024_S256x1024_S16x256_1_1_0_0_n_n none v139
        (truncf .bf16 (subf v133 (extf .f32 v143 bitsLt_bf16_f32)) bitsLt_bf16_f32) (constant S16x256 .f32 0x00000000#32))
      (matmul dot_S16x1024_S256x1024_S16x256_1_1_0_0_n_n none v142 v143 (constant S16x256 .f32 0x00000000#32)))

theorem logits_at (v133 : FVec Ideal S256x1024 .f32) (v139 v142 : FVec Ideal S16x1024 .bf16) (v143 : FVec Ideal S256x1024 .bf16)
    (e : Fin 16) (a : Fin 256) : logits v133 v139 v142 v143 (ix2 e a)
      = ((∑ d : Fin 1024, v139 (ix2 e d) * v143 (ix2 a d)) + ((∑ d : Fin 1024, v139 (ix2 e d) * (v133 (ix2 a d) - v143 (ix2 a d)))
        + ∑ d : Fin 1024, v142 (ix2 e d) * v143 (ix2 a d)) : EReal) := by
  pointwise [logits]

def soft (l : FVec Ideal S16x256 .f32) : FVec Ideal S1x16x256 .f32 :=
  have t : FVec Ideal S256 .f32 := multiReduction .maximumf [0] S256 l 0xFF800000#32 reduces_S16x256_S256 (.inl rfl) rfl
  have p := exp (subf l (broadcastTo S16x256 (shapeCast S1x256 t shapeCasts_S256_S1x256) broadcasts_S1x256_S16x256))
  have u : FVec Ideal S256 .f32 := multiReduction .add [0] S256 p 0x00000000#32 reduces_S16x256_S256 (.inl rfl) rfl
  shapeCast S1x16x256 (divf p (broadcastTo S16x256 (shapeCast S1x256 u shapeCasts_S256_S1x256) broadcasts_S1x256_S16x256))
    shapeCasts_S16x256_S1x16x256

theorem word_low : Ideal.ofBits .f32 0xFF800000#32 = ⊥ := by
  simp [Ideal.ofBits, Ideal.ieee]

theorem soft_at (l : FVec Ideal S16x256 .f32) (e : Fin 16) (a : Fin 256) : soft l (ix3 0 e a) = affinity (fun k => l (ix2 k a)) e := by
  unfold affinity
  rw [← word_low]
  pointwise [soft]

theorem pay1_eq (v133 : FVec Ideal S256x1024 .f32) (v139 v142 : FVec Ideal S16x1024 .bf16) (v143 : FVec Ideal S256x1024 .bf16) :
    k0_pay1 v133 v139 v142 v143 = soft (logits v133 v139 v142 v143) := rfl

theorem router_at (w : Vec Ideal S16x1024 .f32) (e : Fin 16) (d : Fin 1024) : k0_pay23 (View.ld w r0_20) (ix2 e d) = w (ix2 e d) := by
  pointwise [k0_pay23, k0_pay22]

theorem rest_at (w : Vec Ideal S16x1024 .f32) (e : Fin 16) (d : Fin 1024) :
    k0_pay24 (View.ld w r0_20) (ix2 e d) = (w (ix2 e d) - w (ix2 e d) : EReal) := by
  pointwise [k0_pay24, k0_pay23, k0_pay22]

theorem left9 (y : FVec Ideal S256x1024 .f32) (hy : k0_pay27 i x0 x1 x2 x3 x4 x5 x6 = y) (e : Fin 16) (a : Fin 256)
    (hw : ∀ k d, ∃ r : ℝ, x6 (ix2 k d) = (r : EReal)) (hh : ∀ d, ∃ r : ℝ, hidden x2 x3 x5 y a d = (r : EReal)) :
    out0_9 i x0 x1 x2 x3 x4 x5 x6 (ix3 0 e a) = affinity (fun k => ∑ d, x6 (ix2 k d) * hidden x2 x3 x5 y a d) e := by
  unfold out0_9 k0_pay26
  rw [hy, View.canon_unit_zero zero3, pay1_eq, soft_at]
  refine congrFun (congrArg affinity (funext fun k => ?_)) e
  have h2 : ∀ d, k0_pay25 (k0_pay2 (View.ld x3 r0_0)) y (View.ld x2 r0_18) (View.ld x5 r0_19) (ix2 a d) = hidden x2 x3 x5 y a d :=
    fun d => hidden_at x2 x3 x5 y a d
  rw [logits_at]
  simp only [h2, hidden_at, router_at, rest_at]
  choose w hw using hw k
  choose h hh using hh
  simp only [hw, hh]
  exact split_sum w h

end Cert.Proof.Outproj

end
-- ==== Proof.Read3.lean ====
/-
  The blocks the output projection's call reads.
-/
module

public import proofs.«01_k».proof.Proof.Body3
public import proofs.«01_k».proof.Proof.Gen.Kernel3Ideal.Frame
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Outproj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The row of the modulations a tile takes: its batch's, or the context's. -/
def modRow (b j : ℕ) : ℕ := if j < 32 then b else 8

theorem idx : ∀ t : Fin cfg0.N, win0_0.index t = ![t.val / 33, 0, min (t.val % 33) 31, 0]
    ∧ win0_1.index t = ![t.val / 33, 0, t.val % 33 - 32, 0] ∧ win0_2.index t = ![t.val / 33, t.val % 33, 0]
    ∧ win0_3.index t = ![modRow (t.val / 33) (t.val % 33), 0, 0] ∧ win0_4.index t = ![0, 0] ∧ win0_5.index t = ![0, 0]
    ∧ win0_6.index t = ![0, 0] :=
  (by decide +kernel : ∀ t : Fin grid0.N, _)

theorem idx_out : ∀ t : Fin cfg0.N, win0_7.index t = ![t.val / 33, t.val % 33, 0] ∧ win0_8.index t = ![t.val / 33, t.val % 33, 0]
    ∧ win0_9.index t = ![t.val / 33, 0, t.val % 33] :=
  (by decide +kernel : ∀ t : Fin grid0.N, _)

theorem late_at : ∀ t : Fin cfg0.N, late (grid0.coords t) = if t.val % 33 < 32 then 0#1 else 1#1 :=
  (by decide +kernel : ∀ t : Fin grid0.N, _)

theorem read_lat (T : grid0.Coords → Fin 4 → ℕ) (hr : ∀ i i' : grid0.Coords, (∀ a, reads0_0 a = true → i a = i' a) → T i = T i')
    (hi : ∀ (i : grid0.Coords) a, (T i a + 1) * S1x16x256x128.size a ≤ S8x16x8192x128.size a)
    (hw : ∀ i : grid0.Coords, EltTy.bits .f32 = 32 ∨ (Rect.block (s := S8x16x8192x128) S1x16x256x128.size (T i) (hi i)).WholeWords (EltTy.packing .f32))
    (X : FVec Ideal S8x16x8192x128 .f32) (t : Fin grid0.N) (b : Fin 8) (h : Fin 16) (p : ℕ) (i : Fin 8192) (a : Fin 256) (d : Fin 128)
    (e : T (grid0.coords t) = ![b.val, 0, p, 0]) (hp : i.val = p * 256 + a.val) :
    ((Pipeline.Window.ofSpec (Memref.whole main_v33) S1x16x256x128.size T reads0_0 false false 2 stage0_0 sem0_0
      hrank0 hr hi nbuf0_0 (Memref.isWhole_whole _) hw hstage0_0).blk t).view.read (Elt Ideal) X (ix4 0 h a d) = X (ix4 b h i d) := by
  refine congrArg X (funext fun k => Fin.ext ?_)
  have H : ∀ f : Fin 4 → ℕ, f = ![b.val, 0, p, 0] → ∀ k : Fin 4,
      f k * S1x16x256x128.size k + 1 * (ix4 (0 : Fin 1) h a d k).val = (ix4 b h i d k).val := by
    rintro f rfl k
    match k with
    | 0 => exact Nat.mul_one _
    | 1 => show 0 * _ + 1 * h.val = h.val; omega
    | 2 => show p * 256 + 1 * a.val = i.val; omega
    | 3 => show 0 * _ + 1 * d.val = d.val; omega
  exact H _ e k

theorem read_ctx (T : grid0.Coords → Fin 4 → ℕ) (hr : ∀ i i' : grid0.Coords, (∀ a, reads0_1 a = true → i a = i' a) → T i = T i')
    (hi : ∀ (i : grid0.Coords) a, (T i a + 1) * S1x16x256x128.size a ≤ S8x16x256x128.size a)
    (hw : ∀ i : grid0.Coords, EltTy.bits .f32 = 32 ∨ (Rect.block (s := S8x16x256x128) S1x16x256x128.size (T i) (hi i)).WholeWords (EltTy.packing .f32))
    (X : FVec Ideal S8x16x256x128 .f32) (t : Fin grid0.N) (b : Fin 8) (h : Fin 16) (a : Fin 256) (d : Fin 128)
    (e : T (grid0.coords t) = ![b.val, 0, 0, 0]) :
    ((Pipeline.Window.ofSpec (Memref.whole main_v46) S1x16x256x128.size T reads0_1 false false 2 stage0_1 sem0_1
      hrank0 hr hi nbuf0_1 (Memref.isWhole_whole _) hw hstage0_1).blk t).view.read (Elt Ideal) X (ix4 0 h a d) = X (ix4 b h a d) := by
  refine congrArg X (funext fun k => Fin.ext ?_)
  have H : ∀ f : Fin 4 → ℕ, f = ![b.val, 0, 0, 0] → ∀ k : Fin 4,
      f k * S1x16x256x128.size k + 1 * (ix4 (0 : Fin 1) h a d k).val = (ix4 b h a d k).val := by
    rintro f rfl k
    match k with
    | 0 => exact Nat.mul_one _
    | 1 => show 0 * _ + 1 * h.val = h.val; omega
    | 2 => show 0 * _ + 1 * a.val = a.val; omega
    | 3 => show 0 * _ + 1 * d.val = d.val; omega
  exact H _ e k

theorem read_mod (T : grid0.Coords → Fin 3 → ℕ) (hr : ∀ i i' : grid0.Coords, (∀ a, reads0_3 a = true → i a = i' a) → T i = T i')
    (hi : ∀ (i : grid0.Coords) a, (T i a + 1) * S1x6x1024.size a ≤ S16x6x1024.size a)
    (hw : ∀ i : grid0.Coords, EltTy.bits .f32 = 32 ∨ (Rect.block (s := S16x6x1024) S1x6x1024.size (T i) (hi i)).WholeWords (EltTy.packing .f32))
    (X : FVec Ideal S16x6x1024 .f32) (t : Fin grid0.N) (b : Fin 16) (r : Fin 6) (n : Fin 1024)
    (e : T (grid0.coords t) = ![b.val, 0, 0]) :
    ((Pipeline.Window.ofSpec (Memref.whole main_v4) S1x6x1024.size T reads0_3 false false 2 stage0_3 sem0_3
      hrank0 hr hi nbuf0_3 (Memref.isWhole_whole _) hw hstage0_3).blk t).view.read (Elt Ideal) X (ix3 0 r n) = X (ix3 b r n) := by
  refine congrArg X (funext fun k => Fin.ext ?_)
  have H : ∀ f : Fin 3 → ℕ, f = ![b.val, 0, 0] → ∀ k : Fin 3,
      f k * S1x6x1024.size k + 1 * (ix3 (0 : Fin 1) r n k).val = (ix3 b r n k).val := by
    rintro f rfl k
    match k with
    | 0 => exact Nat.mul_one _
    | 1 => show 0 * _ + 1 * r.val = r.val; omega
    | 2 => show 0 * _ + 1 * n.val = n.val; omega
  exact H _ e k

theorem lat_blk (t : Fin cfg0.N) (b : Fin 8) (h : Fin 16) (i : Fin 8192) (a : Fin 256) (d : Fin 128) (hb : b.val = t.val / 33)
    (hi : i.val = t.val % 33 * 256 + a.val) : iblk m c 0 t (ix4 0 h a d) = V m c main_v33 (ix4 b h i d) :=
  read_lat cc0_transform_0 hreads0_0 hinb0_0 hwx0_0 (V m c main_v33) t b h (min (t.val % 33) 31) i a d
    ((idx t).1.trans (by rw [hb])) (by omega)

theorem ctx_blk (t : Fin cfg0.N) (b : Fin 8) (h : Fin 16) (a : Fin 256) (d : Fin 128) (hb : b.val = t.val / 33) :
    iblk m c 1 t (ix4 0 h a d) = V m c main_v46 (ix4 b h a d) :=
  read_ctx cc0_transform_1 hreads0_1 hinb0_1 hwx0_1 (V m c main_v46) t b h a d
    ((idx t).2.1.trans (by rw [hb, show t.val % 33 - 32 = 0 by omega]))

theorem mod_blk (t : Fin cfg0.N) (b : Fin 16) (r : Fin 6) (n : Fin 1024) (hb : b.val = modRow (t.val / 33) (t.val % 33)) :
    iblk m c 3 t (ix3 0 r n) = V m c main_v4 (ix3 b r n) :=
  read_mod cc0_transform_3 hreads0_3 hinb0_3 hwx0_3 (V m c main_v4) t b r n ((idx t).2.2.2.1.trans (by rw [hb]))

theorem row_blk (t : Fin cfg0.N) (b : Fin 8) (i : Fin 8448) (a : Fin 256) (n : Fin 1024) (hb : b.val = t.val / 33)
    (hi : i.val = t.val % 33 * 256 + a.val) : iblk m c 2 t (ix3 0 a n) = V m c main_v0 (ix3 b i n) := by
  blk_ext [iblk, idx t]

theorem weight_blk (t : Fin cfg0.N) (l : Fin 2048) (n : Fin 1024) : iblk m c 4 t (ix2 l n) = V m c main_v18 (ix2 l n) := by
  blk_ext [iblk, idx t]

theorem gain_blk (t : Fin cfg0.N) (n : Fin 1024) : iblk m c 5 t (ix2 0 n) = V m c main_v19 (ix2 0 n) := by
  blk_ext [iblk, idx t]

theorem router_blk (t : Fin cfg0.N) (e : Fin 16) (n : Fin 1024) : iblk m c 6 t (ix2 e n) = V m c main_v20 (ix2 e n) := by
  blk_ext [iblk, idx t]

end Cert.Proof.Outproj

end
-- ==== Proof.Host3.lean ====
/-
  The arrays the output projection's call reads, of the program's arguments, and each at an index.
-/
module

public import proofs.«01_k».proof.Proof.Rows
public import proofs.«01_k».proof.Proof.Gen.Kernel3Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Outproj

open Cert.Kernel3Ideal Cert.Kernel3Ideal.Gen
open Idealize.ShloMosaic Idealize.ShloMosaic.TcCoe Idealize.SL.Sem

/-! ## The heads' rows -/

def pairsL (o : FVec Ideal S8x8192x16x64 .f32) : FVec Ideal S8x8x2x8192x64 .f32 :=
  shapeCast S8x8x2x8192x64 (transpose S8x16x8192x64 [0, 2, 1, 3] o transposes_S8x8192x16x64_S8x16x8192x64_0_2_1_3)
    shapeCasts_S8x16x8192x64_S8x8x2x8192x64

def zeroL : FVec Ideal S8x8x8192x64 .f32 := broadcastInDim S8x8x8192x64 ![] bcast_S_S8x8x8192x64 (constant S_ .f32 0x00000000#32)

def evenL (p : FVec Ideal S8x8x2x8192x64 .f32) : FVec Ideal S8x8x8192x64 .f32 :=
  shapeCast S8x8x8192x64 (extractStridedSlice S8x8x1x8192x64 ![0, 0, 0, 0, 0] p slices_S8x8x2x8192x64_S8x8x1x8192x64_0_0_0_0_0)
    shapeCasts_S8x8x1x8192x64_S8x8x8192x64

def oddL (p : FVec Ideal S8x8x2x8192x64 .f32) : FVec Ideal S8x8x8192x64 .f32 :=
  shapeCast S8x8x8192x64 (extractStridedSlice S8x8x1x8192x64 ![0, 0, 1, 0, 0] p slices_S8x8x2x8192x64_S8x8x1x8192x64_0_0_1_0_0)
    shapeCasts_S8x8x1x8192x64_S8x8x8192x64

def lanesL (a z : FVec Ideal S8x8x8192x64 .f32) : FVec Ideal S8x8x8192x128 .f32 :=
  concatenate S8x8x8192x128 3 [⟨S8x8x8192x64, a⟩, ⟨S8x8x8192x64, z⟩] concatenates_S8x8x8192x64_S8x8x8192x64_S8x8x8192x128_d3

def stackL (x y : FVec Ideal S8x8x8192x128 .f32) : FVec Ideal S8x16x8192x128 .f32 :=
  shapeCast S8x16x8192x128 (concatenate S8x8x2x8192x128 2
    [⟨S8x8x1x8192x128, broadcastInDim S8x8x1x8192x128 ![0, 1, 3, 4] bcast_S8x8x8192x128_S8x8x1x8192x128_0_1_3_4 x⟩,
     ⟨S8x8x1x8192x128, broadcastInDim S8x8x1x8192x128 ![0, 1, 3, 4] bcast_S8x8x8192x128_S8x8x1x8192x128_0_1_3_4 y⟩]
    concatenates_S8x8x1x8192x128_S8x8x1x8192x128_S8x8x2x8192x128_d2) shapeCasts_S8x8x2x8192x128_S8x16x8192x128

/-- The latents' rows, each head's at its half of 128 lanes. -/
def rowsL (o : FVec Ideal S8x8192x16x64 .f32) : FVec Ideal S8x16x8192x128 .f32 :=
  stackL (lanesL (evenL (pairsL o)) zeroL) (lanesL zeroL (oddL (pairsL o)))

def pairsC (o : FVec Ideal S8x256x16x64 .f32) : FVec Ideal S8x8x2x256x64 .f32 :=
  shapeCast S8x8x2x256x64 (transpose S8x16x256x64 [0, 2, 1, 3] o transposes_S8x256x16x64_S8x16x256x64_0_2_1_3)
    shapeCasts_S8x16x256x64_S8x8x2x256x64

def zeroC : FVec Ideal S8x8x256x64 .f32 := broadcastInDim S8x8x256x64 ![] bcast_S_S8x8x256x64 (constant S_ .f32 0x00000000#32)

def evenC (p : FVec Ideal S8x8x2x256x64 .f32) : FVec Ideal S8x8x256x64 .f32 :=
  shapeCast S8x8x256x64 (extractStridedSlice S8x8x1x256x64 ![0, 0, 0, 0, 0] p slices_S8x8x2x256x64_S8x8x1x256x64_0_0_0_0_0)
    shapeCasts_S8x8x1x256x64_S8x8x256x64

def oddC (p : FVec Ideal S8x8x2x256x64 .f32) : FVec Ideal S8x8x256x64 .f32 :=
  shapeCast S8x8x256x64 (extractStridedSlice S8x8x1x256x64 ![0, 0, 1, 0, 0] p slices_S8x8x2x256x64_S8x8x1x256x64_0_0_1_0_0)
    shapeCasts_S8x8x1x256x64_S8x8x256x64

def lanesC (a z : FVec Ideal S8x8x256x64 .f32) : FVec Ideal S8x8x256x128 .f32 :=
  concatenate S8x8x256x128 3 [⟨S8x8x256x64, a⟩, ⟨S8x8x256x64, z⟩] concatenates_S8x8x256x64_S8x8x256x64_S8x8x256x128_d3

def stackC (x y : FVec Ideal S8x8x256x128 .f32) : FVec Ideal S8x16x256x128 .f32 :=
  shapeCast S8x16x256x128 (concatenate S8x8x2x256x128 2
    [⟨S8x8x1x256x128, broadcastInDim S8x8x1x256x128 ![0, 1, 3, 4] bcast_S8x8x256x128_S8x8x1x256x128_0_1_3_4 x⟩,
     ⟨S8x8x1x256x128, broadcastInDim S8x8x1x256x128 ![0, 1, 3, 4] bcast_S8x8x256x128_S8x8x1x256x128_0_1_3_4 y⟩]
    concatenates_S8x8x1x256x128_S8x8x1x256x128_S8x8x2x256x128_d2) shapeCasts_S8x8x2x256x128_S8x16x256x128

/-- The context's rows. -/
def rowsC (o : FVec Ideal S8x256x16x64 .f32) : FVec Ideal S8x16x256x128 .f32 :=
  stackC (lanesC (evenC (pairsC o)) zeroC) (lanesC zeroC (oddC (pairsC o)))

theorem pairsL_at (o : FVec Ideal S8x8192x16x64 .f32) (b : Fin 8) (p : Fin 8) (k : Fin 2) (i : Fin 8192) (e : Fin 64) :
    pairsL o (ix5 b p k i e) = o (ix4 b i ⟨p.val * 2 + k.val, by omega⟩ e) := by
  pointwise [pairsL]

theorem evenL_at (p : FVec Ideal S8x8x2x8192x64 .f32) (b : Fin 8) (q : Fin 8) (i : Fin 8192) (e : Fin 64) :
    evenL p (ix4 b q i e) = p (ix5 b q 0 i e) := by
  pointwise [evenL]

theorem oddL_at (p : FVec Ideal S8x8x2x8192x64 .f32) (b : Fin 8) (q : Fin 8) (i : Fin 8192) (e : Fin 64) :
    oddL p (ix4 b q i e) = p (ix5 b q 1 i e) := by
  pointwise [oddL]

theorem zeroL_at (b : Fin 8) (q : Fin 8) (i : Fin 8192) (e : Fin 64) : zeroL (ix4 b q i e) = (0 : EReal) := by
  pointwise [zeroL]

theorem lanesL_at (a z : FVec Ideal S8x8x8192x64 .f32) (b : Fin 8) (q : Fin 8) (i : Fin 8192) (e : Fin 128) :
    lanesL a z (ix4 b q i e) = if he : (e : ℕ) < 64 then a (ix4 b q i ⟨e, he⟩) else z (ix4 b q i ⟨e - 64, by omega⟩) := by
  pointwise [lanesL]

theorem stackL_at (x y : FVec Ideal S8x8x8192x128 .f32) (b : Fin 8) (h : Fin 16) (i : Fin 8192) (e : Fin 128) :
    stackL x y (ix4 b h i e) = if _ : (h : ℕ) % 2 < 1 then x (ix4 b ⟨h / 2, by omega⟩ i e) else y (ix4 b ⟨h / 2, by omega⟩ i e) := by
  pointwise [stackL]

theorem rowsL_at (o : FVec Ideal S8x8192x16x64 .f32) (b : Fin 8) (h : Fin 16) (i : Fin 8192) (l : Fin 128) :
    rowsL o (ix4 b h i l) = if l.val / 64 = h.val % 2 then o (ix4 b i h ⟨l.val % 64, by omega⟩) else (0 : EReal) := by
  unfold rowsL
  rw [stackL_at]
  have hi : ∀ (k : Fin 2) (e : Fin 64), k.val = h.val % 2 → e.val = l.val % 64 →
      o (ix4 b i ⟨h.val / 2 * 2 + k.val, by omega⟩ e) = o (ix4 b i h ⟨l.val % 64, by omega⟩) := by
    intro k e hk he
    have h1 : (⟨h.val / 2 * 2 + k.val, by omega⟩ : Fin 16) = h := Fin.ext (by show h.val / 2 * 2 + k.val = h.val; omega)
    have h2 : e = ⟨l.val % 64, by omega⟩ := Fin.ext he
    rw [h1, h2]
  split_ifs with h1 h2 h2
  · rw [lanesL_at, dif_pos (by omega), evenL_at, pairsL_at]
    exact hi 0 ⟨l.val, by omega⟩ (by show 0 = _; omega) (by show l.val = _; omega)
  · rw [lanesL_at, dif_neg (by omega), zeroL_at]
  · rw [lanesL_at, dif_neg (by omega), oddL_at, pairsL_at]
    exact hi 1 ⟨l.val - 64, by omega⟩ (by show 1 = _; omega) (by show l.val - 64 = _; omega)
  · rw [lanesL_at, dif_pos (by omega), zeroL_at]

theorem pairsC_at (o : FVec Ideal S8x256x16x64 .f32) (b : Fin 8) (p : Fin 8) (k : Fin 2) (i : Fin 256) (e : Fin 64) :
    pairsC o (ix5 b p k i e) = o (ix4 b i ⟨p.val * 2 + k.val, by omega⟩ e) := by
  pointwise [pairsC]

theorem evenC_at (p : FVec Ideal S8x8x2x256x64 .f32) (b : Fin 8) (q : Fin 8) (i : Fin 256) (e : Fin 64) :
    evenC p (ix4 b q i e) = p (ix5 b q 0 i e) := by
  pointwise [evenC]

theorem oddC_at (p : FVec Ideal S8x8x2x256x64 .f32) (b : Fin 8) (q : Fin 8) (i : Fin 256) (e : Fin 64) :
    oddC p (ix4 b q i e) = p (ix5 b q 1 i e) := by
  pointwise [oddC]

theorem zeroC_at (b : Fin 8) (q : Fin 8) (i : Fin 256) (e : Fin 64) : zeroC (ix4 b q i e) = (0 : EReal) := by
  pointwise [zeroC]

theorem lanesC_at (a z : FVec Ideal S8x8x256x64 .f32) (b : Fin 8) (q : Fin 8) (i : Fin 256) (e : Fin 128) :
    lanesC a z (ix4 b q i e) = if he : (e : ℕ) < 64 then a (ix4 b q i ⟨e, he⟩) else z (ix4 b q i ⟨e - 64, by omega⟩) := by
  pointwise [lanesC]

theorem stackC_at (x y : FVec Ideal S8x8x256x128 .f32) (b : Fin 8) (h : Fin 16) (i : Fin 256) (e : Fin 128) :
    stackC x y (ix4 b h i e) = if _ : (h : ℕ) % 2 < 1 then x (ix4 b ⟨h / 2, by omega⟩ i e) else y (ix4 b ⟨h / 2, by omega⟩ i e) := by
  pointwise [stackC]

theorem rowsC_at (o : FVec Ideal S8x256x16x64 .f32) (b : Fin 8) (h : Fin 16) (i : Fin 256) (l : Fin 128) :
    rowsC o (ix4 b h i l) = if l.val / 64 = h.val % 2 then o (ix4 b i h ⟨l.val % 64, by omega⟩) else (0 : EReal) := by
  unfold rowsC
  rw [stackC_at]
  have hi : ∀ (k : Fin 2) (e : Fin 64), k.val = h.val % 2 → e.val = l.val % 64 →
      o (ix4 b i ⟨h.val / 2 * 2 + k.val, by omega⟩ e) = o (ix4 b i h ⟨l.val % 64, by omega⟩) := by
    intro k e hk he
    have h1 : (⟨h.val / 2 * 2 + k.val, by omega⟩ : Fin 16) = h := Fin.ext (by show h.val / 2 * 2 + k.val = h.val; omega)
    have h2 : e = ⟨l.val % 64, by omega⟩ := Fin.ext he
    rw [h1, h2]
  split_ifs with h1 h2 h2
  · rw [lanesC_at, dif_pos (by omega), evenC_at, pairsC_at]
    exact hi 0 ⟨l.val, by omega⟩ (by show 0 = _; omega) (by show l.val = _; omega)
  · rw [lanesC_at, dif_neg (by omega), zeroC_at]
  · rw [lanesC_at, dif_neg (by omega), oddC_at, pairsC_at]
    exact hi 1 ⟨l.val - 64, by omega⟩ (by show 1 = _; omega) (by show l.val - 64 = _; omega)
  · rw [lanesC_at, dif_pos (by omega), zeroC_at]

/-! ## The padded weights -/

/-- The divisor, one in place of zero. -/
def divisor (k : IVec S_ 32) : IVec S_ 32 := select (cmpi .eq (id k) (constantI S_ 32 0#32)) (constantI S_ 32 1#32) (id k)

def zero16 : IVec S16 32 := broadcastInDim S16 ![] bcast_S_S16 (constantI S_ 32 0#32)

/-- A remainder with the divisor's sign, of the remainder with the dividend's. -/
def signed (r : IVec S16 32) (d : IVec S_ 32) : IVec S16 32 :=
  select (andi (cmpi .ne (cmpi .slt r zero16) (broadcastInDim S16 ![] bcast_S_S16 (cmpi .slt d (constantI S_ 32 0#32)))) (cmpi .ne r zero16))
    (addi r (broadcastInDim S16 ![] bcast_S_S16 d)) r

def remainder (n : IVec S16 32) (k : IVec S_ 32) : IVec S16 32 :=
  signed (Host.remsi n (broadcastInDim S16 ![] bcast_S_S16 (divisor k))) (divisor k)

/-- The parity of each head's number. -/
def parity : IVec S16 32 := remainder (iotaInDim S16 32 0) (constantI S_ 32 2#32)

theorem parity_at (h : Fin 16) : parity (ix1 h) = BitVec.ofNat 32 (h.val % 2) := by
  fin_cases h <;> rfl

def blocksW (w : FVec Ideal S1024x1024 .f32) : FVec Ideal S16x64x1024 .f32 := shapeCast S16x64x1024 w shapeCasts_S1024x1024_S16x64x1024

def zeroW : FVec Ideal S16x64x1024 .f32 := broadcastInDim S16x64x1024 ![] bcast_S_S16x64x1024 (constant S_ .f32 0x00000000#32)

/-- The weights of the heads of one parity, zero at the others. -/
def half (p : IVec S16 32) (k : BitVec 32) (w z : FVec Ideal S16x64x1024 .f32) : FVec Ideal S16x64x1024 .f32 :=
  select (broadcastInDim S16x64x1024 ![0, 1, 2] bcast_S16x1x1_S16x64x1024_0_1_2
    (cmpi .eq (broadcastInDim S16x1x1 ![0] bcast_S16_S16x1x1_0 p) (broadcastInDim S16x1x1 ![] bcast_S_S16x1x1 (constantI S_ 32 k)))) w z

def joinW (a b : FVec Ideal S16x64x1024 .f32) : FVec Ideal S2048x1024 .bf16 :=
  truncf .bf16 (shapeCast S2048x1024 (concatenate S16x128x1024 1 [⟨S16x64x1024, a⟩, ⟨S16x64x1024, b⟩]
    concatenates_S16x64x1024_S16x64x1024_S16x128x1024_d1) shapeCasts_S16x128x1024_S2048x1024 : FVec Ideal S2048x1024 .f32) bitsLt_bf16_f32

def padded (w : FVec Ideal S1024x1024 .f32) : FVec Ideal S2048x1024 .bf16 :=
  joinW (half parity 0#32 (blocksW w) zeroW) (half parity 1#32 (blocksW w) zeroW)

theorem zeroW_at (h : Fin 16) (e : Fin 64) (n : Fin 1024) : zeroW (ix3 h e n) = (0 : EReal) := by
  pointwise [zeroW]

theorem mask_at (p : IVec S16 32) (k : BitVec 32) (h : Fin 16) (e : Fin 64) (n : Fin 1024) :
    (broadcastInDim S16x64x1024 ![0, 1, 2] bcast_S16x1x1_S16x64x1024_0_1_2
    (cmpi .eq (broadcastInDim S16x1x1 ![0] bcast_S16_S16x1x1_0 p) (broadcastInDim S16x1x1 ![] bcast_S_S16x1x1 (constantI S_ 32 k)))) (ix3 h e n)
      = IntOp.cmpi .eq (p (ix1 h)) k := by
  pointwise

theorem half_at (k : Fin 2) (w : FVec Ideal S16x64x1024 .f32) (h : Fin 16) (e : Fin 64) (n : Fin 1024) :
    half parity (BitVec.ofNat 32 k.val) w zeroW (ix3 h e n) = if k.val = h.val % 2 then w (ix3 h e n) else (0 : EReal) := by
  have hm := mask_at parity (BitVec.ofNat 32 k.val) h e n
  rw [parity_at] at hm
  have h2 : h.val % 2 = 0 ∨ h.val % 2 = 1 := by omega
  unfold half
  show (if _ = (1 : BitVec 1) then _ else _) = _
  rw [hm, ← zeroW_at h e n]
  match k with
  | 0 => rcases h2 with h2 | h2 <;> rw [h2] <;> rfl
  | 1 => rcases h2 with h2 | h2 <;> rw [h2] <;> rfl

theorem joinW_at (a b : FVec Ideal S16x64x1024 .f32) (l : Fin 2048) (n : Fin 1024) : joinW a b (ix2 l n)
    = if he : l.val % 128 < 64 then a (ix3 ⟨l.val / 128, by omega⟩ ⟨l.val % 128, he⟩ n)
      else b (ix3 ⟨l.val / 128, by omega⟩ ⟨l.val % 128 - 64, by omega⟩ n) := by
  pointwise [joinW]

theorem blocksW_at (w : FVec Ideal S1024x1024 .f32) (h : Fin 16) (e : Fin 64) (n : Fin 1024) :
    blocksW w (ix3 h e n) = w (ix2 ⟨h.val * 64 + e.val, by omega⟩ n) := by
  pointwise [blocksW]

theorem padded_at (w : FVec Ideal S1024x1024 .f32) (l : Fin 2048) (n : Fin 1024) : padded w (ix2 l n)
    = if l.val % 128 / 64 = l.val / 128 % 2 then w (ix2 ⟨64 * (l.val / 128) + l.val % 64, by omega⟩ n) else (0 : EReal) := by
  have hi : ∀ e : Fin 64, e.val = l.val % 64 → w (ix2 (⟨l.val / 128 * 64 + e.val, by omega⟩ : Fin 1024) n)
      = w (ix2 ⟨64 * (l.val / 128) + l.val % 64, by omega⟩ n) := fun e he => by
    have : (⟨l.val / 128 * 64 + e.val, by omega⟩ : Fin 1024) = ⟨64 * (l.val / 128) + l.val % 64, by omega⟩ := Fin.ext (by show l.val / 128 * 64 + e.val = 64 * (l.val / 128) + l.val % 64; omega)
    rw [this]
  unfold padded
  rw [joinW_at]
  split_ifs with h1 h2 h2
  · refine (half_at 0 _ _ _ n).trans ?_
    rw [if_pos (by show 0 = l.val / 128 % 2; omega), blocksW_at]
    exact hi ⟨l.val % 128, h1⟩ (by show l.val % 128 = _; omega)
  · refine (half_at 0 _ _ _ n).trans ?_
    rw [if_neg (by show ¬ 0 = l.val / 128 % 2; omega)]
  · refine (half_at 1 _ _ _ n).trans ?_
    rw [if_pos (by show 1 = l.val / 128 % 2; omega), blocksW_at]
    exact hi ⟨l.val % 128 - 64, by omega⟩ (by show l.val % 128 - 64 = _; omega)
  · refine (half_at 1 _ _ _ n).trans ?_
    rw [if_neg (by show ¬ 1 = l.val / 128 % 2; omega)]

/-! ## The others -/

def joined (a : FVec Ideal S8x8192x1024 .f32) (b : FVec Ideal S8x256x1024 .f32) : FVec Ideal S8x8448x1024 .f32 :=
  concatenate S8x8448x1024 1 [⟨S8x8192x1024, a⟩, ⟨S8x256x1024, b⟩] concatenates_S8x8192x1024_S8x256x1024_S8x8448x1024_d1

theorem joined_at (a : FVec Ideal S8x8192x1024 .f32) (x : FVec Ideal S8x256x1024 .f32) (b : Fin 8) (i : Fin 8448) (n : Fin 1024) :
    joined a x (ix3 b i n) = if hi : (i : ℕ) < 8192 then a (ix3 b ⟨i, hi⟩ n) else x (ix3 b ⟨i - 8192, by omega⟩ n) := by
  pointwise [joined]

def mods (a : FVec Ideal S8x6x1024 .f32) (b : FVec Ideal S1x6x1024 .f32) (z : FVec Ideal S7x6x1024 .f32) : FVec Ideal S16x6x1024 .f32 :=
  concatenate S16x6x1024 0 [⟨S8x6x1024, a⟩, ⟨S1x6x1024, b⟩, ⟨S7x6x1024, z⟩] concatenates_S8x6x1024_S1x6x1024_S7x6x1024_S16x6x1024_d0

def modsL (M : FVec Ideal S8x1x6x1024 .f32) : FVec Ideal S8x6x1024 .f32 := shapeCast S8x6x1024 M shapeCasts_S8x1x6x1024_S8x6x1024

def modsC (M : FVec Ideal S6x1024 .f32) : FVec Ideal S1x6x1024 .f32 := broadcastInDim S1x6x1024 ![1, 2] bcast_S6x1024_S1x6x1024_1_2 M

def modsZ : FVec Ideal S7x6x1024 .f32 := broadcastInDim S7x6x1024 ![] bcast_S_S7x6x1024 (constant S_ .f32 0x00000000#32)

def allMods (M : FVec Ideal S8x1x6x1024 .f32) (N : FVec Ideal S6x1024 .f32) : FVec Ideal S16x6x1024 .f32 := mods (modsL M) (modsC N) modsZ

theorem mods_row (a : FVec Ideal S8x6x1024 .f32) (y : FVec Ideal S1x6x1024 .f32) (z : FVec Ideal S7x6x1024 .f32) (b : Fin 16) (r : Fin 6) (n : Fin 1024) :
    mods a y z (ix3 b r n) = if h : (b : ℕ) < 8 then a (ix3 ⟨b, h⟩ r n) else
      if h1 : (b : ℕ) - 8 < 1 then y (ix3 ⟨b - 8, h1⟩ r n) else z (ix3 ⟨b - 8 - 1, by omega⟩ r n) := by
  pointwise [mods]

theorem modsL_at (M : FVec Ideal S8x1x6x1024 .f32) (b : Fin 8) (r : Fin 6) (n : Fin 1024) : modsL M (ix3 b r n) = M (ix4 b 0 r n) := by
  pointwise [modsL]

theorem modsC_at (M : FVec Ideal S6x1024 .f32) (r : Fin 6) (n : Fin 1024) : modsC M (ix3 0 r n) = M (ix2 r n) := by
  pointwise [modsC]

theorem allMods_lat (M : FVec Ideal S8x1x6x1024 .f32) (N : FVec Ideal S6x1024 .f32) (b : Fin 8) (r : Fin 6) (n : Fin 1024) :
    allMods M N (ix3 ⟨b.val, by omega⟩ r n) = M (ix4 b 0 r n) := by
  unfold allMods
  rw [mods_row, dif_pos b.isLt, modsL_at]

theorem allMods_ctx (M : FVec Ideal S8x1x6x1024 .f32) (N : FVec Ideal S6x1024 .f32) (r : Fin 6) (n : Fin 1024) :
    allMods M N (ix3 8 r n) = N (ix2 r n) := by
  unfold allMods
  rw [mods_row, dif_neg (by decide), dif_pos (by decide)]
  exact modsC_at N r n

def gain (g : FVec Ideal S1024 .f32) : FVec Ideal S1x1024 .f32 := broadcastInDim S1x1024 ![1] bcast_S1024_S1x1024_1 g

theorem gain_at (g : FVec Ideal S1024 .f32) (n : Fin 1024) : gain g (ix2 0 n) = g (ix1 n) := by
  pointwise [gain]

def router (w : FVec Ideal S1024x16 .f32) : FVec Ideal S16x1024 .f32 := transpose S16x1024 [1, 0] w transposes_S1024x16_S16x1024_1_0

theorem router_row (w : FVec Ideal S1024x16 .f32) (e : Fin 16) (d : Fin 1024) : router w (ix2 e d) = w (ix2 d e) := by
  pointwise [router]

end Cert.Proof.Outproj

end
-- ==== Proof.Arrays3.lean ====
/-
  The arrays the output projection's call reads, as functions of the arguments.
-/
module

public import proofs.«01_k».proof.Proof.Host3
public import proofs.«01_k».proof.Proof.Gen.Kernel3Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Proof.Outproj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The host's lines, one after the other. -/
abbrev lines : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 fun b => m (c, b)))))))

theorem V_lines (b : Ref sig .tc) : V m c b = lines m c (Proc.tc.devRef b) := rfl

theorem V_19 : (V m c main_v19 : FVec Ideal S1x1024 .f32) = gain (m ((c.tc : Thread nD τ).loc main_arg7)) := by
  rw [V_lines]
  after_results
  rfl

theorem V_33 : (V m c main_v33 : FVec Ideal S8x16x8192x128 .f32) = rowsL (m ((c.tc : Thread nD τ).loc main_arg0)) := by
  rw [V_lines]
  after_results
  rfl

section Weights

variable (W : Valuation τ sig (Elt Ideal))

/-- A line of operations in two parts. -/
theorem line_split (n : ℕ) (ops : List (HloOp τ sig (Elt Ideal))) :
    StableHlo.after ops W = StableHlo.after (ops.drop n) (StableHlo.after (ops.take n) W) := by
  induction ops generalizing n W with
  | nil => simp only [List.drop_nil, List.take_nil, StableHlo.after_nil]
  | cons o l ih =>
    cases n with
    | zero => rfl
    | succ n => rw [List.drop_succ_cons, List.take_succ_cons, StableHlo.after_cons, StableHlo.after_cons]; exact ih _ n

theorem divisor_line : (StableHlo.after (hostOps0_1.take 7) W (Proc.tc.devRef main_call0_v2) : IVec S_ 32) = divisor (W (Proc.tc.devRef main_c)) := by
  simp only [hostOps0_1, List.take_succ_cons, List.take_zero]
  after_results
  rfl

theorem rest_line : (StableHlo.after (hostOps0_1.take 7) W (Proc.tc.devRef main_call0_v4) : IVec S16 32)
    = Host.remsi (W (Proc.tc.devRef main_v7)) (broadcastInDim S16 ![] bcast_S_S16 (divisor (W (Proc.tc.devRef main_c)))) := by
  simp only [hostOps0_1, List.take_succ_cons, List.take_zero]
  after_results
  rfl

theorem signed_line : (StableHlo.after (hostOps0_1.drop 7) W (Proc.tc.devRef main_v8) : IVec S16 32)
    = signed (W (Proc.tc.devRef main_call0_v4)) (W (Proc.tc.devRef main_call0_v2)) := by
  simp only [hostOps0_1, List.drop_succ_cons, List.drop_zero]
  after_results
  rfl

theorem line8 : (StableHlo.after hostOps0_1 W (Proc.tc.devRef main_v8) : IVec S16 32)
    = remainder (W (Proc.tc.devRef main_v7)) (W (Proc.tc.devRef main_c)) := by
  rw [line_split W 7]
  exact (signed_line _).trans (congrArg₂ signed (rest_line W) (divisor_line W))

theorem line5 : (StableHlo.after hostOps0_1 W (Proc.tc.devRef main_v5) : FVec Ideal S16x64x1024 .f32) = W (Proc.tc.devRef main_v5) := by
  after_results

theorem line6 : (StableHlo.after hostOps0_1 W (Proc.tc.devRef main_v6) : FVec Ideal S16x64x1024 .f32) = W (Proc.tc.devRef main_v6) := by
  after_results

theorem line18 : (StableHlo.after hostOps0_6 (StableHlo.after hostOps0_5 (StableHlo.after hostOps0_4 (StableHlo.after hostOps0_3
    (StableHlo.after hostOps0_2 W)))) (Proc.tc.devRef main_v18) : FVec Ideal S2048x1024 .bf16)
    = joinW (half (W (Proc.tc.devRef main_v8)) 0#32 (W (Proc.tc.devRef main_v5)) (W (Proc.tc.devRef main_v6)))
      (half (W (Proc.tc.devRef main_v8)) 1#32 (W (Proc.tc.devRef main_v5)) (W (Proc.tc.devRef main_v6))) := by
  after_results
  rfl

theorem first5 : (StableHlo.after hostOps0 W (Proc.tc.devRef main_v5) : FVec Ideal S16x64x1024 .f32) = blocksW (W (Proc.tc.devRef main_arg6)) := by
  after_results
  rfl

theorem first6 : (StableHlo.after hostOps0 W (Proc.tc.devRef main_v6) : FVec Ideal S16x64x1024 .f32) = zeroW := by
  after_results
  rfl

theorem first7 : (StableHlo.after hostOps0 W (Proc.tc.devRef main_v7) : IVec S16 32) = iotaInDim S16 32 0 := by
  after_results

theorem firstc : (StableHlo.after hostOps0 W (Proc.tc.devRef main_c) : IVec S_ 32) = constantI S_ 32 2#32 := by
  after_results

end Weights

theorem V_18 : (V m c main_v18 : FVec Ideal S2048x1024 .bf16) = padded (m ((c.tc : Thread nD τ).loc main_arg6)) := by
  have h8 := (line8 (StableHlo.after hostOps0 fun b => m (c, b))).trans (congrArg₂ remainder (first7 _) (firstc _))
  have h5 := (line5 (StableHlo.after hostOps0 fun b => m (c, b))).trans (first5 _)
  have h6 := (line6 (StableHlo.after hostOps0 fun b => m (c, b))).trans (first6 _)
  have h : ∀ k : BitVec 32, half _ k _ _ = half parity k (blocksW (m ((c.tc : Thread nD τ).loc main_arg6))) zeroW := fun k =>
    congr (congrArg₂ (fun p w => half p k w) h8 h5) h6
  exact (line18 (StableHlo.after hostOps0_1 (StableHlo.after hostOps0 fun b => m (c, b)))).trans (congrArg₂ joinW (h 0#32) (h 1#32))

theorem V_0 : (V m c main_v0 : FVec Ideal S8x8448x1024 .f32)
    = joined (m ((c.tc : Thread nD τ).loc main_arg2)) (m ((c.tc : Thread nD τ).loc main_arg3)) := by
  rw [V_lines]
  after_results
  rfl

theorem V_46 : (V m c main_v46 : FVec Ideal S8x16x256x128 .f32) = rowsC (m ((c.tc : Thread nD τ).loc main_arg1)) := by
  rw [V_lines]
  after_results
  rfl

theorem V_20 : (V m c main_v20 : FVec Ideal S16x1024 .f32) = router (m ((c.tc : Thread nD τ).loc main_arg8)) := by
  rw [V_lines]
  after_results
  rfl

theorem V_4 : (V m c main_v4 : FVec Ideal S16x6x1024 .f32)
    = allMods (m ((c.tc : Thread nD τ).loc main_arg4)) (m ((c.tc : Thread nD τ).loc main_arg5)) := by
  rw [V_lines]
  after_results
  rfl

end Cert.Proof.Outproj
end
-- ==== Proof.Ref3.lean ====
/-
  The output projection's reference in stages, and each stage at an index.
-/
module

public import proofs.«01_k».proof.Proof.Rows
public import proofs.«01_k».proof.Proof.Gen.Reference3Ideal.Run
public import Idealize.ShloMosaic.Lib.Pointwise
public import Idealize.ShloMosaic.Lib.Claim

@[expose] public section

set_option maxRecDepth 16384

noncomputable section

namespace Cert.Proof.Outproj

open Cert.Reference3Ideal Cert.Reference3Ideal.Gen
open Idealize.ShloMosaic Idealize.ShloMosaic.TcCoe Idealize.SL.Sem
open Cert.Proof.Soft

/-! ## The latents -/

/-- One of the latents' modulations, at the one place of its second axis. -/
def modL (k : Fin 4 → ℕ) (M : FVec Ideal S8x1x6x1024 .f32) (hs : S8x1x6x1024.Slices k S8x1x1x1024) : FVec Ideal S8x1x1024 .f32 :=
  shapeCast _ (extractStridedSlice S8x1x1x1024 k M hs) shapeCasts_S8x1x1x1024_S8x1x1024

def spreadL (v : FVec Ideal S8x1x1024 .f32) : FVec Ideal S8x8192x1024 .f32 :=
  broadcastInDim S8x8192x1024 ![0, 1, 2] bcast_S8x1x1024_S8x8192x1024_0_1_2 v

def streamL (O : FVec Ideal S8x8192x16x64 .f32) (X : FVec Ideal S8x8192x1024 .f32) (M : FVec Ideal S8x1x6x1024 .f32)
    (W : FVec Ideal S1024x1024 .f32) : FVec Ideal S8x8192x1024 .f32 :=
  addf X (mulf (spreadL (modL ![0, 0, 2, 0] M slices_S8x1x6x1024_S8x1x1x1024_0_0_2_0))
    (Host.dotGeneral dot_S8x8192x1024_S1024x1024_S8x8192x1024_2_0_01_1_n_n none (shapeCast _ O shapeCasts_S8x8192x16x64_S8x8192x1024) W))

def normL (x : FVec Ideal S8x8192x1024 .f32) (g : FVec Ideal S1024 .f32) (s t : FVec Ideal S8x1x1024 .f32) : FVec Ideal S8x8192x1024 .f32 :=
  addf (mulf (mulf (mulf x (broadcastInDim S8x8192x1024 ![0, 1, 2] bcast_S8x8192x1_S8x8192x1024_0_1_2 (Host.rsqrt (addf
      (Host.divf (broadcastInDim S8x8192x1 ![0, 1] bcast_S8x8192_S8x8192x1_0_1
          (Host.reduceAdd (mulf x x) (constant S_ .f32 0x00000000#32) reducesTo_S8x8192x1024_S8x8192_d2 h_S_))
        (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g)))
    (spreadL (addf (broadcastInDim S8x1x1024 ![] bcast_S_S8x1x1024 (constant S_ .f32 0x3F800000#32)) s))) (spreadL t)

def hiddenL (x : FVec Ideal S8x8192x1024 .f32) (g : FVec Ideal S1024 .f32) (M : FVec Ideal S8x1x6x1024 .f32) : FVec Ideal S8x8192x1024 .f32 :=
  normL x g (modL ![0, 0, 4, 0] M slices_S8x1x6x1024_S8x1x1x1024_0_0_4_0) (modL ![0, 0, 3, 0] M slices_S8x1x6x1024_S8x1x1x1024_0_0_3_0)

def logitL (h : FVec Ideal S8x8192x1024 .f32) (w : FVec Ideal S1024x16 .f32) : FVec Ideal S8x8192x16 .f32 :=
  Host.dotGeneral dot_S8x8192x1024_S1024x16_S8x8192x16_2_0_01_1_n_n none h w

def topL (l : FVec Ideal S8x8192x16 .f32) (z : FVec Ideal S_ .f32) : FVec Ideal S8x8192 .f32 :=
  Host.reduce FloatOps.maximumf l z reducesTo_S8x8192x16_S8x8192_d2 h_S_

def alongL (v : FVec Ideal S8x8192 .f32) : FVec Ideal S8x8192x16 .f32 :=
  broadcastInDim S8x8192x16 ![0, 1, 2] bcast_S8x8192x1_S8x8192x16_0_1_2 (broadcastInDim S8x8192x1 ![0, 1] bcast_S8x8192_S8x8192x1_0_1 v)

def powL (l : FVec Ideal S8x8192x16 .f32) (t : FVec Ideal S8x8192 .f32) : FVec Ideal S8x8192x16 .f32 :=
  Host.exp (subf l (alongL (maximumf (broadcastInDim S8x8192 ![] bcast_S_S8x8192 (constant S_ .f32 0xFF800000#32)) t)))

def softL (p : FVec Ideal S8x8192x16 .f32) : FVec Ideal S8x16x8192 .f32 :=
  transpose S8x16x8192 [0, 2, 1] (Host.divf p (alongL (Host.reduceAdd p (constant S_ .f32 0x00000000#32) reducesTo_S8x8192x16_S8x8192_d2 h_S_)))
    transposes_S8x8192x16_S8x16x8192_0_2_1

def affL (h : FVec Ideal S8x8192x1024 .f32) (w : FVec Ideal S1024x16 .f32) : FVec Ideal S8x16x8192 .f32 :=
  softL (powL (logitL h w) (topL (logitL h w) (constant S_ .f32 0xFF800000#32)))

/-! ## The context -/

def modC (k : Fin 2 → ℕ) (M : FVec Ideal S6x1024 .f32) (hs : S6x1024.Slices k S1x1024) : FVec Ideal S1024 .f32 :=
  shapeCast _ (extractStridedSlice S1x1024 k M hs) shapeCasts_S1x1024_S1024

def spreadC (v : FVec Ideal S1024 .f32) : FVec Ideal S8x256x1024 .f32 :=
  broadcastInDim S8x256x1024 ![0, 1, 2] bcast_S1x1x1024_S8x256x1024_0_1_2 (broadcastInDim S1x1x1024 ![2] bcast_S1024_S1x1x1024_2 v)

def streamC (O : FVec Ideal S8x256x16x64 .f32) (X : FVec Ideal S8x256x1024 .f32) (M : FVec Ideal S6x1024 .f32)
    (W : FVec Ideal S1024x1024 .f32) : FVec Ideal S8x256x1024 .f32 :=
  addf X (mulf (spreadC (modC ![2, 0] M slices_S6x1024_S1x1024_2_0))
    (Host.dotGeneral dot_S8x256x1024_S1024x1024_S8x256x1024_2_0_01_1_n_n none (shapeCast _ O shapeCasts_S8x256x16x64_S8x256x1024) W))

def normC (x : FVec Ideal S8x256x1024 .f32) (g s t : FVec Ideal S1024 .f32) : FVec Ideal S8x256x1024 .f32 :=
  addf (mulf (mulf (mulf x (broadcastInDim S8x256x1024 ![0, 1, 2] bcast_S8x256x1_S8x256x1024_0_1_2 (Host.rsqrt (addf
      (Host.divf (broadcastInDim S8x256x1 ![0, 1] bcast_S8x256_S8x256x1_0_1
          (Host.reduceAdd (mulf x x) (constant S_ .f32 0x00000000#32) reducesTo_S8x256x1024_S8x256_d2 h_S_))
        (broadcastInDim S8x256x1 ![] bcast_S_S8x256x1 (constant S_ .f32 0x44800000#32)))
      (broadcastInDim S8x256x1 ![] bcast_S_S8x256x1 (constant S_ .f32 0x358637BD#32))))))
    (spreadC g)) (spreadC (addf (broadcastInDim S1024 ![] bcast_S_S1024 (constant S_ .f32 0x3F800000#32)) s))) (spreadC t)

def hiddenC (x : FVec Ideal S8x256x1024 .f32) (g : FVec Ideal S1024 .f32) (M : FVec Ideal S6x1024 .f32) : FVec Ideal S8x256x1024 .f32 :=
  normC x g (modC ![4, 0] M slices_S6x1024_S1x1024_4_0) (modC ![3, 0] M slices_S6x1024_S1x1024_3_0)

def logitC (h : FVec Ideal S8x256x1024 .f32) (w : FVec Ideal S1024x16 .f32) : FVec Ideal S8x256x16 .f32 :=
  Host.dotGeneral dot_S8x256x1024_S1024x16_S8x256x16_2_0_01_1_n_n none h w

def topC (l : FVec Ideal S8x256x16 .f32) (z : FVec Ideal S_ .f32) : FVec Ideal S8x256 .f32 :=
  Host.reduce FloatOps.maximumf l z reducesTo_S8x256x16_S8x256_d2 h_S_

def alongC (v : FVec Ideal S8x256 .f32) : FVec Ideal S8x256x16 .f32 :=
  broadcastInDim S8x256x16 ![0, 1, 2] bcast_S8x256x1_S8x256x16_0_1_2 (broadcastInDim S8x256x1 ![0, 1] bcast_S8x256_S8x256x1_0_1 v)

def powC (l : FVec Ideal S8x256x16 .f32) (t : FVec Ideal S8x256 .f32) : FVec Ideal S8x256x16 .f32 :=
  Host.exp (subf l (alongC (maximumf (broadcastInDim S8x256 ![] bcast_S_S8x256 (constant S_ .f32 0xFF800000#32)) t)))

def softC (p : FVec Ideal S8x256x16 .f32) : FVec Ideal S8x16x256 .f32 :=
  transpose S8x16x256 [0, 2, 1] (Host.divf p (alongC (Host.reduceAdd p (constant S_ .f32 0x00000000#32) reducesTo_S8x256x16_S8x256_d2 h_S_)))
    transposes_S8x256x16_S8x16x256_0_2_1

def affC (h : FVec Ideal S8x256x1024 .f32) (w : FVec Ideal S1024x16 .f32) : FVec Ideal S8x16x256 .f32 :=
  softC (powC (logitC h w) (topC (logitC h w) (constant S_ .f32 0xFF800000#32)))

/-! ## Both -/

def joinX (a : FVec Ideal S8x8192x1024 .f32) (b : FVec Ideal S8x256x1024 .f32) : FVec Ideal S8x8448x1024 .f32 :=
  concatenate S8x8448x1024 1 [⟨S8x8192x1024, a⟩, ⟨S8x256x1024, b⟩] concatenates_S8x8192x1024_S8x256x1024_S8x8448x1024_d1

def joinE (a : FVec Ideal S8x16x8192 .f32) (b : FVec Ideal S8x16x256 .f32) : FVec Ideal S8x16x8448 .f32 :=
  concatenate S8x16x8448 2 [⟨S8x16x8192, a⟩, ⟨S8x16x256, b⟩] concatenates_S8x16x8192_S8x16x256_S8x16x8448_d2

variable (m : (ℓ : Loc nD τ sig) → Buf (Elt Ideal) ℓ) (c : Dev nD)

abbrev xL := streamL (m ((c.tc : Thread nD τ).loc main_arg0)) (m ((c.tc : Thread nD τ).loc main_arg2)) (m ((c.tc : Thread nD τ).loc main_arg4))
  (m ((c.tc : Thread nD τ).loc main_arg6))
abbrev xC := streamC (m ((c.tc : Thread nD τ).loc main_arg1)) (m ((c.tc : Thread nD τ).loc main_arg3)) (m ((c.tc : Thread nD τ).loc main_arg5))
  (m ((c.tc : Thread nD τ).loc main_arg6))

theorem res_h : Value.res_main_v64 m c = joinX (hiddenL (xL m c) (m ((c.tc : Thread nD τ).loc main_arg7)) (m ((c.tc : Thread nD τ).loc main_arg4)))
    (hiddenC (xC m c) (m ((c.tc : Thread nD τ).loc main_arg7)) (m ((c.tc : Thread nD τ).loc main_arg5))) := rfl

theorem res_a : Value.res_main_v91 m c = joinE
    (affL (hiddenL (xL m c) (m ((c.tc : Thread nD τ).loc main_arg7)) (m ((c.tc : Thread nD τ).loc main_arg4))) (m ((c.tc : Thread nD τ).loc main_arg8)))
    (affC (hiddenC (xC m c) (m ((c.tc : Thread nD τ).loc main_arg7)) (m ((c.tc : Thread nD τ).loc main_arg5))) (m ((c.tc : Thread nD τ).loc main_arg8))) := rfl

/-! ## At an index -/

theorem streamL_at (O : FVec Ideal S8x8192x16x64 .f32) (X : FVec Ideal S8x8192x1024 .f32) (M : FVec Ideal S8x1x6x1024 .f32)
    (W : FVec Ideal S1024x1024 .f32) (b : Fin 8) (i : Fin 8192) (n : Fin 1024) : streamL O X M W (ix3 b i n)
      = (X (ix3 b i n) + M (ix4 b 0 2 n) * ∑ j : Fin 1024, O (ix4 b i ⟨j.val / 64, by omega⟩ ⟨j.val % 64, by omega⟩) * W (ix2 j n) : EReal) := by
  pointwise [streamL, modL, spreadL]

theorem normL_at (x : FVec Ideal S8x8192x1024 .f32) (g : FVec Ideal S1024 .f32) (s t : FVec Ideal S8x1x1024 .f32) (b : Fin 8) (i : Fin 8192) (n : Fin 1024) :
    normL x g s t (ix3 b i n) = normed (fun d => x (ix3 b i d)) (fun d => g (ix1 d)) (fun d => s (ix3 b 0 d)) (fun d => t (ix3 b 0 d)) n := by
  unfold normed meanSq
  pointwise [normL, spreadL]

theorem hiddenL_at (x : FVec Ideal S8x8192x1024 .f32) (g : FVec Ideal S1024 .f32) (M : FVec Ideal S8x1x6x1024 .f32) (b : Fin 8) (i : Fin 8192) (n : Fin 1024) :
    hiddenL x g M (ix3 b i n) = normed (fun d => x (ix3 b i d)) (fun d => g (ix1 d)) (fun d => M (ix4 b 0 4 d)) (fun d => M (ix4 b 0 3 d)) n := by
  rw [hiddenL, normL_at]
  refine congrFun (congrArg₂ (normed _ _) (funext fun d => ?_) (funext fun d => ?_)) n
  · pointwise [modL]
  · pointwise [modL]

theorem topL_at (l : FVec Ideal S8x8192x16 .f32) (z : FVec Ideal S_ .f32) (b : Fin 8) (i : Fin 8192) :
    topL l z (ix2 b i) = Finset.univ.fold max (z (Shape.Idx.first h_S_)) fun k : Fin 16 => l (ix3 b i k) := by
  unfold topL
  generalize (reducesTo_S8x8192x16_S8x8192_d2 : S8x8192x16.ReducesTo [2] S8x8192) = hr
  simp only [pointwise]

theorem low3 (j : S_.Idx) : constant (F := Ideal) S_ .f32 0xFF800000#32 j = (⊥ : EReal) := by
  show Ideal.ofBits .f32 0xFF800000#32 = ⊥
  simp [Ideal.ofBits, Ideal.ieee]

theorem powL_at (l : FVec Ideal S8x8192x16 .f32) (t : FVec Ideal S8x8192 .f32) (b : Fin 8) (i : Fin 8192) (k : Fin 16) :
    powL l t (ix3 b i k) = Ideal.exp (l (ix3 b i k) - max ⊥ (t (ix2 b i))) := by
  rw [← low3 ix0]
  pointwise [powL, alongL]

theorem softL_at (p : FVec Ideal S8x8192x16 .f32) (b : Fin 8) (e : Fin 16) (i : Fin 8192) :
    softL p (ix3 b e i) = Ideal.div (p (ix3 b i e)) (∑ k : Fin 16, p (ix3 b i k)) := by
  pointwise [softL, alongL]

theorem affL_at (h : FVec Ideal S8x8192x1024 .f32) (w : FVec Ideal S1024x16 .f32) (b : Fin 8) (e : Fin 16) (i : Fin 8192) :
    affL h w (ix3 b e i) = affinity (fun k => ∑ d : Fin 1024, w (ix2 d k) * h (ix3 b i d)) e := by
  have hl : ∀ k, logitL h w (ix3 b i k) = ∑ d : Fin 1024, w (ix2 d k) * h (ix3 b i d) := fun k => by
    pointwise [logitL]
    exact Finset.sum_congr rfl fun d _ => mul_comm _ _
  rw [affL, softL_at]
  simp only [powL_at, topL_at, low3, hl, bot_le, max_eq_right]
  rfl

theorem streamC_at (O : FVec Ideal S8x256x16x64 .f32) (X : FVec Ideal S8x256x1024 .f32) (M : FVec Ideal S6x1024 .f32)
    (W : FVec Ideal S1024x1024 .f32) (b : Fin 8) (i : Fin 256) (n : Fin 1024) : streamC O X M W (ix3 b i n)
      = (X (ix3 b i n) + M (ix2 2 n) * ∑ j : Fin 1024, O (ix4 b i ⟨j.val / 64, by omega⟩ ⟨j.val % 64, by omega⟩) * W (ix2 j n) : EReal) := by
  pointwise [streamC, modC, spreadC]

theorem normC_at (x : FVec Ideal S8x256x1024 .f32) (g s t : FVec Ideal S1024 .f32) (b : Fin 8) (i : Fin 256) (n : Fin 1024) :
    normC x g s t (ix3 b i n) = normed (fun d => x (ix3 b i d)) (fun d => g (ix1 d)) (fun d => s (ix1 d)) (fun d => t (ix1 d)) n := by
  unfold normed meanSq
  pointwise [normC, spreadC]

theorem hiddenC_at (x : FVec Ideal S8x256x1024 .f32) (g : FVec Ideal S1024 .f32) (M : FVec Ideal S6x1024 .f32) (b : Fin 8) (i : Fin 256) (n : Fin 1024) :
    hiddenC x g M (ix3 b i n) = normed (fun d => x (ix3 b i d)) (fun d => g (ix1 d)) (fun d => M (ix2 4 d)) (fun d => M (ix2 3 d)) n := by
  rw [hiddenC, normC_at]
  refine congrFun (congrArg₂ (normed _ _) (funext fun d => ?_) (funext fun d => ?_)) n
  · pointwise [modC]
  · pointwise [modC]

theorem topC_at (l : FVec Ideal S8x256x16 .f32) (z : FVec Ideal S_ .f32) (b : Fin 8) (i : Fin 256) :
    topC l z (ix2 b i) = Finset.univ.fold max (z (Shape.Idx.first h_S_)) fun k : Fin 16 => l (ix3 b i k) := by
  unfold topC
  generalize (reducesTo_S8x256x16_S8x256_d2 : S8x256x16.ReducesTo [2] S8x256) = hr
  simp only [pointwise]

theorem powC_at (l : FVec Ideal S8x256x16 .f32) (t : FVec Ideal S8x256 .f32) (b : Fin 8) (i : Fin 256) (k : Fin 16) :
    powC l t (ix3 b i k) = Ideal.exp (l (ix3 b i k) - max ⊥ (t (ix2 b i))) := by
  rw [← low3 ix0]
  pointwise [powC, alongC]

theorem softC_at (p : FVec Ideal S8x256x16 .f32) (b : Fin 8) (e : Fin 16) (i : Fin 256) :
    softC p (ix3 b e i) = Ideal.div (p (ix3 b i e)) (∑ k : Fin 16, p (ix3 b i k)) := by
  pointwise [softC, alongC]

theorem affC_at (h : FVec Ideal S8x256x1024 .f32) (w : FVec Ideal S1024x16 .f32) (b : Fin 8) (e : Fin 16) (i : Fin 256) :
    affC h w (ix3 b e i) = affinity (fun k => ∑ d : Fin 1024, w (ix2 d k) * h (ix3 b i d)) e := by
  have hl : ∀ k, logitC h w (ix3 b i k) = ∑ d : Fin 1024, w (ix2 d k) * h (ix3 b i d) := fun k => by
    pointwise [logitC]
    exact Finset.sum_congr rfl fun d _ => mul_comm _ _
  rw [affC, softC_at]
  simp only [powC_at, topC_at, low3, hl, bot_le, max_eq_right]
  rfl

end Cert.Proof.Outproj

end
-- ==== Proof.Final3.lean ====
/-
  The arrays the output projection's call leaves: the layer's rows, their norms and the experts' affinities.
-/
module

public import proofs.«01_k».proof.Proof.Read3
public import proofs.«01_k».proof.Proof.Arrays3
public import proofs.«01_k».proof.Proof.Ref3
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 16384

noncomputable section

namespace Cert.Proof.Outproj

open Cert.Kernel3Ideal Cert.Kernel3Ideal.Gen
open Idealize.ShloMosaic Idealize.ShloMosaic.TcCoe Idealize.SL.Sem

section Real

/-- A value that is a real number. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {n : ℕ} {f : Fin n → EReal} (hf : ∀ k, IsReal (f k)) : IsReal (∑ k, f k) :=
  Finset.sum_induction f IsReal (fun _ _ => IsReal.add) ⟨0, rfl⟩ fun k _ => hf k

theorem real_normed {x g s t : Fin 1024 → EReal} (hx : ∀ d, IsReal (x d)) (hg : ∀ d, IsReal (g d)) (hs : ∀ d, IsReal (s d))
    (ht : ∀ d, IsReal (t d)) (d : Fin 1024) : IsReal (normed x g s t d) := by
  choose x' hx using hx
  choose g' hg using hg
  choose s' hs using hs
  choose t' ht using ht
  obtain rfl := funext hx
  obtain rfl := funext hg
  obtain rfl := funext hs
  obtain rfl := funext ht
  exact normed_real x' g' s' t' d

end Real

section Sums

theorem lane_head (j : Fin 1024) : (lane j).val / 128 = j.val / 64 := by simp only [lane]; omega

theorem lane_half (j : Fin 1024) : (lane j).val % 128 / 64 = (lane j).val / 128 % 2 := by
  have h : (lane j).val % 128 = 64 * (j.val / 64 % 2) + j.val % 64 := by simp only [lane]; omega
  rw [lane_head, h]
  omega

theorem sum_lat (O : FVec Ideal S8x8192x16x64 .f32) (W : FVec Ideal S1024x1024 .f32) (b : Fin 8) (i : Fin 8192) (n : Fin 1024) :
    (∑ l : Fin 2048, rowsL O (ix4 b ⟨l.val / 128, by omega⟩ i ⟨l.val % 128, by omega⟩) * padded W (ix2 l n) : EReal)
      = ∑ j : Fin 1024, O (ix4 b i ⟨j.val / 64, by omega⟩ ⟨j.val % 64, by omega⟩) * W (ix2 j n) := by
  refine padded_sum _ _ (fun l hl => ?_) fun j => ?_
  · rw [padded_at, if_neg hl, mul_zero]
  · rw [rowsL_at, padded_at, if_pos (lane_half j), if_pos (lane_half j)]
    have h1 : (⟨(lane j).val / 128, by omega⟩ : Fin 16) = ⟨j.val / 64, by omega⟩ := Fin.ext (by simp only [lane]; omega)
    have h2 : (⟨(lane j).val % 128 % 64, by omega⟩ : Fin 64) = ⟨j.val % 64, by omega⟩ := Fin.ext (by simp only [lane]; omega)
    have h3 : (⟨64 * ((lane j).val / 128) + (lane j).val % 64, by omega⟩ : Fin 1024) = j := Fin.ext (by simp only [lane]; omega)
    rw [h1, h2, h3]

theorem sum_ctx (O : FVec Ideal S8x256x16x64 .f32) (W : FVec Ideal S1024x1024 .f32) (b : Fin 8) (i : Fin 256) (n : Fin 1024) :
    (∑ l : Fin 2048, rowsC O (ix4 b ⟨l.val / 128, by omega⟩ i ⟨l.val % 128, by omega⟩) * padded W (ix2 l n) : EReal)
      = ∑ j : Fin 1024, O (ix4 b i ⟨j.val / 64, by omega⟩ ⟨j.val % 64, by omega⟩) * W (ix2 j n) := by
  refine padded_sum _ _ (fun l hl => ?_) fun j => ?_
  · rw [padded_at, if_neg hl, mul_zero]
  · rw [rowsC_at, padded_at, if_pos (lane_half j), if_pos (lane_half j)]
    have h1 : (⟨(lane j).val / 128, by omega⟩ : Fin 16) = ⟨j.val / 64, by omega⟩ := Fin.ext (by simp only [lane]; omega)
    have h2 : (⟨(lane j).val % 128 % 64, by omega⟩ : Fin 64) = ⟨j.val % 64, by omega⟩ := Fin.ext (by simp only [lane]; omega)
    have h3 : (⟨64 * ((lane j).val / 128) + (lane j).val % 64, by omega⟩ : Fin 1024) = j := Fin.ext (by simp only [lane]; omega)
    rw [h1, h2, h3]

end Sums

variable (m : (ℓ : Loc nD τ sig) → Buf (Elt Ideal) ℓ) (c : Dev nD)

abbrev arg0 : FVec Ideal S8x8192x16x64 .f32 := m ((c.tc : Thread nD τ).loc main_arg0)
abbrev arg1 : FVec Ideal S8x256x16x64 .f32 := m ((c.tc : Thread nD τ).loc main_arg1)
abbrev arg2 : FVec Ideal S8x8192x1024 .f32 := m ((c.tc : Thread nD τ).loc main_arg2)
abbrev arg3 : FVec Ideal S8x256x1024 .f32 := m ((c.tc : Thread nD τ).loc main_arg3)
abbrev arg4 : FVec Ideal S8x1x6x1024 .f32 := m ((c.tc : Thread nD τ).loc main_arg4)
abbrev arg5 : FVec Ideal S6x1024 .f32 := m ((c.tc : Thread nD τ).loc main_arg5)
abbrev arg6 : FVec Ideal S1024x1024 .f32 := m ((c.tc : Thread nD τ).loc main_arg6)
abbrev arg7 : FVec Ideal S1024 .f32 := m ((c.tc : Thread nD τ).loc main_arg7)
abbrev arg8 : FVec Ideal S1024x16 .f32 := m ((c.tc : Thread nD τ).loc main_arg8)

/-- The latents' rows and the context's after the attention. -/
abbrev kL := streamL (arg0 m c) (arg2 m c) (arg4 m c) (arg6 m c)
abbrev kC := streamC (arg1 m c) (arg3 m c) (arg5 m c) (arg6 m c)

/-- The projected block of a grid point. -/
abbrev proj (t : Fin cfg0.N) : FVec Ideal S256x1024 .f32 :=
  k0_pay27 (grid0.coords t) (iblk m c 0 t) (iblk m c 1 t) (iblk m c 2 t) (iblk m c 3 t) (iblk m c 4 t) (iblk m c 5 t) (iblk m c 6 t)

/-- The router's weights a grid point reads. -/
abbrev route (t : Fin cfg0.N) : Vec Ideal S16x1024 .f32 := iblk m c 6 t

theorem weight_at (t : Fin cfg0.N) (l : Fin 2048) (n : Fin 1024) : iblk m c 4 t (ix2 l n) = padded (arg6 m c) (ix2 l n) :=
  (weight_blk m c t l n).trans (congrFun (V_18 m c) _)

theorem gain_row (t : Fin cfg0.N) (n : Fin 1024) : iblk m c 5 t (ix2 0 n) = arg7 m c (ix1 n) :=
  ((gain_blk m c t n).trans (congrFun (V_19 m c) _)).trans (gain_at _ n)

theorem router_block (t : Fin cfg0.N) (e : Fin 16) (d : Fin 1024) : iblk m c 6 t (ix2 e d) = arg8 m c (ix2 d e) :=
  ((router_blk m c t e d).trans (congrFun (V_20 m c) _)).trans (router_row _ e d)

section Latents

variable (t : Fin cfg0.N) (b : Fin 8) (i : Fin 8192) (a : Fin 256) (hb : b.val = t.val / 33) (hi : i.val = t.val % 33 * 256 + a.val)

include hb hi

theorem proj_lat (n : Fin 1024) : proj m c t (ix2 a n)
    = ∑ j : Fin 1024, arg0 m c (ix4 b i ⟨j.val / 64, by omega⟩ ⟨j.val % 64, by omega⟩) * arg6 m c (ix2 j n) := by
  refine (product_at _ _ _ _ _ _ _ _ a n).trans (Eq.trans ?_ (sum_lat _ _ b i n))
  refine Finset.sum_congr rfl fun l _ => ?_
  rw [late_at, if_pos (by omega)]
  exact congrArg₂ (· * ·) ((lat_blk m c t b _ i a _ hb hi).trans (congrFun (V_33 m c) _)) (weight_at m c t l n)

theorem mod_lat (r : Fin 6) (n : Fin 1024) : iblk m c 3 t (ix3 0 r n) = arg4 m c (ix4 b 0 r n) :=
  ((mod_blk m c t ⟨b.val, by omega⟩ r n (by rw [modRow, if_pos (by omega)]; exact hb)).trans (congrFun (V_4 m c) _)).trans
    (allMods_lat _ _ b r n)

theorem row_lat (n : Fin 1024) : iblk m c 2 t (ix3 0 a n) = arg2 m c (ix3 b i n) :=
  ((row_blk m c t b ⟨i.val, by omega⟩ a n hb hi).trans (congrFun (V_0 m c) _)).trans ((joined_at _ _ b _ n).trans (dif_pos i.isLt))

theorem stream_lat (n : Fin 1024) : row (iblk m c 2 t) (iblk m c 3 t) (proj m c t) a n = kL m c (ix3 b i n) := by
  refine Eq.trans ?_ (streamL_at _ _ _ _ b i n).symm
  rw [row, row_lat m c t b i a hb hi, mod_lat m c t b i a hb hi, proj_lat m c t b i a hb hi]

theorem hidden_lat (n : Fin 1024) : hidden (iblk m c 2 t) (iblk m c 3 t) (iblk m c 5 t) (proj m c t) a n
    = hiddenL (kL m c) (arg7 m c) (arg4 m c) (ix3 b i n) := by
  refine Eq.trans ?_ (hiddenL_at _ _ _ b i n).symm
  unfold hidden
  rw [show row (iblk m c 2 t) (iblk m c 3 t) (proj m c t) a = fun d => kL m c (ix3 b i d) from
      funext fun d => stream_lat m c t b i a hb hi d,
    show (fun d => iblk m c 5 t (ix2 0 d)) = fun d => arg7 m c (ix1 d) from funext fun d => gain_row m c t d,
    show (fun d => iblk m c 3 t (ix3 0 4 d)) = fun d => arg4 m c (ix4 b 0 4 d) from funext fun d => mod_lat m c t b i a hb hi 4 d,
    show (fun d => iblk m c 3 t (ix3 0 3 d)) = fun d => arg4 m c (ix4 b 0 3 d) from funext fun d => mod_lat m c t b i a hb hi 3 d]

end Latents

section Context

variable (t : Fin cfg0.N) (b : Fin 8) (a : Fin 256) (hb : b.val = t.val / 33) (ht : t.val % 33 = 32)

include hb ht

theorem proj_ctx (n : Fin 1024) : proj m c t (ix2 a n)
    = ∑ j : Fin 1024, arg1 m c (ix4 b a ⟨j.val / 64, by omega⟩ ⟨j.val % 64, by omega⟩) * arg6 m c (ix2 j n) := by
  refine (product_at _ _ _ _ _ _ _ _ a n).trans (Eq.trans ?_ (sum_ctx _ _ b a n))
  refine Finset.sum_congr rfl fun l _ => ?_
  rw [late_at, if_neg (by omega)]
  exact congrArg₂ (· * ·) ((ctx_blk m c t b _ a _ hb).trans (congrFun (V_46 m c) _)) (weight_at m c t l n)

theorem mod_ctx (r : Fin 6) (n : Fin 1024) : iblk m c 3 t (ix3 0 r n) = arg5 m c (ix2 r n) :=
  ((mod_blk m c t 8 r n (by rw [modRow, if_neg (by omega)]; rfl)).trans (congrFun (V_4 m c) _)).trans (allMods_ctx _ _ r n)

theorem row_ctx (n : Fin 1024) : iblk m c 2 t (ix3 0 a n) = arg3 m c (ix3 b a n) :=
  ((row_blk m c t b ⟨8192 + a.val, by omega⟩ a n hb (by show 8192 + a.val = _; omega)).trans (congrFun (V_0 m c) _)).trans
    ((joined_at _ _ b _ n).trans ((dif_neg (by show ¬ 8192 + a.val < 8192; omega)).trans
      (congrArg (fun k => arg3 m c (ix3 b k n)) (Fin.ext (by show 8192 + a.val - 8192 = a.val; omega)))))

theorem stream_ctx (n : Fin 1024) : row (iblk m c 2 t) (iblk m c 3 t) (proj m c t) a n = kC m c (ix3 b a n) := by
  refine Eq.trans ?_ (streamC_at _ _ _ _ b a n).symm
  rw [row, row_ctx m c t b a hb ht, mod_ctx m c t b hb ht, proj_ctx m c t b a hb ht]

theorem hidden_ctx (n : Fin 1024) : hidden (iblk m c 2 t) (iblk m c 3 t) (iblk m c 5 t) (proj m c t) a n
    = hiddenC (kC m c) (arg7 m c) (arg5 m c) (ix3 b a n) := by
  refine Eq.trans ?_ (hiddenC_at _ _ _ b a n).symm
  unfold hidden
  rw [show row (iblk m c 2 t) (iblk m c 3 t) (proj m c t) a = fun d => kC m c (ix3 b a d) from
      funext fun d => stream_ctx m c t b a hb ht d,
    show (fun d => iblk m c 5 t (ix2 0 d)) = fun d => arg7 m c (ix1 d) from funext fun d => gain_row m c t d,
    show (fun d => iblk m c 3 t (ix3 0 4 d)) = fun d => arg5 m c (ix2 4 d) from funext fun d => mod_ctx m c t b hb ht 4 d,
    show (fun d => iblk m c 3 t (ix3 0 3 d)) = fun d => arg5 m c (ix2 3 d) from funext fun d => mod_ctx m c t b hb ht 3 d]

end Context

theorem joinX_at (x : FVec Ideal S8x8192x1024 .f32) (y : FVec Ideal S8x256x1024 .f32) (b : Fin 8) (i : Fin 8448) (n : Fin 1024) :
    joinX x y (ix3 b i n) = if h : (i : ℕ) < 8192 then x (ix3 b ⟨i, h⟩ n) else y (ix3 b ⟨i - 8192, by omega⟩ n) := by
  pointwise [joinX]

theorem joinE_at (x : FVec Ideal Cert.Reference3Ideal.S8x16x8192 .f32) (y : FVec Ideal Cert.Reference3Ideal.S8x16x256 .f32) (b : Fin 8) (e : Fin 16) (i : Fin 8448) :
    joinE x y (ix3 b e i) = if h : (i : ℕ) < 8192 then x (ix3 b e ⟨i, h⟩) else y (ix3 b e ⟨i - 8192, by omega⟩) := by
  pointwise [joinE]

section Points

variable (t : Fin cfg0.N) (a : Fin 256) (b : Fin 8) (i : Fin 8448) (hb : b.val = t.val / 33) (hi : i.val = t.val % 33 * 256 + a.val)

include hb hi

theorem point7 (n : Fin 1024) : row (iblk m c 2 t) (iblk m c 3 t) (proj m c t) a n = joinX (kL m c) (kC m c) (ix3 b i n) := by
  rw [joinX_at]
  split
  case isTrue h => exact stream_lat m c t b ⟨i, h⟩ a hb hi n
  case isFalse h =>
    rw [stream_ctx m c t b a hb (by omega), show (⟨i.val - 8192, by omega⟩ : Fin 256) = a from Fin.ext (by show i.val - 8192 = a.val; omega)]

theorem point8 (n : Fin 1024) : hidden (iblk m c 2 t) (iblk m c 3 t) (iblk m c 5 t) (proj m c t) a n
    = joinX (hiddenL (kL m c) (arg7 m c) (arg4 m c)) (hiddenC (kC m c) (arg7 m c) (arg5 m c)) (ix3 b i n) := by
  rw [joinX_at]
  split
  case isTrue h => exact hidden_lat m c t b ⟨i, h⟩ a hb hi n
  case isFalse h =>
    rw [hidden_ctx m c t b a hb (by omega), show (⟨i.val - 8192, by omega⟩ : Fin 256) = a from Fin.ext (by show i.val - 8192 = a.val; omega)]

theorem point9 (e : Fin 16) : affinity (fun k => ∑ d, route m c t (ix2 k d) * hidden (iblk m c 2 t) (iblk m c 3 t) (iblk m c 5 t) (proj m c t) a d) e
    = joinE (affL (hiddenL (kL m c) (arg7 m c) (arg4 m c)) (arg8 m c)) (affC (hiddenC (kC m c) (arg7 m c) (arg5 m c)) (arg8 m c)) (ix3 b e i) := by
  rw [joinE_at]
  split
  case isTrue h =>
    refine Eq.trans ?_ (affL_at _ _ b e ⟨i, h⟩).symm
    exact congrFun (congrArg affinity (funext fun k => Finset.sum_congr rfl fun d _ =>
      congrArg₂ (fun p q : EReal => p * q) (router_block m c t k d) (hidden_lat m c t b ⟨i, h⟩ a hb hi d))) e
  case isFalse h =>
    rw [show (⟨i.val - 8192, by omega⟩ : Fin 256) = a from Fin.ext (by show i.val - 8192 = a.val; omega)]
    refine Eq.trans ?_ (affC_at _ _ b e a).symm
    exact congrFun (congrArg affinity (funext fun k => Finset.sum_congr rfl fun d _ =>
      congrArg₂ (fun p q : EReal => p * q) (router_block m c t k d) (hidden_ctx m c t b a hb (by omega) d))) e

end Points

section Left

/-- An index of a block by its last two coordinates. -/
theorem index_eq {p q : ℕ} (y : (⟨3, ![1, p, q]⟩ : Shape).Idx) : y = ix3 (0 : Fin 1) (y 1 : Fin p) (y 2 : Fin q) := by
  funext a
  match a with
  | 0 => exact Subsingleton.elim (α := Fin 1) _ _
  | 1 => rfl
  | 2 => rfl

theorem at7 (t : Fin cfg0.N) (a : Fin 256) (b : Fin 8) (i : Fin 8448) (n n' : Fin 1024) (hb : b.val = t.val / 33)
    (hi : i.val = t.val % 33 * 256 + a.val) (hn : n'.val = n.val) :
    out0_7 (grid0.coords t) (iblk m c 0 t) (iblk m c 1 t) (iblk m c 2 t) (iblk m c 3 t) (iblk m c 4 t) (iblk m c 5 t) (iblk m c 6 t) (ix3 0 a n)
      = joinX (kL m c) (kC m c) (ix3 b i n') := by
  obtain rfl : n' = n := Fin.ext hn
  exact (left7 _ _ _ _ _ _ _ _ a n').trans (point7 m c t a b i hb hi n')

theorem at8 (t : Fin cfg0.N) (a : Fin 256) (b : Fin 8) (i : Fin 8448) (n n' : Fin 1024) (hb : b.val = t.val / 33)
    (hi : i.val = t.val % 33 * 256 + a.val) (hn : n'.val = n.val) :
    out0_8 (grid0.coords t) (iblk m c 0 t) (iblk m c 1 t) (iblk m c 2 t) (iblk m c 3 t) (iblk m c 4 t) (iblk m c 5 t) (iblk m c 6 t) (ix3 0 a n)
      = joinX (hiddenL (kL m c) (arg7 m c) (arg4 m c)) (hiddenC (kC m c) (arg7 m c) (arg5 m c)) (ix3 b i n') := by
  obtain rfl : n' = n := Fin.ext hn
  exact (left8 _ _ _ _ _ _ _ _ a n').trans (point8 m c t a b i hb hi n')

theorem at9 (hw : ∀ d k, IsReal (arg8 m c (ix2 d k)))
    (hh : ∀ b i n, IsReal (joinX (hiddenL (kL m c) (arg7 m c) (arg4 m c)) (hiddenC (kC m c) (arg7 m c) (arg5 m c)) (ix3 b i n)))
    (t : Fin cfg0.N) (a : Fin 256) (b : Fin 8) (i : Fin 8448) (e e' : Fin 16) (hb : b.val = t.val / 33)
    (hi : i.val = t.val % 33 * 256 + a.val) (he : e'.val = e.val) :
    out0_9 (grid0.coords t) (iblk m c 0 t) (iblk m c 1 t) (iblk m c 2 t) (iblk m c 3 t) (iblk m c 4 t) (iblk m c 5 t) (iblk m c 6 t) (ix3 0 e a)
      = joinE (affL (hiddenL (kL m c) (arg7 m c) (arg4 m c)) (arg8 m c)) (affC (hiddenC (kC m c) (arg7 m c) (arg5 m c)) (arg8 m c)) (ix3 b e' i) := by
  obtain rfl : e' = e := Fin.ext he
  refine (left9 _ _ _ _ _ _ _ _ (proj m c t) rfl e' a (fun k d => ?_) fun d => ?_).trans (point9 m c t a b i hb hi e')
  · obtain ⟨r, hr⟩ := hw d k
    exact ⟨r, (router_block m c t k d).trans hr⟩
  · obtain ⟨r, hr⟩ := hh b i d
    exact ⟨r, (point8 m c t a b i hb hi d).trans hr⟩

theorem final7 : (dats m 0 c).arrAt 7 (cfgs 0).N = fun y : S8x8448x1024.Idx => joinX (kL m c) (kC m c) (ix3 (y 0) (y 1) (y 2)) := by
  refine (dats m 0 c).arrAt_eq_of_covers 7 _ (by decide +kernel) fun t hf y => ?_
  blk_simp
  rw [after0_7]
  refine (congrArg _ (index_eq y)).trans (at7 m c t (y 1) _ _ (y 2) _ ?_ ?_ ?_)
  · blk_simp [idx_out t]
  · blk_simp [idx_out t]
  · blk_simp [idx_out t]

theorem final8 : (dats m 0 c).arrAt 8 (cfgs 0).N = fun y : S8x8448x1024.Idx =>
    joinX (hiddenL (kL m c) (arg7 m c) (arg4 m c)) (hiddenC (kC m c) (arg7 m c) (arg5 m c)) (ix3 (y 0) (y 1) (y 2)) := by
  refine (dats m 0 c).arrAt_eq_of_covers 8 _ (by decide +kernel) fun t hf y => ?_
  blk_simp
  rw [after0_8]
  refine (congrArg _ (index_eq y)).trans (at8 m c t (y 1) _ _ (y 2) _ ?_ ?_ ?_)
  · blk_simp [idx_out t]
  · blk_simp [idx_out t]
  · blk_simp [idx_out t]

theorem final9 (hw : ∀ d k, IsReal (arg8 m c (ix2 d k)))
    (hh : ∀ b i n, IsReal (joinX (hiddenL (kL m c) (arg7 m c) (arg4 m c)) (hiddenC (kC m c) (arg7 m c) (arg5 m c)) (ix3 b i n))) :
    (dats m 0 c).arrAt 9 (cfgs 0).N = fun y : S8x16x8448.Idx =>
      joinE (affL (hiddenL (kL m c) (arg7 m c) (arg4 m c)) (arg8 m c)) (affC (hiddenC (kC m c) (arg7 m c) (arg5 m c)) (arg8 m c)) (ix3 (y 0) (y 1) (y 2)) := by
  refine (dats m 0 c).arrAt_eq_of_covers 9 _ (by decide +kernel) fun t hf y => ?_
  blk_simp
  rw [after0_9]
  refine (congrArg _ (index_eq y)).trans (at9 m c hw hh t (y 2) _ _ (y 1) _ ?_ ?_ ?_)
  · blk_simp [idx_out t]
  · blk_simp [idx_out t]
  · blk_simp [idx_out t]

end Left

/-- The rows of the modulations that are read: gate, shift and scale. -/
theorem used_lt (k : Fin 3) : 2 + k.val < 6 := by omega

section Reals

variable (h0 : ∀ y, IsReal (arg0 m c y)) (h1 : ∀ y, IsReal (arg1 m c y)) (h2 : ∀ y, IsReal (arg2 m c y)) (h3 : ∀ y, IsReal (arg3 m c y))
  (h4 : ∀ (b : Fin 8) (k : Fin 3) (n : Fin 1024), IsReal (arg4 m c (ix4 b 0 ⟨2 + k.val, used_lt k⟩ n)))
  (h5 : ∀ (k : Fin 3) (n : Fin 1024), IsReal (arg5 m c (ix2 ⟨2 + k.val, used_lt k⟩ n))) (h6 : ∀ y, IsReal (arg6 m c y)) (h7 : ∀ y, IsReal (arg7 m c y))

include h0 h1 h2 h3 h4 h5 h6 h7

theorem hidden_real (b : Fin 8) (i : Fin 8448) (n : Fin 1024) :
    IsReal (joinX (hiddenL (kL m c) (arg7 m c) (arg4 m c)) (hiddenC (kC m c) (arg7 m c) (arg5 m c)) (ix3 b i n)) := by
  rw [joinX_at]
  split
  case isTrue h =>
    rw [hiddenL_at]
    refine real_normed (fun d => ?_) (fun d => h7 _) (fun d => h4 b 2 d) (fun d => h4 b 1 d) n
    refine (congrArg IsReal (streamL_at _ _ _ _ b _ d)).mpr ?_
    exact (h2 _).add ((h4 b 0 d).mul (IsReal.sum fun j => (h0 _).mul (h6 _)))
  case isFalse h =>
    rw [hiddenC_at]
    refine real_normed (fun d => ?_) (fun d => h7 _) (fun d => h5 2 d) (fun d => h5 1 d) n
    refine (congrArg IsReal (streamC_at _ _ _ _ b _ d)).mpr ?_
    exact (h3 _).add ((h5 0 d).mul (IsReal.sum fun j => (h1 _).mul (h6 _)))

end Reals

theorem whole {p q r : ℕ} {α : Type} (f : (⟨3, ![p, q, r]⟩ : Shape).Idx → α) :
    (fun y : (⟨3, ![p, q, r]⟩ : Shape).Idx => f (ix3 (y 0) (y 1) (y 2))) = f := by
  funext y
  refine congrArg f (funext fun a => ?_)
  match a with
  | 0 => rfl
  | 1 => rfl
  | 2 => rfl

end Cert.Proof.Outproj

end
-- ==== Proof.Finite3.lean ====
/-
  What the third precondition says: the arrays the output projection takes hold real numbers, of the modulations the
  three rows it reads.
-/
module

public import proofs.«01_k».proof.Pre_finite3
public import proofs.«01_k».proof.Proof.Gen.Pre_finite3
public import proofs.«01_k».proof.Proof.Finite
public import Idealize.ShloMosaic.Lib.Pointwise

@[expose] public section

set_option maxRecDepth 16384

noncomputable section

namespace Cert.Proof.Finite

open Idealize.ShloMosaic

open Cert.Pre_finite3 in
theorem rows_at (hs : S8x1x6x1024.Slices ![0, 0, 2, 0] S8x1x3x1024) (a : FVec Ideal S8x1x6x1024 .f32) (b : Fin 8) (k : Fin 3) (n : Fin 1024) :
    extractStridedSlice S8x1x3x1024 ![0, 0, 2, 0] a hs (ix4 b 0 k n)
      = a (ix4 b 0 ⟨2 + k.val, by omega⟩ n) := by
  pointwise

open Cert.Pre_finite3 in
theorem rows_ctx_at (hs : S6x1024.Slices ![2, 0] S3x1024) (a : FVec Ideal S6x1024 .f32) (k : Fin 3) (n : Fin 1024) :
    extractStridedSlice S3x1024 ![2, 0] a hs (ix2 k n) = a (ix2 ⟨2 + k.val, by omega⟩ n) := by
  pointwise

open Cert.Pre_finite3 in
theorem reals3 (a0 : FVec Ideal S8x8192x16x64 .f32) (a1 : FVec Ideal S8x256x16x64 .f32) (a2 : FVec Ideal S8x8192x1024 .f32)
    (a3 : FVec Ideal S8x256x1024 .f32) (a4 : FVec Ideal S8x1x6x1024 .f32) (a5 : FVec Ideal S6x1024 .f32) (a6 : FVec Ideal S1024x1024 .f32)
    (a7 : FVec Ideal S1024 .f32) (a8 : FVec Ideal S1024x16 .f32)
    (h : fn (F := Ideal) a0 a1 a2 a3 a4 a5 a6 a7 a8 = fun _ => 1#1) :
    (Reals a0 ∧ Reals a1 ∧ Reals a2 ∧ Reals a3) ∧ (∀ (b : Fin 8) (k : Fin 3) (n : Fin 1024), ∃ r : ℝ, a4 (ix4 b 0 ⟨2 + k.val, by omega⟩ n) = (r : EReal))
      ∧ (∀ (k : Fin 3) (n : Fin 1024), ∃ r : ℝ, a5 (ix2 ⟨2 + k.val, by omega⟩ n) = (r : EReal)) ∧ Reals a6 ∧ Reals a7 ∧ Reals a8 := by
  dsimp only [fn, fn_part1, fn_part2, fn_part3] at h
  obtain ⟨h, h8⟩ := one_at h
  obtain ⟨h, h7⟩ := one_at h
  obtain ⟨h, h6⟩ := one_at h
  obtain ⟨h, h5⟩ := one_at h
  obtain ⟨h, h4⟩ := one_at h
  obtain ⟨h, h3⟩ := one_at h
  obtain ⟨h, h2⟩ := one_at h
  obtain ⟨h0, h1⟩ := one_at h
  exact ⟨⟨real_of _ _ _ _ h0, real_of _ _ _ _ h1, real_of _ _ _ _ h2, real_of _ _ _ _ h3⟩, fun b k n => ⟨_, (rows_at _ a4 b k n).symm.trans (real_of _ _ _ _ h4 _)⟩,
    fun k n => ⟨_, (rows_ctx_at _ a5 k n).symm.trans (real_of _ _ _ _ h5 _)⟩,
    real_of _ _ _ _ h6, real_of _ _ _ _ h7, real_of _ _ _ _ h8⟩

end Cert.Proof.Finite

end
-- ==== Proof.Claims3.lean ====
/-
  The claims of the output projection's programs.
-/
module

public import proofs.«01_k».proof.Defs
public import proofs.«01_k».proof.Proof.Final3
public import proofs.«01_k».proof.Proof.Finite3
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import Idealize.ShloMosaic.Adequacy
public import Idealize.ShloMosaic.Init

@[expose] public section

noncomputable section

namespace Cert.Proof

open Idealize.ShloMosaic Idealize.ShloMosaic.TcCoe Idealize.SL.Sem

theorem frame_ideal3 : Cert.quiescent_Kernel3Ideal := fun m ρ _ => Cert.Kernel3Ideal.Gen.frame m ρ

set_option maxHeartbeats 4000000 in
theorem bodies_eq3 : (Cert.Kernel3.defs₀ (F := Bits)) = Cert.Kernel3Ideal.defs₀ (F := Bits) := by
  unfold Cert.Kernel3.defs₀ Cert.Kernel3Ideal.defs₀
  refine congrArg Defs.onTc (funext fun l => funext fun x => ?_)
  match l, x with
  | 0, (t, s) => rfl

theorem defs_eq3 : (Cert.Kernel3.defs (F := Bits)) = Cert.Kernel3Ideal.defs (F := Bits) :=
  congrArg (Pipeline.defs (Cert.Kernel3Ideal.pcfgs (F := Bits))) bodies_eq3

set_option maxHeartbeats 1000000 in
theorem frame_kernel3 : Cert.quiescent_Kernel3 := fun m ρ _ => by
  rw [defs_eq3]
  have h := Cert.Kernel3Ideal.Gen.frame (F := Bits) m ρ
  rw [show (Cert.Kernel3.main (F := Bits)) = Cert.Kernel3Ideal.main (F := Bits) from rfl]
  exact h

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

section Outproj

open Outproj

variable (m : (ℓ : Loc Cert.Kernel3Ideal.nD Cert.Kernel3Ideal.τ Cert.Kernel3Ideal.sig) → Buf (Elt Ideal) ℓ) (c : Dev Cert.Kernel3Ideal.nD)

theorem rows3 : (Cert.Kernel3Ideal.Gen.dats m 0 c).arrAt 7 Cert.Kernel3Ideal.cfg0.N = joinX (kL m c) (kC m c) :=
  (final7 m c).trans (whole _)

theorem norms3 : (Cert.Kernel3Ideal.Gen.dats m 0 c).arrAt 8 Cert.Kernel3Ideal.cfg0.N
    = joinX (hiddenL (kL m c) (arg7 m c) (arg4 m c)) (hiddenC (kC m c) (arg7 m c) (arg5 m c)) :=
  (final8 m c).trans (whole _)

theorem affinities3 (hm : Cert.Pre_Kernel3Ideal_finite3 m) : (Cert.Kernel3Ideal.Gen.dats m 0 c).arrAt 9 Cert.Kernel3Ideal.cfg0.N
    = joinE (affL (hiddenL (kL m c) (arg7 m c) (arg4 m c)) (arg8 m c)) (affC (hiddenC (kC m c) (arg7 m c) (arg5 m c)) (arg8 m c)) := by
  obtain ⟨⟨h0, h1, h2, h3⟩, h4, h5, h6, h7, h8⟩ := Finite.reals3 _ _ _ _ _ _ _ _ _ (hm c)
  exact (final9 m c (fun d k => ⟨_, h8 _⟩) (hidden_real m c (fun y => ⟨_, h0 y⟩) (fun y => ⟨_, h1 y⟩) (fun y => ⟨_, h2 y⟩)
    (fun y => ⟨_, h3 y⟩) h4 h5 (fun y => ⟨_, h6 y⟩) fun y => ⟨_, h7 y⟩)).trans (whole _)

end Outproj

/-- The affinities of both streams, of the arguments. -/
def bothAff (a0 : FVec Ideal Cert.Kernel3Ideal.S8x8192x16x64 .f32) (a1 : FVec Ideal Cert.Kernel3Ideal.S8x256x16x64 .f32)
    (a2 : FVec Ideal Cert.Kernel3Ideal.S8x8192x1024 .f32) (a3 : FVec Ideal Cert.Kernel3Ideal.S8x256x1024 .f32)
    (a4 : FVec Ideal Cert.Kernel3Ideal.S8x1x6x1024 .f32) (a5 : FVec Ideal Cert.Kernel3Ideal.S6x1024 .f32)
    (a6 : FVec Ideal Cert.Kernel3Ideal.S1024x1024 .f32) (a7 : FVec Ideal Cert.Kernel3Ideal.S1024 .f32)
    (a8 : FVec Ideal Cert.Kernel3Ideal.S1024x16 .f32) : FVec Ideal Cert.Kernel3Ideal.S8x16x8448 .f32 :=
  Outproj.joinE (Outproj.affL (Outproj.hiddenL (Outproj.streamL a0 a2 a4 a6) a7 a4) a8)
    (Outproj.affC (Outproj.hiddenC (Outproj.streamC a1 a3 a5 a6) a7 a5) a8)

theorem bothAff_congr {a0 b0 a1 b1 a2 b2 a3 b3 a4 b4 a5 b5 a6 b6 a7 b7 a8 b8} (e0 : a0 = b0) (e1 : a1 = b1) (e2 : a2 = b2) (e3 : a3 = b3)
    (e4 : a4 = b4) (e5 : a5 = b5) (e6 : a6 = b6) (e7 : a7 = b7) (e8 : a8 = b8) :
    bothAff a0 a1 a2 a3 a4 a5 a6 a7 a8 = bothAff b0 b1 b2 b3 b4 b5 b6 b7 b8 := by
  rw [e0, e1, e2, e3, e4, e5, e6, e7, e8]

theorem algebraic3 : Cert.algebraic_Kernel3Ideal_Reference3Ideal_pre_finite3 := fun m g m' g' hm hargs => by
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N, Cert.Kernel3Ideal.Value.run_blocks m g, ?_⟩
  refine (θ_run Cert.Reference3Ideal.defs _ _).mono (fun r h c => ⟨((h c).1).trans ?_, ((h c).2.1).trans ?_, ((h c).2.2.1).trans ?_, (h c).2.2.2⟩)
    (Cert.Reference3Ideal.Value.run (F := Ideal) m' g')
  · obtain ⟨e0, e1, e2, e3, e4, e5, e6, e7, e8⟩ := hargs c
    refine Eq.trans ?_ (rows3 m c).symm
    refine Eq.trans (b := Outproj.joinX (Outproj.xL m' c) (Outproj.xC m' c)) rfl ?_
    rw [Outproj.xL, Outproj.xC, e0, e1, e2, e3, e4, e5, e6]
  · obtain ⟨e0, e1, e2, e3, e4, e5, e6, e7, e8⟩ := hargs c
    refine Eq.trans ?_ (norms3 m c).symm
    rw [Outproj.res_h, Outproj.xL, Outproj.xC, e0, e1, e2, e3, e4, e5, e6, e7]
  · obtain ⟨e0, e1, e2, e3, e4, e5, e6, e7, e8⟩ := hargs c
    exact (Outproj.res_a m' c).trans ((bothAff_congr e0 e1 e2 e3 e4 e5 e6 e7 e8).trans (affinities3 m c hm).symm)

end Cert.Proof

end
-- ==== Proof.lean ====
module

public import proofs.«01_k».proof.Defs
public import proofs.«01_k».proof.Proof.Run
public import proofs.«01_k».proof.Proof.Value
public import proofs.«01_k».proof.Proof.Run2
public import proofs.«01_k».proof.Proof.Value2
public import proofs.«01_k».proof.Proof.Claims3
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_qk
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import Idealize.ShloMosaic.Adequacy
public import Idealize.ShloMosaic.Init

@[expose] public section

noncomputable section

namespace Cert.Proof

open Idealize.ShloMosaic Idealize.ShloMosaic.TcCoe Idealize.SL.Sem

theorem frame_ideal : Cert.quiescent_KernelIdeal := fun m ρ _ =>
  θ_run_with_sems (Cert.KernelIdeal.Gen.frame_of m ρ (Mla.dats m) (Mla.A_eq m)) (Mla.run_main (F := Ideal) m ρ)

/-- The program as compiled and its ideal reading run the same body at each label. -/
theorem bodies_eq : (Cert.Kernel.defs₀ (F := Bits)) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : (Cert.Kernel.defs (F := Bits)) = Cert.KernelIdeal.defs (F := Bits) :=
  congrArg (Pipeline.defs (Cert.KernelIdeal.pcfgs (F := Bits))) bodies_eq

set_option maxHeartbeats 1000000 in
theorem frame_kernel : Cert.quiescent_Kernel := fun m ρ _ => by
  rw [defs_eq]
  have h := (θ_run_with_sems (Cert.KernelIdeal.Gen.frame_of (F := Bits) m ρ (Mla.dats m) (Mla.A_eq m)) (Mla.run_main (F := Bits) m ρ))
  rw [show (Cert.Kernel.main (F := Bits)) = Cert.KernelIdeal.main (F := Bits) from rfl]
  exact h

/-- The reference's run leaves its arguments unchanged and no semaphore raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result, of a memory whose queries and keys are real numbers. -/
theorem result (m : (ℓ : Loc Cert.KernelIdeal.nD Cert.KernelIdeal.τ Cert.KernelIdeal.sig) → Buf (Elt Ideal) ℓ)
    (c : Dev Cert.KernelIdeal.nD) (hm : Cert.Pre_KernelIdeal_finite_qk m) :
    Pipeline.afterTail₀ Cert.KernelIdeal.cfgs (Mla.dats m) 0 (Cert.KernelIdeal.Gen.V0 m) [Cert.KernelIdeal.Gen.hostOps1] c Cert.KernelIdeal.main_v33
      = Ref.mix (Mla.join64 (m ((c.tc : Thread Cert.KernelIdeal.nD Cert.KernelIdeal.τ).loc Cert.KernelIdeal.main_arg4))
          (m ((c.tc : Thread Cert.KernelIdeal.nD Cert.KernelIdeal.τ).loc Cert.KernelIdeal.main_arg9)))
        (Ref.weights (Ref.powers (Ref.scores (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (Mla.join64 (m ((c.tc : Thread Cert.KernelIdeal.nD Cert.KernelIdeal.τ).loc Cert.KernelIdeal.main_arg2))
            (m ((c.tc : Thread Cert.KernelIdeal.nD Cert.KernelIdeal.τ).loc Cert.KernelIdeal.main_arg7)))
          (Mla.joinR (m ((c.tc : Thread Cert.KernelIdeal.nD Cert.KernelIdeal.τ).loc Cert.KernelIdeal.main_arg3))
            (m ((c.tc : Thread Cert.KernelIdeal.nD Cert.KernelIdeal.τ).loc Cert.KernelIdeal.main_arg8)))))) := by
  obtain ⟨h0, h1, h2, h3, h7, h8⟩ := Finite.reals _ _ _ _ _ _ _ _ _ _ (hm c)
  rw [Mla.tail_eq, Mla.final m c _ _
    (fun b h i e => (congrFun (Mla.V_q m c) _).trans (Mla.query_real _ _ _ _ h0 h1 b h i e))
    (fun b h j e => (congrFun (Mla.V_k m c) _).trans (Mla.key_real _ _ (Mla.real_join64 h2 h7) (Mla.real_joinR h3 h8) b h j e)), Mla.V_v]
  exact Mla.result_eq _ _ _ _ _ h0 h1 (Mla.real_join64 h2 h7) (Mla.real_joinR h3 h8)

theorem algebraic : Cert.algebraic_KernelIdeal_ReferenceIdeal_pre_finite_qk := fun m g m' g' hm hargs => by
  refine ⟨fun c => Pipeline.afterTail₀ Cert.KernelIdeal.cfgs (Mla.dats m) 0 (Cert.KernelIdeal.Gen.V0 m) [Cert.KernelIdeal.Gen.hostOps1] c Cert.KernelIdeal.main_v33, ?_, ?_⟩
  · have hrun := (θ_run _ _ _).mono (fun _ h => h.1) (Mla.run_main (F := Ideal) m g)
    have hargs := Cert.KernelIdeal.Gen.frame_of m g (Mla.dats m) (Mla.A_eq m) hrun
    exact ⟨fun t ht hf c => ⟨(hrun.post t ht hf c).2 Cert.KernelIdeal.main_v33
      (Pipeline.mem_restRefs_of Cert.KernelIdeal.main_v33 (by decide) (by decide)), hargs.post t ht hf c⟩, hrun.progress, hrun.fair⟩
  · refine (θ_run Cert.ReferenceIdeal.defs _ _).mono (fun r h c => ⟨((h c).1).trans ?_, (h c).2⟩) (Cert.ReferenceIdeal.Value.run (F := Ideal) m' g')
    obtain ⟨e0, e1, e2, e3, e4, e5, e6, e7, e8, e9⟩ := hargs c
    refine Eq.trans ?_ (result m c hm).symm
    rw [Ref.res_eq, e0, e1, e2, e3, e4, e7, e8, e9]
    rfl

/-! ## The even layers' call -/

theorem frame_ideal2 : Cert.quiescent_Kernel2Ideal := fun m ρ _ =>
  θ_run_with_sems (Cert.Kernel2Ideal.Gen.frame_of m ρ (Even.dats m) (Even.A_eq m)) (Even.run_main (F := Ideal) m ρ)

theorem bodies_eq2 : (Cert.Kernel2.defs₀ (F := Bits)) = Cert.Kernel2Ideal.defs₀ (F := Bits) := by
  unfold Cert.Kernel2.defs₀ Cert.Kernel2Ideal.defs₀
  refine congrArg Defs.onTc (funext fun l => funext fun x => ?_)
  match l, x with
  | 0, (t, s) => rfl

theorem defs_eq2 : (Cert.Kernel2.defs (F := Bits)) = Cert.Kernel2Ideal.defs (F := Bits) :=
  congrArg (Pipeline.defs (Cert.Kernel2Ideal.pcfgs (F := Bits))) bodies_eq2

set_option maxHeartbeats 1000000 in
theorem frame_kernel2 : Cert.quiescent_Kernel2 := fun m ρ _ => by
  rw [defs_eq2]
  have h := (θ_run_with_sems (Cert.Kernel2Ideal.Gen.frame_of (F := Bits) m ρ (Even.dats m) (Even.A_eq m)) (Even.run_main (F := Bits) m ρ))
  rw [show (Cert.Kernel2.main (F := Bits)) = Cert.Kernel2Ideal.main (F := Bits) from rfl]
  exact h

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

section Even

variable (m : (ℓ : Loc Cert.Kernel2Ideal.nD Cert.Kernel2Ideal.τ Cert.Kernel2Ideal.sig) → Buf (Elt Ideal) ℓ)
  (c : Dev Cert.Kernel2Ideal.nD) (hm : Cert.Pre_Kernel2Ideal_finite2 m)

include hm

/-- The array the even layers' call leaves. -/
theorem left2 : (Even.dats m 0 c).arrAt 3 (Cert.Kernel2Ideal.cfgs 0).N
    = Even.calls (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg3))
      (Even.joinA (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg7)))
      (Even.joinB (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg10)))
      (Even.joinB (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg11)))
      (Even.joinV (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg8))) := by
  obtain ⟨⟨h0, h3, h1, h4, h7, h10⟩, -⟩ := Finite.reals2 _ _ _ _ _ _ _ _ _ _ _ _ _ (hm c)
  rw [Even.final m c _ _
    (fun b h i e => (congrFun (Even.V_q m c) _).trans (Even.query_real _ _ _ _ h0 h3 b h i e))
    (fun b p j e => (congrFun (Even.V_k m c) _).trans (Even.key_real _ _ (Even.real_joinA h1 h7) (Even.real_joinB h4 h10) b p j e)), Even.V_v]
  rfl

theorem result_diff :
    Pipeline.afterTail₀ Cert.Kernel2Ideal.cfgs (Even.dats m) 0 (Cert.Kernel2Ideal.Gen.V0 m) [Cert.Kernel2Ideal.Gen.hostOps1] c Cert.Kernel2Ideal.main_v74
      = Diff.result (m ((c.tc : Thread Cert.Kernel2Ideal.nD Cert.Kernel2Ideal.τ).loc Cert.Kernel2Ideal.main_arg12))
        (Diff.weights (Diff.powers (Diff.scores (m ((c.tc : Thread Cert.Kernel2Ideal.nD Cert.Kernel2Ideal.τ).loc Cert.Kernel2Ideal.main_arg0))
          (Even.joinA (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg7))))))
        (Even.joinV (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg8))) := by
  obtain ⟨⟨h0, h3, h1, h4, h7, h10⟩, h2, h8, h12⟩ := Finite.reals2 _ _ _ _ _ _ _ _ _ _ _ _ _ (hm c)
  rw [Even.tail_diff, left2 m c hm]
  exact Even.diff_eq _ _ _ _ _ _ _ h0 (Even.real_joinA h1 h7) (Even.real_joinV h2 h8) h12

theorem result_grouped :
    Pipeline.afterTail₀ Cert.Kernel2Ideal.cfgs (Even.dats m) 0 (Cert.Kernel2Ideal.Gen.V0 m) [Cert.Kernel2Ideal.Gen.hostOps1] c Cert.Kernel2Ideal.main_v80
      = Grouped.mix (Even.joinB (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg11)))
        (Grouped.weights (Grouped.powers (Grouped.scores (m ((c.tc : Thread Cert.Kernel2Ideal.nD Cert.Kernel2Ideal.τ).loc Cert.Kernel2Ideal.main_arg3))
          (Even.joinB (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg10)))))) := by
  obtain ⟨⟨h0, h3, h1, h4, h7, h10⟩, -⟩ := Finite.reals2 _ _ _ _ _ _ _ _ _ _ _ _ _ (hm c)
  rw [Even.tail_grouped, left2 m c hm]
  exact Even.grouped_eq _ _ _ _ _ _ h3 (Even.real_joinB h4 h10)

end Even

theorem algebraic2 : Cert.algebraic_Kernel2Ideal_Reference2Ideal_pre_finite2 := fun m g m' g' hm hargs => by
  refine ⟨fun c => Pipeline.afterTail₀ Cert.Kernel2Ideal.cfgs (Even.dats m) 0 (Cert.Kernel2Ideal.Gen.V0 m) [Cert.Kernel2Ideal.Gen.hostOps1] c Cert.Kernel2Ideal.main_v74,
    fun c => Pipeline.afterTail₀ Cert.Kernel2Ideal.cfgs (Even.dats m) 0 (Cert.Kernel2Ideal.Gen.V0 m) [Cert.Kernel2Ideal.Gen.hostOps1] c Cert.Kernel2Ideal.main_v80, ?_, ?_⟩
  · have hrun := (θ_run _ _ _).mono (fun _ h => h.1) (Even.run_main (F := Ideal) m g)
    have hargs := Cert.Kernel2Ideal.Gen.frame_of m g (Even.dats m) (Even.A_eq m) hrun
    exact ⟨fun t ht hf c => ⟨(hrun.post t ht hf c).2 Cert.Kernel2Ideal.main_v74
      (Pipeline.mem_restRefs_of Cert.Kernel2Ideal.main_v74 (by decide) (by decide)), (hrun.post t ht hf c).2 Cert.Kernel2Ideal.main_v80
      (Pipeline.mem_restRefs_of Cert.Kernel2Ideal.main_v80 (by decide) (by decide)), hargs.post t ht hf c⟩, hrun.progress, hrun.fair⟩
  · refine (θ_run Cert.Reference2Ideal.defs _ _).mono (fun r h c => ⟨((h c).1).trans ?_, ?_, (h c).2.2⟩)
      (Cert.Reference2Ideal.Value.run (F := Ideal) m' g')
    · obtain ⟨e0, e1, e2, e3, e4, e5, e6, e7, e8, e9, e10, e11, e12⟩ := hargs c
      refine Eq.trans ?_ (result_grouped m c hm).symm
      have hb : r.2.mem ((c.tc : Thread Cert.Reference2Ideal.nD Cert.Reference2Ideal.τ).loc Cert.Reference2Ideal.main_v43)
          = Grouped.mix (Grouped.joinB (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg11)))
            (Grouped.weights (Grouped.powers (Grouped.scores (m' ((c.tc : Thread Cert.Reference2Ideal.nD Cert.Reference2Ideal.τ).loc Cert.Reference2Ideal.main_arg3))
              (Grouped.joinB (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg10)))))) := (h c).2.1
      rw [hb, e3, e4, e5, e10, e11]
      rfl
    · obtain ⟨e0, e1, e2, e3, e4, e5, e6, e7, e8, e9, e10, e11, e12⟩ := hargs c
      refine Eq.trans ?_ (result_diff m c hm).symm
      rw [Diff.res_eq, e0, e1, e2, e7, e8, e12]
      rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite_qk.Gen.facts, Cert.Pre_finite2.Gen.facts, Cert.Pre_finite3.Gen.facts,
    frame_kernel, frame_ideal, fun m ρ _ => frame_ideal m ρ trivial, frame_reference, fun m ρ _ => frame_reference m ρ trivial,
    frame_kernel2, frame_ideal2, fun m ρ _ => frame_ideal2 m ρ trivial, frame_reference2, fun m ρ _ => frame_reference2 m ρ trivial,
    frame_kernel3, frame_ideal3, fun m ρ _ => frame_ideal3 m ρ trivial, frame_reference3, fun m ρ _ => frame_reference3 m ρ trivial,
    trivial, algebraic, trivial, algebraic2, trivial, algebraic3⟩

end Cert.Proof

end
